-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S1 : Shape := ⟨1, ![1]⟩
abbrev S16 : Shape := ⟨1, ![16]⟩
abbrev S9x4x64x4096 : Shape := ⟨4, ![9, 4, 64, 4096]⟩
abbrev S8x4 : Shape := ⟨2, ![8, 4]⟩
abbrev S_ : Shape := ⟨0, ![]⟩
abbrev S64x4096 : Shape := ⟨2, ![64, 4096]⟩
abbrev S1x1x64x4096 : Shape := ⟨4, ![1, 1, 64, 4096]⟩
abbrev S1x1 : Shape := ⟨2, ![1, 1]⟩
abbrev S64x512 : Shape := ⟨2, ![64, 512]⟩

abbrev nBuf : Space → Nat
  | .hbm => 7
  | .vmem => 6
  | .smem => 4
  | _ => 0

abbrev bufTy : (tb : Table) → Fin (tcTables nBuf tb) → BufTy
  | .hbm, ⟨0, _⟩ => ⟨S256x4096, .fp8e5m2⟩
  | .hbm, ⟨1, _⟩ => ⟨S4096x512, .fp8e5m2⟩
  | .hbm, ⟨2, _⟩ => ⟨S1, .f32⟩
  | .hbm, ⟨3, _⟩ => ⟨S1, .f32⟩
  | .hbm, ⟨4, _⟩ => ⟨S16, .i32⟩
  | .hbm, ⟨5, _⟩ => ⟨S16, .i32⟩
  | .hbm, ⟨6, _⟩ => ⟨S4096x512, .f32⟩
  | .local _ .vmem, ⟨0, _⟩ => ⟨S256x4096, .fp8e5m2⟩
  | .local _ .vmem, ⟨1, _⟩ => ⟨S4096x512, .fp8e5m2⟩
  | .local _ .vmem, ⟨2, _⟩ => ⟨S4096x512, .f32⟩
  | .local _ .vmem, ⟨3, _⟩ => ⟨S9x4x64x4096, .fp8e5m2⟩
  | .local _ .vmem, ⟨4, _⟩ => ⟨S9x4x64x4096, .fp8e5m2⟩
  | .local _ .vmem, ⟨5, _⟩ => ⟨S4096x512, .fp8e5m2⟩
  | .local _ .smem, ⟨0, _⟩ => ⟨S1, .f32⟩
  | .local _ .smem, ⟨1, _⟩ => ⟨S1, .f32⟩
  | .local _ .smem, ⟨2, _⟩ => ⟨S16, .i32⟩
  | .local _ .smem, ⟨3, _⟩ => ⟨S16, .i32⟩
  | _, _ => ⟨S256x4096, .fp8e5m2⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  ![v3.toNat]
def k0_off2 (v4 : BitVec 32) : Fin 1 → Nat :=
  let c1_i32_0 : BitVec 32 := 1#32
  let v5 : BitVec 32 := Scalar.subi v4 c1_i32_0
  let c16_i32_1 : BitVec 32 := 16#32
  let v6 : BitVec 32 := Scalar.addi v5 c16_i32_1
  let c16_i32_2 : BitVec 32 := 16#32
  let v7 : BitVec 32 := Scalar.remsi v6 c16_i32_2
  let v8 : Index := Scalar.indexCast v7
  ![v8.toNat]

def k0_off3 (v4 : BitVec 32) : Fin 1 → Nat :=
  let c1_i32_3 : BitVec 32 := 1#32
  let v10 : BitVec 32 := Scalar.addi v4 c1_i32_3
  let c16_i32_4 : BitVec 32 := 16#32
  let v11 : BitVec 32 := Scalar.remsi v10 c16_i32_4
  let v12 : Index := Scalar.indexCast v11
  ![v12.toNat]
def k0_dev1 (v9 : BitVec 32) : Nat :=
  let c0_i32 : BitVec 32 := 0#32
  let c1_i32_6 : BitVec 32 := 1#32
  let v15 : BitVec 32 := Scalar.muli v9 c1_i32_6
  let v16 : BitVec 32 := Scalar.addi c0_i32 v15
  v16.toNat

def k0_dev2 (v13 : BitVec 32) : Nat :=
  let c0_i32_9 : BitVec 32 := 0#32
  let c1_i32_8 : BitVec 32 := 1#32
  let v17 : BitVec 32 := Scalar.muli v13 c1_i32_8
  let v18 : BitVec 32 := Scalar.addi c0_i32_9 v17
  v18.toNat

def k0_dev3 (v13 : BitVec 32) : Nat :=
  let c0_i32_28 : BitVec 32 := 0#32
  let c1_i32_27 : BitVec 32 := 1#32
  let v27 : BitVec 32 := Scalar.muli v13 c1_i32_27
  let v28 : BitVec 32 := Scalar.addi c0_i32_28 v27
  v28.toNat
def k0_dev4 (v9 : BitVec 32) : Nat :=
  let c0_i32_42 : BitVec 32 := 0#32
  let c1_i32_41 : BitVec 32 := 1#32
  let v37 : BitVec 32 := Scalar.muli v9 c1_i32_41
  let v38 : BitVec 32 := Scalar.addi c0_i32_42 v37
  v38.toNat
def k0_dev5 (v13 : BitVec 32) : Nat :=
  let c0_i32_64 : BitVec 32 := 0#32
  let c1_i32_63 : BitVec 32 := 1#32
  let v55 : BitVec 32 := Scalar.muli v13 c1_i32_63
  let v56 : BitVec 32 := Scalar.addi c0_i32_64 v55
  v56.toNat
def k0_dev6 (v9 : BitVec 32) : Nat :=
  let c0_i32_78 : BitVec 32 := 0#32
  let c1_i32_77 : BitVec 32 := 1#32
  let v65 : BitVec 32 := Scalar.muli v9 c1_i32_77
  let v66 : BitVec 32 := Scalar.addi c0_i32_78 v65
  v66.toNat
def k0_dev7 (v13 : BitVec 32) : Nat :=
  let c0_i32_100 : BitVec 32 := 0#32
  let c1_i32_99 : BitVec 32 := 1#32
  let v83 : BitVec 32 := Scalar.muli v13 c1_i32_99
  let v84 : BitVec 32 := Scalar.addi c0_i32_100 v83
  v84.toNat
def k0_dev8 (v9 : BitVec 32) : Nat :=
  let c0_i32_114 : BitVec 32 := 0#32
  let c1_i32_113 : BitVec 32 := 1#32
  let v93 : BitVec 32 := Scalar.muli v9 c1_i32_113
  let v94 : BitVec 32 := Scalar.addi c0_i32_114 v93
  v94.toNat
def k0_dev9 (v13 : BitVec 32) : Nat :=
  let c0_i32_135 : BitVec 32 := 0#32
  let c1_i32_134 : BitVec 32 := 1#32
  let v111 : BitVec 32 := Scalar.muli v13 c1_i32_134
  let v112 : BitVec 32 := Scalar.addi c0_i32_135 v111
  v112.toNat
def k0_dev10 (v9 : BitVec 32) : Nat :=
  let c0_i32_149 : BitVec 32 := 0#32
  let c1_i32_148 : BitVec 32 := 1#32
  let v121 : BitVec 32 := Scalar.muli v9 c1_i32_148
  let v122 : BitVec 32 := Scalar.addi c0_i32_149 v121
  v122.toNat
def k0_off4 (d0 : Dev nD) (c0_i32_166 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v145 : BitVec 32 := Scalar.muli v2 c256_i32
  let v146 : BitVec 32 := Scalar.addi v145 c0_i32_166
  let v147 : Index := Scalar.indexCast v146
  let c0_167 : Index := 0#32
  ![v147.toNat, 0]
def k0_dev11 (v13 : BitVec 32) : Nat :=
  let c0_i32_218 : BitVec 32 := 0#32
  let c1_i32_217 : BitVec 32 := 1#32
  let v187 : BitVec 32 := Scalar.muli v13 c1_i32_217
  let v188 : BitVec 32 := Scalar.addi c0_i32_218 v187
  v188.toNat
def k0_dev12 (v9 : BitVec 32) : Nat :=
  let c0_i32_246 : BitVec 32 := 0#32
  let c1_i32_245 : BitVec 32 := 1#32
  let v205 : BitVec 32 := Scalar.muli v9 c1_i32_245
  let v206 : BitVec 32 := Scalar.addi c0_i32_246 v205
  v206.toNat
def k0_dev13 (v13 : BitVec 32) : Nat :=
  let c0_i32_274 : BitVec 32 := 0#32
  let c1_i32_273 : BitVec 32 := 1#32
  let v223 : BitVec 32 := Scalar.muli v13 c1_i32_273
  let v224 : BitVec 32 := Scalar.addi c0_i32_274 v223
  v224.toNat
def k0_dev14 (v9 : BitVec 32) : Nat :=
  let c0_i32_302 : BitVec 32 := 0#32
  let c1_i32_301 : BitVec 32 := 1#32
  let v241 : BitVec 32 := Scalar.muli v9 c1_i32_301
  let v242 : BitVec 32 := Scalar.addi c0_i32_302 v241
  v242.toNat
def k0_dev15 (v13 : BitVec 32) : Nat :=
  let c0_i32_330 : BitVec 32 := 0#32
  let c1_i32_329 : BitVec 32 := 1#32
  let v259 : BitVec 32 := Scalar.muli v13 c1_i32_329
  let v260 : BitVec 32 := Scalar.addi c0_i32_330 v259
  v260.toNat
def k0_dev16 (v9 : BitVec 32) : Nat :=
  let c0_i32_358 : BitVec 32 := 0#32
  let c1_i32_357 : BitVec 32 := 1#32
  let v277 : BitVec 32 := Scalar.muli v9 c1_i32_357
  let v278 : BitVec 32 := Scalar.addi c0_i32_358 v277
  v278.toNat
def k0_dev17 (v13 : BitVec 32) : Nat :=
  let c0_i32_386 : BitVec 32 := 0#32
  let c1_i32_385 : BitVec 32 := 1#32
  let v295 : BitVec 32 := Scalar.muli v13 c1_i32_385
  let v296 : BitVec 32 := Scalar.addi c0_i32_386 v295
  v296.toNat
def k0_dev18 (v9 : BitVec 32) : Nat :=
  let c0_i32_414 : BitVec 32 := 0#32
  let c1_i32_413 : BitVec 32 := 1#32
  let v313 : BitVec 32 := Scalar.muli v9 c1_i32_413
  let v314 : BitVec 32 := Scalar.addi c0_i32_414 v313
  v314.toNat
def k0_off5 (v4 : BitVec 32) : Fin 1 → Nat :=
  let c1_i32_419 : BitVec 32 := 1#32
  let v323 : BitVec 32 := Scalar.subi v4 c1_i32_419
  let c16_i32_420 : BitVec 32 := 16#32
  let v324 : BitVec 32 := Scalar.addi v323 c16_i32_420
  let c16_i32_421 : BitVec 32 := 16#32
  let v325 : BitVec 32 := Scalar.remsi v324 c16_i32_421
  let v326 : Index := Scalar.indexCast v325
  ![v326.toNat]
def k0_off6 (v4 : BitVec 32) : Fin 1 → Nat :=
  let c1_i32_422 : BitVec 32 := 1#32
  let v328 : BitVec 32 := Scalar.addi v4 c1_i32_422
  let c16_i32_423 : BitVec 32 := 16#32
  let v329 : BitVec 32 := Scalar.remsi v328 c16_i32_423
  let v330 : Index := Scalar.indexCast v329
  ![v330.toNat]
def k0_off7 (v327 : BitVec 32) : Fin 2 → Nat :=
  let c256_i32_431 : BitVec 32 := 256#32
  let v338 : BitVec 32 := Scalar.muli v327 c256_i32_431
  let c0_i32_432 : BitVec 32 := 0#32
  let v339 : BitVec 32 := Scalar.addi v338 c0_i32_432
  let v340 : Index := Scalar.indexCast v339
  let c0_433 : Index := 0#32
  ![v340.toNat, 0]

def k0_off8 (v331 : BitVec 32) (c0_i32_442 : BitVec 32) : Fin 2 → Nat :=
  let c256_i32_441 : BitVec 32 := 256#32
  let v348 : BitVec 32 := Scalar.muli v331 c256_i32_441
  let v349 : BitVec 32 := Scalar.addi v348 c0_i32_442
  let v350 : Index := Scalar.indexCast v349
  let c0_443 : Index := 0#32
  ![v350.toNat, 0]

def k0_chk5 (v331 : BitVec 32) : Prop :=
  (∀ (r : Fin 4), ∀ a, (k0_off8 v331 (BitVec.ofNat 32 (64 * r.val))) a + S64x512.size a ≤ S4096x512.size a)
theorem k0_off8_inb : ∀ (v331 : BitVec 32) (k0_hw5 : k0_chk5 v331), ∀ (r : Fin 4), ∀ a, (k0_off8 v331 (BitVec.ofNat 32 (64 * r.val))) a + S64x512.size a ≤ S4096x512.size a := fun v331 k0_hw5 r => k0_hw5 r

def k0_off9 (v327 : BitVec 32) (c64_i32_452 : BitVec 32) : Fin 2 → Nat :=
  let c256_i32_451 : BitVec 32 := 256#32
  let v358 : BitVec 32 := Scalar.muli v327 c256_i32_451
  let v359 : BitVec 32 := Scalar.addi v358 c64_i32_452
  let v360 : Index := Scalar.indexCast v359
  let c0_453 : Index := 0#32
  ![v360.toNat, 0]

def k0_chk4 (v327 : BitVec 32) : Prop :=
  (∀ a, (k0_off7 v327) a + S64x512.size a ≤ S4096x512.size a) ∧
  (∀ (r : Fin 3), ∀ a, (k0_off9 v327 (BitVec.ofNat 32 (64 + 64 * r.val))) a + S64x512.size a ≤ S4096x512.size a)
theorem k0_off7_inb : ∀ (v327 : BitVec 32) (k0_hw4 : k0_chk4 v327), ∀ a, (k0_off7 v327) a + S64x512.size a ≤ S4096x512.size a := fun v327 k0_hw4 => k0_hw4.1
theorem k0_off9_inb : ∀ (v327 : BitVec 32) (k0_hw4 : k0_chk4 v327), ∀ (r : Fin 3), ∀ a, (k0_off9 v327 (BitVec.ofNat 32 (64 + 64 * r.val))) a + S64x512.size a ≤ S4096x512.size a := fun v327 k0_hw4 r => k0_hw4.2 r

def k0_dev19 (v13 : BitVec 32) : Nat :=
  let c0_i32_527 : BitVec 32 := 0#32
  let c1_i32_526 : BitVec 32 := 1#32
  let v420 : BitVec 32 := Scalar.muli v13 c1_i32_526
  let v421 : BitVec 32 := Scalar.addi c0_i32_527 v420
  v421.toNat
def k0_dev20 (v9 : BitVec 32) : Nat :=
  let c0_i32_555 : BitVec 32 := 0#32
  let c1_i32_554 : BitVec 32 := 1#32
  let v438 : BitVec 32 := Scalar.muli v9 c1_i32_554
  let v439 : BitVec 32 := Scalar.addi c0_i32_555 v438
  v439.toNat
def k0_dev21 (v13 : BitVec 32) : Nat :=
  let c0_i32_583 : BitVec 32 := 0#32
  let c1_i32_582 : BitVec 32 := 1#32
  let v456 : BitVec 32 := Scalar.muli v13 c1_i32_582
  let v457 : BitVec 32 := Scalar.addi c0_i32_583 v456
  v457.toNat
def k0_dev22 (v9 : BitVec 32) : Nat :=
  let c0_i32_611 : BitVec 32 := 0#32
  let c1_i32_610 : BitVec 32 := 1#32
  let v474 : BitVec 32 := Scalar.muli v9 c1_i32_610
  let v475 : BitVec 32 := Scalar.addi c0_i32_611 v474
  v475.toNat
def k0_dev23 (v13 : BitVec 32) : Nat :=
  let c0_i32_639 : BitVec 32 := 0#32
  let c1_i32_638 : BitVec 32 := 1#32
  let v492 : BitVec 32 := Scalar.muli v13 c1_i32_638
  let v493 : BitVec 32 := Scalar.addi c0_i32_639 v492
  v493.toNat
def k0_dev24 (v9 : BitVec 32) : Nat :=
  let c0_i32_667 : BitVec 32 := 0#32
  let c1_i32_666 : BitVec 32 := 1#32
  let v510 : BitVec 32 := Scalar.muli v9 c1_i32_666
  let v511 : BitVec 32 := Scalar.addi c0_i32_667 v510
  v511.toNat
def k0_dev25 (v13 : BitVec 32) : Nat :=
  let c0_i32_695 : BitVec 32 := 0#32
  let c1_i32_694 : BitVec 32 := 1#32
  let v528 : BitVec 32 := Scalar.muli v13 c1_i32_694
  let v529 : BitVec 32 := Scalar.addi c0_i32_695 v528
  v529.toNat
def k0_dev26 (v9 : BitVec 32) : Nat :=
  let c0_i32_723 : BitVec 32 := 0#32
  let c1_i32_722 : BitVec 32 := 1#32
  let v546 : BitVec 32 := Scalar.muli v9 c1_i32_722
  let v547 : BitVec 32 := Scalar.addi c0_i32_723 v546
  v547.toNat
def k0_off10 (v4 : BitVec 32) : Fin 1 → Nat :=
  let c2_i32_728 : BitVec 32 := 2#32
  let v556 : BitVec 32 := Scalar.subi v4 c2_i32_728
  let c16_i32_729 : BitVec 32 := 16#32
  let v557 : BitVec 32 := Scalar.addi v556 c16_i32_729
  let c16_i32_730 : BitVec 32 := 16#32
  let v558 : BitVec 32 := Scalar.remsi v557 c16_i32_730
  let v559 : Index := Scalar.indexCast v558
  ![v559.toNat]
def k0_off11 (v4 : BitVec 32) : Fin 1 → Nat :=
  let c2_i32_731 : BitVec 32 := 2#32
  let v561 : BitVec 32 := Scalar.addi v4 c2_i32_731
  let c16_i32_732 : BitVec 32 := 16#32
  let v562 : BitVec 32 := Scalar.remsi v561 c16_i32_732
  let v563 : Index := Scalar.indexCast v562
  ![v563.toNat]
def k0_off12 (v560 : BitVec 32) : Fin 2 → Nat :=
  let c256_i32_740 : BitVec 32 := 256#32
  let v571 : BitVec 32 := Scalar.muli v560 c256_i32_740
  let c0_i32_741 : BitVec 32 := 0#32
  let v572 : BitVec 32 := Scalar.addi v571 c0_i32_741
  let v573 : Index := Scalar.indexCast v572
  let c0_742 : Index := 0#32
  ![v573.toNat, 0]

def k0_off13 (v564 : BitVec 32) (c0_i32_751 : BitVec 32) : Fin 2 → Nat :=
  let c256_i32_750 : BitVec 32 := 256#32
  let v581 : BitVec 32 := Scalar.muli v564 c256_i32_750
  let v582 : BitVec 32 := Scalar.addi v581 c0_i32_751
  let v583 : Index := Scalar.indexCast v582
  let c0_752 : Index := 0#32
  ![v583.toNat, 0]

def k0_chk7 (v564 : BitVec 32) : Prop :=
  (∀ (r : Fin 4), ∀ a, (k0_off13 v564 (BitVec.ofNat 32 (64 * r.val))) a + S64x512.size a ≤ S4096x512.size a)
theorem k0_off13_inb : ∀ (v564 : BitVec 32) (k0_hw7 : k0_chk7 v564), ∀ (r : Fin 4), ∀ a, (k0_off13 v564 (BitVec.ofNat 32 (64 * r.val))) a + S64x512.size a ≤ S4096x512.size a := fun v564 k0_hw7 r => k0_hw7 r

def k0_off14 (v560 : BitVec 32) (c64_i32_761 : BitVec 32) : Fin 2 → Nat :=
  let c256_i32_760 : BitVec 32 := 256#32
  let v591 : BitVec 32 := Scalar.muli v560 c256_i32_760
  let v592 : BitVec 32 := Scalar.addi v591 c64_i32_761
  let v593 : Index := Scalar.indexCast v592
  let c0_762 : Index := 0#32
  ![v593.toNat, 0]

def k0_chk6 (v560 : BitVec 32) : Prop :=
  (∀ a, (k0_off12 v560) a + S64x512.size a ≤ S4096x512.size a) ∧
  (∀ (r : Fin 3), ∀ a, (k0_off14 v560 (BitVec.ofNat 32 (64 + 64 * r.val))) a + S64x512.size a ≤ S4096x512.size a)
theorem k0_off12_inb : ∀ (v560 : BitVec 32) (k0_hw6 : k0_chk6 v560), ∀ a, (k0_off12 v560) a + S64x512.size a ≤ S4096x512.size a := fun v560 k0_hw6 => k0_hw6.1
theorem k0_off14_inb : ∀ (v560 : BitVec 32) (k0_hw6 : k0_chk6 v560), ∀ (r : Fin 3), ∀ a, (k0_off14 v560 (BitVec.ofNat 32 (64 + 64 * r.val))) a + S64x512.size a ≤ S4096x512.size a := fun v560 k0_hw6 r => k0_hw6.2 r

def k0_dev27 (v13 : BitVec 32) : Nat :=
  let c0_i32_835 : BitVec 32 := 0#32
  let c1_i32_834 : BitVec 32 := 1#32
  let v653 : BitVec 32 := Scalar.muli v13 c1_i32_834
  let v654 : BitVec 32 := Scalar.addi c0_i32_835 v653
  v654.toNat
def k0_dev28 (v9 : BitVec 32) : Nat :=
  let c0_i32_863 : BitVec 32 := 0#32
  let c1_i32_862 : BitVec 32 := 1#32
  let v671 : BitVec 32 := Scalar.muli v9 c1_i32_862
  let v672 : BitVec 32 := Scalar.addi c0_i32_863 v671
  v672.toNat
def k0_dev29 (v13 : BitVec 32) : Nat :=
  let c0_i32_891 : BitVec 32 := 0#32
  let c1_i32_890 : BitVec 32 := 1#32
  let v689 : BitVec 32 := Scalar.muli v13 c1_i32_890
  let v690 : BitVec 32 := Scalar.addi c0_i32_891 v689
  v690.toNat
def k0_dev30 (v9 : BitVec 32) : Nat :=
  let c0_i32_919 : BitVec 32 := 0#32
  let c1_i32_918 : BitVec 32 := 1#32
  let v707 : BitVec 32 := Scalar.muli v9 c1_i32_918
  let v708 : BitVec 32 := Scalar.addi c0_i32_919 v707
  v708.toNat
def k0_dev31 (v13 : BitVec 32) : Nat :=
  let c0_i32_947 : BitVec 32 := 0#32
  let c1_i32_946 : BitVec 32 := 1#32
  let v725 : BitVec 32 := Scalar.muli v13 c1_i32_946
  let v726 : BitVec 32 := Scalar.addi c0_i32_947 v725
  v726.toNat
def k0_dev32 (v9 : BitVec 32) : Nat :=
  let c0_i32_975 : BitVec 32 := 0#32
  let c1_i32_974 : BitVec 32 := 1#32
  let v743 : BitVec 32 := Scalar.muli v9 c1_i32_974
  let v744 : BitVec 32 := Scalar.addi c0_i32_975 v743
  v744.toNat
def k0_dev33 (v13 : BitVec 32) : Nat :=
  let c0_i32_1003 : BitVec 32 := 0#32
  let c1_i32_1002 : BitVec 32 := 1#32
  let v761 : BitVec 32 := Scalar.muli v13 c1_i32_1002
  let v762 : BitVec 32 := Scalar.addi c0_i32_1003 v761
  v762.toNat
def k0_dev34 (v9 : BitVec 32) : Nat :=
  let c0_i32_1031 : BitVec 32 := 0#32
  let c1_i32_1030 : BitVec 32 := 1#32
  let v779 : BitVec 32 := Scalar.muli v9 c1_i32_1030
  let v780 : BitVec 32 := Scalar.addi c0_i32_1031 v779
  v780.toNat
def k0_off15 (v4 : BitVec 32) : Fin 1 → Nat :=
  let c3_i32_1036 : BitVec 32 := 3#32
  let v789 : BitVec 32 := Scalar.subi v4 c3_i32_1036
  let c16_i32_1037 : BitVec 32 := 16#32
  let v790 : BitVec 32 := Scalar.addi v789 c16_i32_1037
  let c16_i32_1038 : BitVec 32 := 16#32
  let v791 : BitVec 32 := Scalar.remsi v790 c16_i32_1038
  let v792 : Index := Scalar.indexCast v791
  ![v792.toNat]
def k0_off16 (v4 : BitVec 32) : Fin 1 → Nat :=
  let c3_i32_1039 : BitVec 32 := 3#32
  let v794 : BitVec 32 := Scalar.addi v4 c3_i32_1039
  let c16_i32_1040 : BitVec 32 := 16#32
  let v795 : BitVec 32 := Scalar.remsi v794 c16_i32_1040
  let v796 : Index := Scalar.indexCast v795
  ![v796.toNat]
def k0_off17 (v793 : BitVec 32) : Fin 2 → Nat :=
  let c256_i32_1048 : BitVec 32 := 256#32
  let v804 : BitVec 32 := Scalar.muli v793 c256_i32_1048
  let c0_i32_1049 : BitVec 32 := 0#32
  let v805 : BitVec 32 := Scalar.addi v804 c0_i32_1049
  let v806 : Index := Scalar.indexCast v805
  let c0_1050 : Index := 0#32
  ![v806.toNat, 0]

def k0_off18 (v797 : BitVec 32) (c0_i32_1059 : BitVec 32) : Fin 2 → Nat :=
  let c256_i32_1058 : BitVec 32 := 256#32
  let v814 : BitVec 32 := Scalar.muli v797 c256_i32_1058
  let v815 : BitVec 32 := Scalar.addi v814 c0_i32_1059
  let v816 : Index := Scalar.indexCast v815
  let c0_1060 : Index := 0#32
  ![v816.toNat, 0]

def k0_chk9 (v797 : BitVec 32) : Prop :=
  (∀ (r : Fin 4), ∀ a, (k0_off18 v797 (BitVec.ofNat 32 (64 * r.val))) a + S64x512.size a ≤ S4096x512.size a)
theorem k0_off18_inb : ∀ (v797 : BitVec 32) (k0_hw9 : k0_chk9 v797), ∀ (r : Fin 4), ∀ a, (k0_off18 v797 (BitVec.ofNat 32 (64 * r.val))) a + S64x512.size a ≤ S4096x512.size a := fun v797 k0_hw9 r => k0_hw9 r

def k0_off19 (v793 : BitVec 32) (c64_i32_1069 : BitVec 32) : Fin 2 → Nat :=
  let c256_i32_1068 : BitVec 32 := 256#32
  let v824 : BitVec 32 := Scalar.muli v793 c256_i32_1068
  let v825 : BitVec 32 := Scalar.addi v824 c64_i32_1069
  let v826 : Index := Scalar.indexCast v825
  let c0_1070 : Index := 0#32
  ![v826.toNat, 0]

def k0_chk8 (v793 : BitVec 32) : Prop :=
  (∀ a, (k0_off17 v793) a + S64x512.size a ≤ S4096x512.size a) ∧
  (∀ (r : Fin 3), ∀ a, (k0_off19 v793 (BitVec.ofNat 32 (64 + 64 * r.val))) a + S64x512.size a ≤ S4096x512.size a)
theorem k0_off17_inb : ∀ (v793 : BitVec 32) (k0_hw8 : k0_chk8 v793), ∀ a, (k0_off17 v793) a + S64x512.size a ≤ S4096x512.size a := fun v793 k0_hw8 => k0_hw8.1
theorem k0_off19_inb : ∀ (v793 : BitVec 32) (k0_hw8 : k0_chk8 v793), ∀ (r : Fin 3), ∀ a, (k0_off19 v793 (BitVec.ofNat 32 (64 + 64 * r.val))) a + S64x512.size a ≤ S4096x512.size a := fun v793 k0_hw8 r => k0_hw8.2 r

def k0_dev35 (v13 : BitVec 32) : Nat :=
  let c0_i32_1143 : BitVec 32 := 0#32
  let c1_i32_1142 : BitVec 32 := 1#32
  let v886 : BitVec 32 := Scalar.muli v13 c1_i32_1142
  let v887 : BitVec 32 := Scalar.addi c0_i32_1143 v886
  v887.toNat
def k0_dev36 (v9 : BitVec 32) : Nat :=
  let c0_i32_1171 : BitVec 32 := 0#32
  let c1_i32_1170 : BitVec 32 := 1#32
  let v904 : BitVec 32 := Scalar.muli v9 c1_i32_1170
  let v905 : BitVec 32 := Scalar.addi c0_i32_1171 v904
  v905.toNat
def k0_dev37 (v13 : BitVec 32) : Nat :=
  let c0_i32_1199 : BitVec 32 := 0#32
  let c1_i32_1198 : BitVec 32 := 1#32
  let v922 : BitVec 32 := Scalar.muli v13 c1_i32_1198
  let v923 : BitVec 32 := Scalar.addi c0_i32_1199 v922
  v923.toNat
def k0_dev38 (v9 : BitVec 32) : Nat :=
  let c0_i32_1227 : BitVec 32 := 0#32
  let c1_i32_1226 : BitVec 32 := 1#32
  let v940 : BitVec 32 := Scalar.muli v9 c1_i32_1226
  let v941 : BitVec 32 := Scalar.addi c0_i32_1227 v940
  v941.toNat
def k0_dev39 (v13 : BitVec 32) : Nat :=
  let c0_i32_1255 : BitVec 32 := 0#32
  let c1_i32_1254 : BitVec 32 := 1#32
  let v958 : BitVec 32 := Scalar.muli v13 c1_i32_1254
  let v959 : BitVec 32 := Scalar.addi c0_i32_1255 v958
  v959.toNat
def k0_dev40 (v9 : BitVec 32) : Nat :=
  let c0_i32_1283 : BitVec 32 := 0#32
  let c1_i32_1282 : BitVec 32 := 1#32
  let v976 : BitVec 32 := Scalar.muli v9 c1_i32_1282
  let v977 : BitVec 32 := Scalar.addi c0_i32_1283 v976
  v977.toNat
def k0_dev41 (v13 : BitVec 32) : Nat :=
  let c0_i32_1311 : BitVec 32 := 0#32
  let c1_i32_1310 : BitVec 32 := 1#32
  let v994 : BitVec 32 := Scalar.muli v13 c1_i32_1310
  let v995 : BitVec 32 := Scalar.addi c0_i32_1311 v994
  v995.toNat
def k0_dev42 (v9 : BitVec 32) : Nat :=
  let c0_i32_1339 : BitVec 32 := 0#32
  let c1_i32_1338 : BitVec 32 := 1#32
  let v1012 : BitVec 32 := Scalar.muli v9 c1_i32_1338
  let v1013 : BitVec 32 := Scalar.addi c0_i32_1339 v1012
  v1013.toNat
def k0_off20 (v4 : BitVec 32) : Fin 1 → Nat :=
  let c4_i32_1344 : BitVec 32 := 4#32
  let v1022 : BitVec 32 := Scalar.subi v4 c4_i32_1344
  let c16_i32_1345 : BitVec 32 := 16#32
  let v1023 : BitVec 32 := Scalar.addi v1022 c16_i32_1345
  let c16_i32_1346 : BitVec 32 := 16#32
  let v1024 : BitVec 32 := Scalar.remsi v1023 c16_i32_1346
  let v1025 : Index := Scalar.indexCast v1024
  ![v1025.toNat]
def k0_off21 (v4 : BitVec 32) : Fin 1 → Nat :=
  let c4_i32_1347 : BitVec 32 := 4#32
  let v1027 : BitVec 32 := Scalar.addi v4 c4_i32_1347
  let c16_i32_1348 : BitVec 32 := 16#32
  let v1028 : BitVec 32 := Scalar.remsi v1027 c16_i32_1348
  let v1029 : Index := Scalar.indexCast v1028
  ![v1029.toNat]
def k0_off22 (v1026 : BitVec 32) : Fin 2 → Nat :=
  let c256_i32_1355 : BitVec 32 := 256#32
  let v1037 : BitVec 32 := Scalar.muli v1026 c256_i32_1355
  let c0_i32_1356 : BitVec 32 := 0#32
  let v1038 : BitVec 32 := Scalar.addi v1037 c0_i32_1356
  let v1039 : Index := Scalar.indexCast v1038
  let c0_1357 : Index := 0#32
  ![v1039.toNat, 0]

def k0_off23 (v1030 : BitVec 32) (c0_i32_1366 : BitVec 32) : Fin 2 → Nat :=
  let c256_i32_1365 : BitVec 32 := 256#32
  let v1047 : BitVec 32 := Scalar.muli v1030 c256_i32_1365
  let v1048 : BitVec 32 := Scalar.addi v1047 c0_i32_1366
  let v1049 : Index := Scalar.indexCast v1048
  let c0_1367 : Index := 0#32
  ![v1049.toNat, 0]

def k0_chk11 (v1030 : BitVec 32) : Prop :=
  (∀ (r : Fin 4), ∀ a, (k0_off23 v1030 (BitVec.ofNat 32 (64 * r.val))) a + S64x512.size a ≤ S4096x512.size a)
theorem k0_off23_inb : ∀ (v1030 : BitVec 32) (k0_hw11 : k0_chk11 v1030), ∀ (r : Fin 4), ∀ a, (k0_off23 v1030 (BitVec.ofNat 32 (64 * r.val))) a + S64x512.size a ≤ S4096x512.size a := fun v1030 k0_hw11 r => k0_hw11 r

def k0_off24 (v1026 : BitVec 32) (c64_i32_1376 : BitVec 32) : Fin 2 → Nat :=
  let c256_i32_1375 : BitVec 32 := 256#32
  let v1057 : BitVec 32 := Scalar.muli v1026 c256_i32_1375
  let v1058 : BitVec 32 := Scalar.addi v1057 c64_i32_1376
  let v1059 : Index := Scalar.indexCast v1058
  let c0_1377 : Index := 0#32
  ![v1059.toNat, 0]

def k0_chk10 (v1026 : BitVec 32) : Prop :=
  (∀ a, (k0_off22 v1026) a + S64x512.size a ≤ S4096x512.size a) ∧
  (∀ (r : Fin 3), ∀ a, (k0_off24 v1026 (BitVec.ofNat 32 (64 + 64 * r.val))) a + S64x512.size a ≤ S4096x512.size a)
theorem k0_off22_inb : ∀ (v1026 : BitVec 32) (k0_hw10 : k0_chk10 v1026), ∀ a, (k0_off22 v1026) a + S64x512.size a ≤ S4096x512.size a := fun v1026 k0_hw10 => k0_hw10.1
theorem k0_off24_inb : ∀ (v1026 : BitVec 32) (k0_hw10 : k0_chk10 v1026), ∀ (r : Fin 3), ∀ a, (k0_off24 v1026 (BitVec.ofNat 32 (64 + 64 * r.val))) a + S64x512.size a ≤ S4096x512.size a := fun v1026 k0_hw10 r => k0_hw10.2 r

def k0_dev43 (v13 : BitVec 32) : Nat :=
  let c0_i32_1450 : BitVec 32 := 0#32
  let c1_i32_1449 : BitVec 32 := 1#32
  let v1119 : BitVec 32 := Scalar.muli v13 c1_i32_1449
  let v1120 : BitVec 32 := Scalar.addi c0_i32_1450 v1119
  v1120.toNat
def k0_dev44 (v9 : BitVec 32) : Nat :=
  let c0_i32_1478 : BitVec 32 := 0#32
  let c1_i32_1477 : BitVec 32 := 1#32
  let v1137 : BitVec 32 := Scalar.muli v9 c1_i32_1477
  let v1138 : BitVec 32 := Scalar.addi c0_i32_1478 v1137
  v1138.toNat
def k0_dev45 (v13 : BitVec 32) : Nat :=
  let c0_i32_1506 : BitVec 32 := 0#32
  let c1_i32_1505 : BitVec 32 := 1#32
  let v1155 : BitVec 32 := Scalar.muli v13 c1_i32_1505
  let v1156 : BitVec 32 := Scalar.addi c0_i32_1506 v1155
  v1156.toNat
def k0_dev46 (v9 : BitVec 32) : Nat :=
  let c0_i32_1534 : BitVec 32 := 0#32
  let c1_i32_1533 : BitVec 32 := 1#32
  let v1173 : BitVec 32 := Scalar.muli v9 c1_i32_1533
  let v1174 : BitVec 32 := Scalar.addi c0_i32_1534 v1173
  v1174.toNat
def k0_dev47 (v13 : BitVec 32) : Nat :=
  let c0_i32_1562 : BitVec 32 := 0#32
  let c1_i32_1561 : BitVec 32 := 1#32
  let v1191 : BitVec 32 := Scalar.muli v13 c1_i32_1561
  let v1192 : BitVec 32 := Scalar.addi c0_i32_1562 v1191
  v1192.toNat
def k0_dev48 (v9 : BitVec 32) : Nat :=
  let c0_i32_1590 : BitVec 32 := 0#32
  let c1_i32_1589 : BitVec 32 := 1#32
  let v1209 : BitVec 32 := Scalar.muli v9 c1_i32_1589
  let v1210 : BitVec 32 := Scalar.addi c0_i32_1590 v1209
  v1210.toNat
def k0_dev49 (v13 : BitVec 32) : Nat :=
  let c0_i32_1618 : BitVec 32 := 0#32
  let c1_i32_1617 : BitVec 32 := 1#32
  let v1227 : BitVec 32 := Scalar.muli v13 c1_i32_1617
  let v1228 : BitVec 32 := Scalar.addi c0_i32_1618 v1227
  v1228.toNat
def k0_dev50 (v9 : BitVec 32) : Nat :=
  let c0_i32_1646 : BitVec 32 := 0#32
  let c1_i32_1645 : BitVec 32 := 1#32
  let v1245 : BitVec 32 := Scalar.muli v9 c1_i32_1645
  let v1246 : BitVec 32 := Scalar.addi c0_i32_1646 v1245
  v1246.toNat
def k0_off25 (v4 : BitVec 32) : Fin 1 → Nat :=
  let c5_i32_1651 : BitVec 32 := 5#32
  let v1255 : BitVec 32 := Scalar.subi v4 c5_i32_1651
  let c16_i32_1652 : BitVec 32 := 16#32
  let v1256 : BitVec 32 := Scalar.addi v1255 c16_i32_1652
  let c16_i32_1653 : BitVec 32 := 16#32
  let v1257 : BitVec 32 := Scalar.remsi v1256 c16_i32_1653
  let v1258 : Index := Scalar.indexCast v1257
  ![v1258.toNat]
def k0_off26 (v4 : BitVec 32) : Fin 1 → Nat :=
  let c5_i32_1654 : BitVec 32 := 5#32
  let v1260 : BitVec 32 := Scalar.addi v4 c5_i32_1654
  let c16_i32_1655 : BitVec 32 := 16#32
  let v1261 : BitVec 32 := Scalar.remsi v1260 c16_i32_1655
  let v1262 : Index := Scalar.indexCast v1261
  ![v1262.toNat]
def k0_off27 (v1259 : BitVec 32) : Fin 2 → Nat :=
  let c256_i32_1662 : BitVec 32 := 256#32
  let v1270 : BitVec 32 := Scalar.muli v1259 c256_i32_1662
  let c0_i32_1663 : BitVec 32 := 0#32
  let v1271 : BitVec 32 := Scalar.addi v1270 c0_i32_1663
  let v1272 : Index := Scalar.indexCast v1271
  let c0_1664 : Index := 0#32
  ![v1272.toNat, 0]

def k0_off28 (v1263 : BitVec 32) (c0_i32_1673 : BitVec 32) : Fin 2 → Nat :=
  let c256_i32_1672 : BitVec 32 := 256#32
  let v1280 : BitVec 32 := Scalar.muli v1263 c256_i32_1672
  let v1281 : BitVec 32 := Scalar.addi v1280 c0_i32_1673
  let v1282 : Index := Scalar.indexCast v1281
  let c0_1674 : Index := 0#32
  ![v1282.toNat, 0]

def k0_chk13 (v1263 : BitVec 32) : Prop :=
  (∀ (r : Fin 4), ∀ a, (k0_off28 v1263 (BitVec.ofNat 32 (64 * r.val))) a + S64x512.size a ≤ S4096x512.size a)
theorem k0_off28_inb : ∀ (v1263 : BitVec 32) (k0_hw13 : k0_chk13 v1263), ∀ (r : Fin 4), ∀ a, (k0_off28 v1263 (BitVec.ofNat 32 (64 * r.val))) a + S64x512.size a ≤ S4096x512.size a := fun v1263 k0_hw13 r => k0_hw13 r

def k0_off29 (v1259 : BitVec 32) (c64_i32_1683 : BitVec 32) : Fin 2 → Nat :=
  let c256_i32_1682 : BitVec 32 := 256#32
  let v1290 : BitVec 32 := Scalar.muli v1259 c256_i32_1682
  let v1291 : BitVec 32 := Scalar.addi v1290 c64_i32_1683
  let v1292 : Index := Scalar.indexCast v1291
  let c0_1684 : Index := 0#32
  ![v1292.toNat, 0]

def k0_chk12 (v1259 : BitVec 32) : Prop :=
  (∀ a, (k0_off27 v1259) a + S64x512.size a ≤ S4096x512.size a) ∧
  (∀ (r : Fin 3), ∀ a, (k0_off29 v1259 (BitVec.ofNat 32 (64 + 64 * r.val))) a + S64x512.size a ≤ S4096x512.size a)
theorem k0_off27_inb : ∀ (v1259 : BitVec 32) (k0_hw12 : k0_chk12 v1259), ∀ a, (k0_off27 v1259) a + S64x512.size a ≤ S4096x512.size a := fun v1259 k0_hw12 => k0_hw12.1
theorem k0_off29_inb : ∀ (v1259 : BitVec 32) (k0_hw12 : k0_chk12 v1259), ∀ (r : Fin 3), ∀ a, (k0_off29 v1259 (BitVec.ofNat 32 (64 + 64 * r.val))) a + S64x512.size a ≤ S4096x512.size a := fun v1259 k0_hw12 r => k0_hw12.2 r

def k0_dev51 (v13 : BitVec 32) : Nat :=
  let c0_i32_1757 : BitVec 32 := 0#32
  let c1_i32_1756 : BitVec 32 := 1#32
  let v1352 : BitVec 32 := Scalar.muli v13 c1_i32_1756
  let v1353 : BitVec 32 := Scalar.addi c0_i32_1757 v1352
  v1353.toNat
def k0_dev52 (v9 : BitVec 32) : Nat :=
  let c0_i32_1785 : BitVec 32 := 0#32
  let c1_i32_1784 : BitVec 32 := 1#32
  let v1370 : BitVec 32 := Scalar.muli v9 c1_i32_1784
  let v1371 : BitVec 32 := Scalar.addi c0_i32_1785 v1370
  v1371.toNat
def k0_dev53 (v13 : BitVec 32) : Nat :=
  let c0_i32_1813 : BitVec 32 := 0#32
  let c1_i32_1812 : BitVec 32 := 1#32
  let v1388 : BitVec 32 := Scalar.muli v13 c1_i32_1812
  let v1389 : BitVec 32 := Scalar.addi c0_i32_1813 v1388
  v1389.toNat
def k0_dev54 (v9 : BitVec 32) : Nat :=
  let c0_i32_1841 : BitVec 32 := 0#32
  let c1_i32_1840 : BitVec 32 := 1#32
  let v1406 : BitVec 32 := Scalar.muli v9 c1_i32_1840
  let v1407 : BitVec 32 := Scalar.addi c0_i32_1841 v1406
  v1407.toNat
def k0_dev55 (v13 : BitVec 32) : Nat :=
  let c0_i32_1869 : BitVec 32 := 0#32
  let c1_i32_1868 : BitVec 32 := 1#32
  let v1424 : BitVec 32 := Scalar.muli v13 c1_i32_1868
  let v1425 : BitVec 32 := Scalar.addi c0_i32_1869 v1424
  v1425.toNat
def k0_dev56 (v9 : BitVec 32) : Nat :=
  let c0_i32_1897 : BitVec 32 := 0#32
  let c1_i32_1896 : BitVec 32 := 1#32
  let v1442 : BitVec 32 := Scalar.muli v9 c1_i32_1896
  let v1443 : BitVec 32 := Scalar.addi c0_i32_1897 v1442
  v1443.toNat
def k0_dev57 (v13 : BitVec 32) : Nat :=
  let c0_i32_1925 : BitVec 32 := 0#32
  let c1_i32_1924 : BitVec 32 := 1#32
  let v1460 : BitVec 32 := Scalar.muli v13 c1_i32_1924
  let v1461 : BitVec 32 := Scalar.addi c0_i32_1925 v1460
  v1461.toNat
def k0_dev58 (v9 : BitVec 32) : Nat :=
  let c0_i32_1953 : BitVec 32 := 0#32
  let c1_i32_1952 : BitVec 32 := 1#32
  let v1478 : BitVec 32 := Scalar.muli v9 c1_i32_1952
  let v1479 : BitVec 32 := Scalar.addi c0_i32_1953 v1478
  v1479.toNat
def k0_off30 (v4 : BitVec 32) : Fin 1 → Nat :=
  let c6_i32_1958 : BitVec 32 := 6#32
  let v1488 : BitVec 32 := Scalar.subi v4 c6_i32_1958
  let c16_i32_1959 : BitVec 32 := 16#32
  let v1489 : BitVec 32 := Scalar.addi v1488 c16_i32_1959
  let c16_i32_1960 : BitVec 32 := 16#32
  let v1490 : BitVec 32 := Scalar.remsi v1489 c16_i32_1960
  let v1491 : Index := Scalar.indexCast v1490
  ![v1491.toNat]
def k0_off31 (v4 : BitVec 32) : Fin 1 → Nat :=
  let c6_i32_1961 : BitVec 32 := 6#32
  let v1493 : BitVec 32 := Scalar.addi v4 c6_i32_1961
  let c16_i32_1962 : BitVec 32 := 16#32
  let v1494 : BitVec 32 := Scalar.remsi v1493 c16_i32_1962
  let v1495 : Index := Scalar.indexCast v1494
  ![v1495.toNat]
def k0_off32 (v1492 : BitVec 32) : Fin 2 → Nat :=
  let c256_i32_1969 : BitVec 32 := 256#32
  let v1503 : BitVec 32 := Scalar.muli v1492 c256_i32_1969
  let c0_i32_1970 : BitVec 32 := 0#32
  let v1504 : BitVec 32 := Scalar.addi v1503 c0_i32_1970
  let v1505 : Index := Scalar.indexCast v1504
  let c0_1971 : Index := 0#32
  ![v1505.toNat, 0]

def k0_off33 (v1496 : BitVec 32) (c0_i32_1980 : BitVec 32) : Fin 2 → Nat :=
  let c256_i32_1979 : BitVec 32 := 256#32
  let v1513 : BitVec 32 := Scalar.muli v1496 c256_i32_1979
  let v1514 : BitVec 32 := Scalar.addi v1513 c0_i32_1980
  let v1515 : Index := Scalar.indexCast v1514
  let c0_1981 : Index := 0#32
  ![v1515.toNat, 0]

def k0_chk15 (v1496 : BitVec 32) : Prop :=
  (∀ (r : Fin 4), ∀ a, (k0_off33 v1496 (BitVec.ofNat 32 (64 * r.val))) a + S64x512.size a ≤ S4096x512.size a)
theorem k0_off33_inb : ∀ (v1496 : BitVec 32) (k0_hw15 : k0_chk15 v1496), ∀ (r : Fin 4), ∀ a, (k0_off33 v1496 (BitVec.ofNat 32 (64 * r.val))) a + S64x512.size a ≤ S4096x512.size a := fun v1496 k0_hw15 r => k0_hw15 r

def k0_off34 (v1492 : BitVec 32) (c64_i32_1990 : BitVec 32) : Fin 2 → Nat :=
  let c256_i32_1989 : BitVec 32 := 256#32
  let v1523 : BitVec 32 := Scalar.muli v1492 c256_i32_1989
  let v1524 : BitVec 32 := Scalar.addi v1523 c64_i32_1990
  let v1525 : Index := Scalar.indexCast v1524
  let c0_1991 : Index := 0#32
  ![v1525.toNat, 0]

def k0_chk14 (v1492 : BitVec 32) : Prop :=
  (∀ a, (k0_off32 v1492) a + S64x512.size a ≤ S4096x512.size a) ∧
  (∀ (r : Fin 3), ∀ a, (k0_off34 v1492 (BitVec.ofNat 32 (64 + 64 * r.val))) a + S64x512.size a ≤ S4096x512.size a)
theorem k0_off32_inb : ∀ (v1492 : BitVec 32) (k0_hw14 : k0_chk14 v1492), ∀ a, (k0_off32 v1492) a + S64x512.size a ≤ S4096x512.size a := fun v1492 k0_hw14 => k0_hw14.1
theorem k0_off34_inb : ∀ (v1492 : BitVec 32) (k0_hw14 : k0_chk14 v1492), ∀ (r : Fin 3), ∀ a, (k0_off34 v1492 (BitVec.ofNat 32 (64 + 64 * r.val))) a + S64x512.size a ≤ S4096x512.size a := fun v1492 k0_hw14 r => k0_hw14.2 r

def k0_dev59 (v13 : BitVec 32) : Nat :=
  let c0_i32_2064 : BitVec 32 := 0#32
  let c1_i32_2063 : BitVec 32 := 1#32
  let v1585 : BitVec 32 := Scalar.muli v13 c1_i32_2063
  let v1586 : BitVec 32 := Scalar.addi c0_i32_2064 v1585
  v1586.toNat
def k0_dev60 (v13 : BitVec 32) : Nat :=
  let c0_i32_2106 : BitVec 32 := 0#32
  let c1_i32_2105 : BitVec 32 := 1#32
  let v1611 : BitVec 32 := Scalar.muli v13 c1_i32_2105
  let v1612 : BitVec 32 := Scalar.addi c0_i32_2106 v1611
  v1612.toNat

def k0_chk3 (v13 : BitVec 32) : Prop :=
  ((k0_dev2 v13) < nD) ∧
  ((k0_dev3 v13) < nD) ∧
  ((k0_dev5 v13) < nD) ∧
  ((k0_dev7 v13) < nD) ∧
  ((k0_dev9 v13) < nD) ∧
  ((k0_dev11 v13) < nD) ∧
  ((k0_dev13 v13) < nD) ∧
  ((k0_dev15 v13) < nD) ∧
  ((k0_dev17 v13) < nD) ∧
  ((k0_dev19 v13) < nD) ∧
  ((k0_dev21 v13) < nD) ∧
  ((k0_dev23 v13) < nD) ∧
  ((k0_dev25 v13) < nD) ∧
  ((k0_dev27 v13) < nD) ∧
  ((k0_dev29 v13) < nD) ∧
  ((k0_dev31 v13) < nD) ∧
  ((k0_dev33 v13) < nD) ∧
  ((k0_dev35 v13) < nD) ∧
  ((k0_dev37 v13) < nD) ∧
  ((k0_dev39 v13) < nD) ∧
  ((k0_dev41 v13) < nD) ∧
  ((k0_dev43 v13) < nD) ∧
  ((k0_dev45 v13) < nD) ∧
  ((k0_dev47 v13) < nD) ∧
  ((k0_dev49 v13) < nD) ∧
  ((k0_dev51 v13) < nD) ∧
  ((k0_dev53 v13) < nD) ∧
  ((k0_dev55 v13) < nD) ∧
  ((k0_dev57 v13) < nD) ∧
  ((k0_dev59 v13) < nD) ∧
  ((k0_dev60 v13) < nD)
theorem k0_dev2_lt : ∀ (v13 : BitVec 32) (k0_hw3 : k0_chk3 v13), (k0_dev2 v13) < nD := fun v13 k0_hw3 => k0_hw3.1
theorem k0_dev3_lt : ∀ (v13 : BitVec 32) (k0_hw3 : k0_chk3 v13), (k0_dev3 v13) < nD := fun v13 k0_hw3 => k0_hw3.2.1
theorem k0_dev5_lt : ∀ (v13 : BitVec 32) (k0_hw3 : k0_chk3 v13), (k0_dev5 v13) < nD := fun v13 k0_hw3 => k0_hw3.2.2.1
theorem k0_dev7_lt : ∀ (v13 : BitVec 32) (k0_hw3 : k0_chk3 v13), (k0_dev7 v13) < nD := fun v13 k0_hw3 => k0_hw3.2.2.2.1
theorem k0_dev9_lt : ∀ (v13 : BitVec 32) (k0_hw3 : k0_chk3 v13), (k0_dev9 v13) < nD := fun v13 k0_hw3 => k0_hw3.2.2.2.2.1
theorem k0_dev11_lt : ∀ (v13 : BitVec 32) (k0_hw3 : k0_chk3 v13), (k0_dev11 v13) < nD := fun v13 k0_hw3 => k0_hw3.2.2.2.2.2.1
theorem k0_dev13_lt : ∀ (v13 : BitVec 32) (k0_hw3 : k0_chk3 v13), (k0_dev13 v13) < nD := fun v13 k0_hw3 => k0_hw3.2.2.2.2.2.2.1
theorem k0_dev15_lt : ∀ (v13 : BitVec 32) (k0_hw3 : k0_chk3 v13), (k0_dev15 v13) < nD := fun v13 k0_hw3 => k0_hw3.2.2.2.2.2.2.2.1
theorem k0_dev17_lt : ∀ (v13 : BitVec 32) (k0_hw3 : k0_chk3 v13), (k0_dev17 v13) < nD := fun v13 k0_hw3 => k0_hw3.2.2.2.2.2.2.2.2.1
theorem k0_dev19_lt : ∀ (v13 : BitVec 32) (k0_hw3 : k0_chk3 v13), (k0_dev19 v13) < nD := fun v13 k0_hw3 => k0_hw3.2.2.2.2.2.2.2.2.2.1
theorem k0_dev21_lt : ∀ (v13 : BitVec 32) (k0_hw3 : k0_chk3 v13), (k0_dev21 v13) < nD := fun v13 k0_hw3 => k0_hw3.2.2.2.2.2.2.2.2.2.2.1
theorem k0_dev23_lt : ∀ (v13 : BitVec 32) (k0_hw3 : k0_chk3 v13), (k0_dev23 v13) < nD := fun v13 k0_hw3 => k0_hw3.2.2.2.2.2.2.2.2.2.2.2.1
theorem k0_dev25_lt : ∀ (v13 : BitVec 32) (k0_hw3 : k0_chk3 v13), (k0_dev25 v13) < nD := fun v13 k0_hw3 => k0_hw3.2.2.2.2.2.2.2.2.2.2.2.2.1
theorem k0_dev27_lt : ∀ (v13 : BitVec 32) (k0_hw3 : k0_chk3 v13), (k0_dev27 v13) < nD := fun v13 k0_hw3 => k0_hw3.2.2.2.2.2.2.2.2.2.2.2.2.2.1
theorem k0_dev29_lt : ∀ (v13 : BitVec 32) (k0_hw3 : k0_chk3 v13), (k0_dev29 v13) < nD := fun v13 k0_hw3 => k0_hw3.2.2.2.2.2.2.2.2.2.2.2.2.2.2.1
theorem k0_dev31_lt : ∀ (v13 : BitVec 32) (k0_hw3 : k0_chk3 v13), (k0_dev31 v13) < nD := fun v13 k0_hw3 => k0_hw3.2.2.2.2.2.2.2.2.2.2.2.2.2.2.2.1
theorem k0_dev33_lt : ∀ (v13 : BitVec 32) (k0_hw3 : k0_chk3 v13), (k0_dev33 v13) < nD := fun v13 k0_hw3 => k0_hw3.2.2.2.2.2.2.2.2.2.2.2.2.2.2.2.2.1
theorem k0_dev35_lt : ∀ (v13 : BitVec 32) (k0_hw3 : k0_chk3 v13), (k0_dev35 v13) < nD := fun v13 k0_hw3 => k0_hw3.2.2.2.2.2.2.2.2.2.2.2.2.2.2.2.2.2.1
theorem k0_dev37_lt : ∀ (v13 : BitVec 32) (k0_hw3 : k0_chk3 v13), (k0_dev37 v13) < nD := fun v13 k0_hw3 => k0_hw3.2.2.2.2.2.2.2.2.2.2.2.2.2.2.2.2.2.2.1
theorem k0_dev39_lt : ∀ (v13 : BitVec 32) (k0_hw3 : k0_chk3 v13), (k0_dev39 v13) < nD := fun v13 k0_hw3 => k0_hw3.2.2.2.2.2.2.2.2.2.2.2.2.2.2.2.2.2.2.2.1
theorem k0_dev41_lt : ∀ (v13 : BitVec 32) (k0_hw3 : k0_chk3 v13), (k0_dev41 v13) < nD := fun v13 k0_hw3 => k0_hw3.2.2.2.2.2.2.2.2.2.2.2.2.2.2.2.2.2.2.2.2.1
theorem k0_dev43_lt : ∀ (v13 : BitVec 32) (k0_hw3 : k0_chk3 v13), (k0_dev43 v13) < nD := fun v13 k0_hw3 => k0_hw3.2.2.2.2.2.2.2.2.2.2.2.2.2.2.2.2.2.2.2.2.2.1
theorem k0_dev45_lt : ∀ (v13 : BitVec 32) (k0_hw3 : k0_chk3 v13), (k0_dev45 v13) < nD := fun v13 k0_hw3 => k0_hw3.2.2.2.2.2.2.2.2.2.2.2.2.2.2.2.2.2.2.2.2.2.2.1
theorem k0_dev47_lt : ∀ (v13 : BitVec 32) (k0_hw3 : k0_chk3 v13), (k0_dev47 v13) < nD := fun v13 k0_hw3 => k0_hw3.2.2.2.2.2.2.2.2.2.2.2.2.2.2.2.2.2.2.2.2.2.2.2.1
theorem k0_dev49_lt : ∀ (v13 : BitVec 32) (k0_hw3 : k0_chk3 v13), (k0_dev49 v13) < nD := fun v13 k0_hw3 => k0_hw3.2.2.2.2.2.2.2.2.2.2.2.2.2.2.2.2.2.2.2.2.2.2.2.2.1
theorem k0_dev51_lt : ∀ (v13 : BitVec 32) (k0_hw3 : k0_chk3 v13), (k0_dev51 v13) < nD := fun v13 k0_hw3 => k0_hw3.2.2.2.2.2.2.2.2.2.2.2.2.2.2.2.2.2.2.2.2.2.2.2.2.2.1
theorem k0_dev53_lt : ∀ (v13 : BitVec 32) (k0_hw3 : k0_chk3 v13), (k0_dev53 v13) < nD := fun v13 k0_hw3 => k0_hw3.2.2.2.2.2.2.2.2.2.2.2.2.2.2.2.2.2.2.2.2.2.2.2.2.2.2.1
theorem k0_dev55_lt : ∀ (v13 : BitVec 32) (k0_hw3 : k0_chk3 v13), (k0_dev55 v13) < nD := fun v13 k0_hw3 => k0_hw3.2.2.2.2.2.2.2.2.2.2.2.2.2.2.2.2.2.2.2.2.2.2.2.2.2.2.2.1
theorem k0_dev57_lt : ∀ (v13 : BitVec 32) (k0_hw3 : k0_chk3 v13), (k0_dev57 v13) < nD := fun v13 k0_hw3 => k0_hw3.2.2.2.2.2.2.2.2.2.2.2.2.2.2.2.2.2.2.2.2.2.2.2.2.2.2.2.2.1
theorem k0_dev59_lt : ∀ (v13 : BitVec 32) (k0_hw3 : k0_chk3 v13), (k0_dev59 v13) < nD := fun v13 k0_hw3 => k0_hw3.2.2.2.2.2.2.2.2.2.2.2.2.2.2.2.2.2.2.2.2.2.2.2.2.2.2.2.2.2.1
theorem k0_dev60_lt : ∀ (v13 : BitVec 32) (k0_hw3 : k0_chk3 v13), (k0_dev60 v13) < nD := fun v13 k0_hw3 => k0_hw3.2.2.2.2.2.2.2.2.2.2.2.2.2.2.2.2.2.2.2.2.2.2.2.2.2.2.2.2.2.2

def k0_dev61 (v9 : BitVec 32) : Nat :=
  let c0_i32_2162 : BitVec 32 := 0#32
  let c1_i32_2161 : BitVec 32 := 1#32
  let v1645 : BitVec 32 := Scalar.muli v9 c1_i32_2161
  let v1646 : BitVec 32 := Scalar.addi c0_i32_2162 v1645
  v1646.toNat
def k0_dev62 (v9 : BitVec 32) : Nat :=
  let c0_i32_2204 : BitVec 32 := 0#32
  let c1_i32_2203 : BitVec 32 := 1#32
  let v1671 : BitVec 32 := Scalar.muli v9 c1_i32_2203
  let v1672 : BitVec 32 := Scalar.addi c0_i32_2204 v1671
  v1672.toNat

def k0_chk2 (v9 : BitVec 32) : Prop :=
  ((k0_dev1 v9) < nD) ∧
  ((k0_dev4 v9) < nD) ∧
  ((k0_dev6 v9) < nD) ∧
  ((k0_dev8 v9) < nD) ∧
  ((k0_dev10 v9) < nD) ∧
  ((k0_dev12 v9) < nD) ∧
  ((k0_dev14 v9) < nD) ∧
  ((k0_dev16 v9) < nD) ∧
  ((k0_dev18 v9) < nD) ∧
  ((k0_dev20 v9) < nD) ∧
  ((k0_dev22 v9) < nD) ∧
  ((k0_dev24 v9) < nD) ∧
  ((k0_dev26 v9) < nD) ∧
  ((k0_dev28 v9) < nD) ∧
  ((k0_dev30 v9) < nD) ∧
  ((k0_dev32 v9) < nD) ∧
  ((k0_dev34 v9) < nD) ∧
  ((k0_dev36 v9) < nD) ∧
  ((k0_dev38 v9) < nD) ∧
  ((k0_dev40 v9) < nD) ∧
  ((k0_dev42 v9) < nD) ∧
  ((k0_dev44 v9) < nD) ∧
  ((k0_dev46 v9) < nD) ∧
  ((k0_dev48 v9) < nD) ∧
  ((k0_dev50 v9) < nD) ∧
  ((k0_dev52 v9) < nD) ∧
  ((k0_dev54 v9) < nD) ∧
  ((k0_dev56 v9) < nD) ∧
  ((k0_dev58 v9) < nD) ∧
  ((k0_dev61 v9) < nD) ∧
  ((k0_dev62 v9) < nD)
theorem k0_dev1_lt : ∀ (v9 : BitVec 32) (k0_hw2 : k0_chk2 v9), (k0_dev1 v9) < nD := fun v9 k0_hw2 => k0_hw2.1
theorem k0_dev4_lt : ∀ (v9 : BitVec 32) (k0_hw2 : k0_chk2 v9), (k0_dev4 v9) < nD := fun v9 k0_hw2 => k0_hw2.2.1
theorem k0_dev6_lt : ∀ (v9 : BitVec 32) (k0_hw2 : k0_chk2 v9), (k0_dev6 v9) < nD := fun v9 k0_hw2 => k0_hw2.2.2.1
theorem k0_dev8_lt : ∀ (v9 : BitVec 32) (k0_hw2 : k0_chk2 v9), (k0_dev8 v9) < nD := fun v9 k0_hw2 => k0_hw2.2.2.2.1
theorem k0_dev10_lt : ∀ (v9 : BitVec 32) (k0_hw2 : k0_chk2 v9), (k0_dev10 v9) < nD := fun v9 k0_hw2 => k0_hw2.2.2.2.2.1
theorem k0_dev12_lt : ∀ (v9 : BitVec 32) (k0_hw2 : k0_chk2 v9), (k0_dev12 v9) < nD := fun v9 k0_hw2 => k0_hw2.2.2.2.2.2.1
theorem k0_dev14_lt : ∀ (v9 : BitVec 32) (k0_hw2 : k0_chk2 v9), (k0_dev14 v9) < nD := fun v9 k0_hw2 => k0_hw2.2.2.2.2.2.2.1
theorem k0_dev16_lt : ∀ (v9 : BitVec 32) (k0_hw2 : k0_chk2 v9), (k0_dev16 v9) < nD := fun v9 k0_hw2 => k0_hw2.2.2.2.2.2.2.2.1
theorem k0_dev18_lt : ∀ (v9 : BitVec 32) (k0_hw2 : k0_chk2 v9), (k0_dev18 v9) < nD := fun v9 k0_hw2 => k0_hw2.2.2.2.2.2.2.2.2.1
theorem k0_dev20_lt : ∀ (v9 : BitVec 32) (k0_hw2 : k0_chk2 v9), (k0_dev20 v9) < nD := fun v9 k0_hw2 => k0_hw2.2.2.2.2.2.2.2.2.2.1
theorem k0_dev22_lt : ∀ (v9 : BitVec 32) (k0_hw2 : k0_chk2 v9), (k0_dev22 v9) < nD := fun v9 k0_hw2 => k0_hw2.2.2.2.2.2.2.2.2.2.2.1
theorem k0_dev24_lt : ∀ (v9 : BitVec 32) (k0_hw2 : k0_chk2 v9), (k0_dev24 v9) < nD := fun v9 k0_hw2 => k0_hw2.2.2.2.2.2.2.2.2.2.2.2.1
theorem k0_dev26_lt : ∀ (v9 : BitVec 32) (k0_hw2 : k0_chk2 v9), (k0_dev26 v9) < nD := fun v9 k0_hw2 => k0_hw2.2.2.2.2.2.2.2.2.2.2.2.2.1
theorem k0_dev28_lt : ∀ (v9 : BitVec 32) (k0_hw2 : k0_chk2 v9), (k0_dev28 v9) < nD := fun v9 k0_hw2 => k0_hw2.2.2.2.2.2.2.2.2.2.2.2.2.2.1
theorem k0_dev30_lt : ∀ (v9 : BitVec 32) (k0_hw2 : k0_chk2 v9), (k0_dev30 v9) < nD := fun v9 k0_hw2 => k0_hw2.2.2.2.2.2.2.2.2.2.2.2.2.2.2.1
theorem k0_dev32_lt : ∀ (v9 : BitVec 32) (k0_hw2 : k0_chk2 v9), (k0_dev32 v9) < nD := fun v9 k0_hw2 => k0_hw2.2.2.2.2.2.2.2.2.2.2.2.2.2.2.2.1
theorem k0_dev34_lt : ∀ (v9 : BitVec 32) (k0_hw2 : k0_chk2 v9), (k0_dev34 v9) < nD := fun v9 k0_hw2 => k0_hw2.2.2.2.2.2.2.2.2.2.2.2.2.2.2.2.2.1
theorem k0_dev36_lt : ∀ (v9 : BitVec 32) (k0_hw2 : k0_chk2 v9), (k0_dev36 v9) < nD := fun v9 k0_hw2 => k0_hw2.2.2.2.2.2.2.2.2.2.2.2.2.2.2.2.2.2.1
theorem k0_dev38_lt : ∀ (v9 : BitVec 32) (k0_hw2 : k0_chk2 v9), (k0_dev38 v9) < nD := fun v9 k0_hw2 => k0_hw2.2.2.2.2.2.2.2.2.2.2.2.2.2.2.2.2.2.2.1
theorem k0_dev40_lt : ∀ (v9 : BitVec 32) (k0_hw2 : k0_chk2 v9), (k0_dev40 v9) < nD := fun v9 k0_hw2 => k0_hw2.2.2.2.2.2.2.2.2.2.2.2.2.2.2.2.2.2.2.2.1
theorem k0_dev42_lt : ∀ (v9 : BitVec 32) (k0_hw2 : k0_chk2 v9), (k0_dev42 v9) < nD := fun v9 k0_hw2 => k0_hw2.2.2.2.2.2.2.2.2.2.2.2.2.2.2.2.2.2.2.2.2.1
theorem k0_dev44_lt : ∀ (v9 : BitVec 32) (k0_hw2 : k0_chk2 v9), (k0_dev44 v9) < nD := fun v9 k0_hw2 => k0_hw2.2.2.2.2.2.2.2.2.2.2.2.2.2.2.2.2.2.2.2.2.2.1
theorem k0_dev46_lt : ∀ (v9 : BitVec 32) (k0_hw2 : k0_chk2 v9), (k0_dev46 v9) < nD := fun v9 k0_hw2 => k0_hw2.2.2.2.2.2.2.2.2.2.2.2.2.2.2.2.2.2.2.2.2.2.2.1
theorem k0_dev48_lt : ∀ (v9 : BitVec 32) (k0_hw2 : k0_chk2 v9), (k0_dev48 v9) < nD := fun v9 k0_hw2 => k0_hw2.2.2.2.2.2.2.2.2.2.2.2.2.2.2.2.2.2.2.2.2.2.2.2.1
theorem k0_dev50_lt : ∀ (v9 : BitVec 32) (k0_hw2 : k0_chk2 v9), (k0_dev50 v9) < nD := fun v9 k0_hw2 => k0_hw2.2.2.2.2.2.2.2.2.2.2.2.2.2.2.2.2.2.2.2.2.2.2.2.2.1
theorem k0_dev52_lt : ∀ (v9 : BitVec 32) (k0_hw2 : k0_chk2 v9), (k0_dev52 v9) < nD := fun v9 k0_hw2 => k0_hw2.2.2.2.2.2.2.2.2.2.2.2.2.2.2.2.2.2.2.2.2.2.2.2.2.2.1
theorem k0_dev54_lt : ∀ (v9 : BitVec 32) (k0_hw2 : k0_chk2 v9), (k0_dev54 v9) < nD := fun v9 k0_hw2 => k0_hw2.2.2.2.2.2.2.2.2.2.2.2.2.2.2.2.2.2.2.2.2.2.2.2.2.2.2.1
theorem k0_dev56_lt : ∀ (v9 : BitVec 32) (k0_hw2 : k0_chk2 v9), (k0_dev56 v9) < nD := fun v9 k0_hw2 => k0_hw2.2.2.2.2.2.2.2.2.2.2.2.2.2.2.2.2.2.2.2.2.2.2.2.2.2.2.2.1
theorem k0_dev58_lt : ∀ (v9 : BitVec 32) (k0_hw2 : k0_chk2 v9), (k0_dev58 v9) < nD := fun v9 k0_hw2 => k0_hw2.2.2.2.2.2.2.2.2.2.2.2.2.2.2.2.2.2.2.2.2.2.2.2.2.2.2.2.2.1
theorem k0_dev61_lt : ∀ (v9 : BitVec 32) (k0_hw2 : k0_chk2 v9), (k0_dev61 v9) < nD := fun v9 k0_hw2 => k0_hw2.2.2.2.2.2.2.2.2.2.2.2.2.2.2.2.2.2.2.2.2.2.2.2.2.2.2.2.2.2.1
theorem k0_dev62_lt : ∀ (v9 : BitVec 32) (k0_hw2 : k0_chk2 v9), (k0_dev62 v9) < nD := fun v9 k0_hw2 => k0_hw2.2.2.2.2.2.2.2.2.2.2.2.2.2.2.2.2.2.2.2.2.2.2.2.2.2.2.2.2.2.2

def k0_off35 (v4 : BitVec 32) : Fin 1 → Nat :=
  let c7_i32_2209 : BitVec 32 := 7#32
  let v1681 : BitVec 32 := Scalar.subi v4 c7_i32_2209
  let c16_i32_2210 : BitVec 32 := 16#32
  let v1682 : BitVec 32 := Scalar.addi v1681 c16_i32_2210
  let c16_i32_2211 : BitVec 32 := 16#32
  let v1683 : BitVec 32 := Scalar.remsi v1682 c16_i32_2211
  let v1684 : Index := Scalar.indexCast v1683
  ![v1684.toNat]
def k0_off36 (v4 : BitVec 32) : Fin 1 → Nat :=
  let c7_i32_2212 : BitVec 32 := 7#32
  let v1686 : BitVec 32 := Scalar.addi v4 c7_i32_2212
  let c16_i32_2213 : BitVec 32 := 16#32
  let v1687 : BitVec 32 := Scalar.remsi v1686 c16_i32_2213
  let v1688 : Index := Scalar.indexCast v1687
  ![v1688.toNat]
def k0_off37 (v1685 : BitVec 32) : Fin 2 → Nat :=
  let c256_i32_2220 : BitVec 32 := 256#32
  let v1696 : BitVec 32 := Scalar.muli v1685 c256_i32_2220
  let c0_i32_2221 : BitVec 32 := 0#32
  let v1697 : BitVec 32 := Scalar.addi v1696 c0_i32_2221
  let v1698 : Index := Scalar.indexCast v1697
  let c0_2222 : Index := 0#32
  ![v1698.toNat, 0]

def k0_off38 (v1689 : BitVec 32) (c0_i32_2231 : BitVec 32) : Fin 2 → Nat :=
  let c256_i32_2230 : BitVec 32 := 256#32
  let v1706 : BitVec 32 := Scalar.muli v1689 c256_i32_2230
  let v1707 : BitVec 32 := Scalar.addi v1706 c0_i32_2231
  let v1708 : Index := Scalar.indexCast v1707
  let c0_2232 : Index := 0#32
  ![v1708.toNat, 0]

def k0_chk17 (v1689 : BitVec 32) : Prop :=
  (∀ (r : Fin 4), ∀ a, (k0_off38 v1689 (BitVec.ofNat 32 (64 * r.val))) a + S64x512.size a ≤ S4096x512.size a)
theorem k0_off38_inb : ∀ (v1689 : BitVec 32) (k0_hw17 : k0_chk17 v1689), ∀ (r : Fin 4), ∀ a, (k0_off38 v1689 (BitVec.ofNat 32 (64 * r.val))) a + S64x512.size a ≤ S4096x512.size a := fun v1689 k0_hw17 r => k0_hw17 r

def k0_off39 (v1685 : BitVec 32) (c64_i32_2241 : BitVec 32) : Fin 2 → Nat :=
  let c256_i32_2240 : BitVec 32 := 256#32
  let v1716 : BitVec 32 := Scalar.muli v1685 c256_i32_2240
  let v1717 : BitVec 32 := Scalar.addi v1716 c64_i32_2241
  let v1718 : Index := Scalar.indexCast v1717
  let c0_2242 : Index := 0#32
  ![v1718.toNat, 0]

def k0_chk16 (v1685 : BitVec 32) : Prop :=
  (∀ a, (k0_off37 v1685) a + S64x512.size a ≤ S4096x512.size a) ∧
  (∀ (r : Fin 3), ∀ a, (k0_off39 v1685 (BitVec.ofNat 32 (64 + 64 * r.val))) a + S64x512.size a ≤ S4096x512.size a)
theorem k0_off37_inb : ∀ (v1685 : BitVec 32) (k0_hw16 : k0_chk16 v1685), ∀ a, (k0_off37 v1685) a + S64x512.size a ≤ S4096x512.size a := fun v1685 k0_hw16 => k0_hw16.1
theorem k0_off39_inb : ∀ (v1685 : BitVec 32) (k0_hw16 : k0_chk16 v1685), ∀ (r : Fin 3), ∀ a, (k0_off39 v1685 (BitVec.ofNat 32 (64 + 64 * r.val))) a + S64x512.size a ≤ S4096x512.size a := fun v1685 k0_hw16 r => k0_hw16.2 r

def k0_off40 (v4 : BitVec 32) : Fin 1 → Nat :=
  let c8_i32_2293 : BitVec 32 := 8#32
  let v1770 : BitVec 32 := Scalar.addi v4 c8_i32_2293
  let c16_i32_2294 : BitVec 32 := 16#32
  let v1771 : BitVec 32 := Scalar.remsi v1770 c16_i32_2294
  let v1772 : Index := Scalar.indexCast v1771
  ![v1772.toNat]

def k0_chk1 (v4 : BitVec 32) : Prop :=
  (∀ a, (k0_off2 v4) a + S1.size a ≤ S16.size a) ∧
  (∀ a, (k0_off3 v4) a + S1.size a ≤ S16.size a) ∧
  (∀ a, (k0_off5 v4) a + S1.size a ≤ S16.size a) ∧
  (∀ a, (k0_off6 v4) a + S1.size a ≤ S16.size a) ∧
  (∀ a, (k0_off10 v4) a + S1.size a ≤ S16.size a) ∧
  (∀ a, (k0_off11 v4) a + S1.size a ≤ S16.size a) ∧
  (∀ a, (k0_off15 v4) a + S1.size a ≤ S16.size a) ∧
  (∀ a, (k0_off16 v4) a + S1.size a ≤ S16.size a) ∧
  (∀ a, (k0_off20 v4) a + S1.size a ≤ S16.size a) ∧
  (∀ a, (k0_off21 v4) a + S1.size a ≤ S16.size a) ∧
  (∀ a, (k0_off25 v4) a + S1.size a ≤ S16.size a) ∧
  (∀ a, (k0_off26 v4) a + S1.size a ≤ S16.size a) ∧
  (∀ a, (k0_off30 v4) a + S1.size a ≤ S16.size a) ∧
  (∀ a, (k0_off31 v4) a + S1.size a ≤ S16.size a) ∧
  (∀ a, (k0_off35 v4) a + S1.size a ≤ S16.size a) ∧
  (∀ a, (k0_off36 v4) a + S1.size a ≤ S16.size a) ∧
  (∀ a, (k0_off40 v4) a + S1.size a ≤ S16.size a)
theorem k0_off2_inb : ∀ (v4 : BitVec 32) (k0_hw1 : k0_chk1 v4), ∀ a, (k0_off2 v4) a + S1.size a ≤ S16.size a := fun v4 k0_hw1 => k0_hw1.1
theorem k0_off3_inb : ∀ (v4 : BitVec 32) (k0_hw1 : k0_chk1 v4), ∀ a, (k0_off3 v4) a + S1.size a ≤ S16.size a := fun v4 k0_hw1 => k0_hw1.2.1
theorem k0_off5_inb : ∀ (v4 : BitVec 32) (k0_hw1 : k0_chk1 v4), ∀ a, (k0_off5 v4) a + S1.size a ≤ S16.size a := fun v4 k0_hw1 => k0_hw1.2.2.1
theorem k0_off6_inb : ∀ (v4 : BitVec 32) (k0_hw1 : k0_chk1 v4), ∀ a, (k0_off6 v4) a + S1.size a ≤ S16.size a := fun v4 k0_hw1 => k0_hw1.2.2.2.1
theorem k0_off10_inb : ∀ (v4 : BitVec 32) (k0_hw1 : k0_chk1 v4), ∀ a, (k0_off10 v4) a + S1.size a ≤ S16.size a := fun v4 k0_hw1 => k0_hw1.2.2.2.2.1
theorem k0_off11_inb : ∀ (v4 : BitVec 32) (k0_hw1 : k0_chk1 v4), ∀ a, (k0_off11 v4) a + S1.size a ≤ S16.size a := fun v4 k0_hw1 => k0_hw1.2.2.2.2.2.1
theorem k0_off15_inb : ∀ (v4 : BitVec 32) (k0_hw1 : k0_chk1 v4), ∀ a, (k0_off15 v4) a + S1.size a ≤ S16.size a := fun v4 k0_hw1 => k0_hw1.2.2.2.2.2.2.1
theorem k0_off16_inb : ∀ (v4 : BitVec 32) (k0_hw1 : k0_chk1 v4), ∀ a, (k0_off16 v4) a + S1.size a ≤ S16.size a := fun v4 k0_hw1 => k0_hw1.2.2.2.2.2.2.2.1
theorem k0_off20_inb : ∀ (v4 : BitVec 32) (k0_hw1 : k0_chk1 v4), ∀ a, (k0_off20 v4) a + S1.size a ≤ S16.size a := fun v4 k0_hw1 => k0_hw1.2.2.2.2.2.2.2.2.1
theorem k0_off21_inb : ∀ (v4 : BitVec 32) (k0_hw1 : k0_chk1 v4), ∀ a, (k0_off21 v4) a + S1.size a ≤ S16.size a := fun v4 k0_hw1 => k0_hw1.2.2.2.2.2.2.2.2.2.1
theorem k0_off25_inb : ∀ (v4 : BitVec 32) (k0_hw1 : k0_chk1 v4), ∀ a, (k0_off25 v4) a + S1.size a ≤ S16.size a := fun v4 k0_hw1 => k0_hw1.2.2.2.2.2.2.2.2.2.2.1
theorem k0_off26_inb : ∀ (v4 : BitVec 32) (k0_hw1 : k0_chk1 v4), ∀ a, (k0_off26 v4) a + S1.size a ≤ S16.size a := fun v4 k0_hw1 => k0_hw1.2.2.2.2.2.2.2.2.2.2.2.1
theorem k0_off30_inb : ∀ (v4 : BitVec 32) (k0_hw1 : k0_chk1 v4), ∀ a, (k0_off30 v4) a + S1.size a ≤ S16.size a := fun v4 k0_hw1 => k0_hw1.2.2.2.2.2.2.2.2.2.2.2.2.1
theorem k0_off31_inb : ∀ (v4 : BitVec 32) (k0_hw1 : k0_chk1 v4), ∀ a, (k0_off31 v4) a + S1.size a ≤ S16.size a := fun v4 k0_hw1 => k0_hw1.2.2.2.2.2.2.2.2.2.2.2.2.2.1
theorem k0_off35_inb : ∀ (v4 : BitVec 32) (k0_hw1 : k0_chk1 v4), ∀ a, (k0_off35 v4) a + S1.size a ≤ S16.size a := fun v4 k0_hw1 => k0_hw1.2.2.2.2.2.2.2.2.2.2.2.2.2.2.1
theorem k0_off36_inb : ∀ (v4 : BitVec 32) (k0_hw1 : k0_chk1 v4), ∀ a, (k0_off36 v4) a + S1.size a ≤ S16.size a := fun v4 k0_hw1 => k0_hw1.2.2.2.2.2.2.2.2.2.2.2.2.2.2.2.1
theorem k0_off40_inb : ∀ (v4 : BitVec 32) (k0_hw1 : k0_chk1 v4), ∀ a, (k0_off40 v4) a + S1.size a ≤ S16.size a := fun v4 k0_hw1 => k0_hw1.2.2.2.2.2.2.2.2.2.2.2.2.2.2.2.2

def k0_off41 (v1773 : BitVec 32) (c0_i32_2316 : BitVec 32) : Fin 2 → Nat :=
  let c256_i32_2315 : BitVec 32 := 256#32
  let v1788 : BitVec 32 := Scalar.muli v1773 c256_i32_2315
  let v1789 : BitVec 32 := Scalar.addi v1788 c0_i32_2316
  let v1790 : Index := Scalar.indexCast v1789
  let c0_2317 : Index := 0#32
  ![v1790.toNat, 0]

def k0_chk18 (v1773 : BitVec 32) : Prop :=
  (∀ (r : Fin 4), ∀ a, (k0_off41 v1773 (BitVec.ofNat 32 (64 * r.val))) a + S64x512.size a ≤ S4096x512.size a)
theorem k0_off41_inb : ∀ (v1773 : BitVec 32) (k0_hw18 : k0_chk18 v1773), ∀ (r : Fin 4), ∀ a, (k0_off41 v1773 (BitVec.ofNat 32 (64 * r.val))) a + S64x512.size a ≤ S4096x512.size a := fun v1773 k0_hw18 r => k0_hw18 r

abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.lean ====
/-
The ring the sixteen devices form, and the numbering of the blocks that travel on it.

The devices stand on a cycle (`hamT` lists them in cycle order, `posT` says where each stands). A device's
256 rows of `x` are cut into four sub-blocks of 64 rows; each sub-block travels both ways round the cycle.

A SLOT is one sub-block of one of the two receive buffers: slot `j = 8 h + 2 s + d` is sub-block `s` of the
`h`-th row of the right-going buffer (`d = 0`) or of the left-going one (`d = 1`). HOP `k` sends slot `k` to slot
`k + 8` of the neighbour. All sixteen devices run the hops in increasing order; the hops that carry the half
of the farthest device's block that comes the other way are not run (`used`).
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KernelIdeal.RingProof

open Cert.KernelIdeal Cert.KernelIdeal.Gen

open Idealize.ShloMosaic
open Idealize.ShloMosaic.TcCoe

/-- The devices in the order of the cycle. -/
def hamT : Fin 16 → Fin 16 := ![0, 1, 5, 9, 13, 14, 10, 6, 2, 3, 7, 11, 15, 12, 8, 4]
/-- Where each device stands on the cycle. -/
def posT : Fin 16 → Fin 16 := ![0, 1, 8, 9, 15, 2, 7, 10, 14, 3, 6, 11, 13, 4, 5, 12]

set_option backward.proofsInPublic true in
/-- The place `n` steps after device `c`'s on the cycle. -/
def spot (c : Dev nD) (n : ℕ) : Fin 16 := ⟨((posT c).val + n) % 16, Nat.mod_lt _ (by decide)⟩
/-- The device `n` steps after `c` on the cycle. -/
def after (c : Dev nD) (n : ℕ) : Dev nD := hamT (spot c n)

/-- The device a hop goes to: the next one for the right-going hops, the previous one for the left-going. -/
def peer (c : Dev nD) (k : ℕ) : Dev nD := bif k % 2 == 0 then after c 1 else after c 15
/-- How far round the cycle from device `c` the block in slot `j` of it started. -/
def far (j : ℕ) : ℕ := bif j % 2 == 0 then 16 - j / 8 else j / 8
/-- The device whose block slot `j` of device `c` holds. -/
def org (c : Dev nD) (j : ℕ) : Dev nD := after c (far j)
/-- The sub-block in slot `j`. -/
def sub (j : ℕ) : ℕ := j / 2 % 4

/-- The hops the kernel runs. -/
def used (k : ℕ) : Bool := decide (k < 56) || k == 56 || k == 58 || k == 61 || k == 63
/-- The slots that are ever filled. -/
def good (j : ℕ) : Bool := decide (j < 8) || used (j - 8)
/-- The slots a block of the result is computed from. -/
def comp (j : ℕ) : Bool := (decide (j < 8) && j % 2 == 0) || (decide (8 ≤ j) && decide (j < 72) && used (j - 8))

set_option maxRecDepth 100000 in
/-- The block that a hop writes started at the same device as the one it reads, checked for each device and hop. -/
theorem org_peer_fin : ∀ (c : Fin 16) (k : Fin 64), org (peer c k.val) (k.val + 8) = org c k.val := by decide +kernel
/-- A hop carries the block on: the peer's destination slot holds what the source slot held. -/
theorem org_peer (c : Dev nD) {k : ℕ} (hk : k < 64) : org (peer c k) (k + 8) = org c k := org_peer_fin c ⟨k, hk⟩
/-- It is the same sub-block. -/
theorem sub_peer (k : ℕ) : sub (k + 8) = sub k := by unfold sub; omega

/-- One step right and one step left end where they began; -/
theorem after_left_right : ∀ c : Fin 16, after (after c 1) 15 = c := by decide +kernel
/-- so do one step left and one step right. -/
theorem after_right_left : ∀ c : Fin 16, after (after c 15) 1 = c := by decide +kernel
/-- The first slots hold the device's own block. -/
theorem org_self : ∀ (c : Fin 16) (j : Fin 8), org c j.val = c := by decide +kernel

/-- Even hops go to the right neighbour, -/
theorem peer_even (c : Dev nD) {k : ℕ} (h : k % 2 = 0) : peer c k = after c 1 := by unfold peer; rw [h]; rfl
/-- odd ones to the left. -/
theorem peer_odd (c : Dev nD) {k : ℕ} (h : k % 2 = 1) : peer c k = after c 15 := by unfold peer; rw [h]; rfl

/-- The ring's rotation, as a permutation of the devices. -/
def turn : Dev nD ≃ Dev nD := ⟨fun c => after c 1, fun c => after c 15, after_left_right, after_right_left⟩
/-- The peer of a hop, as a permutation of the devices. -/
def peerE (k : ℕ) : Dev nD ≃ Dev nD := if k % 2 = 0 then turn else turn.symm
/-- That permutation is `peer`. -/
theorem peerE_apply (k : ℕ) (c : Dev nD) : peerE k c = peer c k := by
  unfold peerE
  rcases Nat.mod_two_eq_zero_or_one k with h | h
  · rw [if_pos h, peer_even c h]; rfl
  · rw [if_neg (by omega), peer_odd c h]; rfl

set_option maxRecDepth 100000 in
/-- Every sub-block of every device's rows is computed from some slot, checked for each. -/
theorem reach_fin : ∀ (c b : Fin 16) (s : Fin 4), ∃ j : Fin 72, comp j.val = true ∧ org c j.val = b ∧ sub j.val = s.val := by decide +kernel
/-- Every sub-block of every device's rows is computed from some slot. -/
theorem reach (c b : Dev nD) {s : ℕ} (hs : s < 4) : ∃ j, j < 72 ∧ comp j = true ∧ org c j = b ∧ sub j = s :=
  let ⟨j, h⟩ := reach_fin c b ⟨s, hs⟩; ⟨j.val, j.isLt, h⟩

/-! ## The words the kernel reads -/

/-- The word a table holds for a place or a device. -/
def word (n : Fin 16) : BitVec 32 := BitVec.ofNat 32 n.val

/-- A device's word is its number. -/
theorem word_toNat (n : Fin 16) : (word n).toNat = n.val := by revert n; decide

end Cert.KernelIdeal.RingProof
-- ==== Proof.Cells.lean ====
/-
What the sixteen devices hold and signal: the slots of the receive buffers and their contents, the semaphore cells,
the schedule (who pays which cell, and what the payment hands over), what each device owes at launch and the levels
of the cells.

One round per cell. Each device's barrier cell is paid one unit by each neighbour, and a neighbour's unit hands over
the neighbour's slots this device's hops write. A hop's send cell is paid when the hop has left the source slot and
hands half of it back; its receive cell is paid on the peer when the block has landed and hands the peer its slot with
the block in it.
-/
module

public import proofs.«01_k».proof.Proof.Ring

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's -/

/-- The ring's ghost state: which units of each semaphore's rounds are paid, taken and still to come. -/
abbrev UB : Type := URounds (GSem nD τ sig) Bool
/-- The whole ghost state: the pipeline's beside the ring's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The ring's part of the ghost state. -/
abbrev ER : Emb UB (MT nD τ sig Unit (Elt F) ℕ UU ℕ) := embR

/-! ## The buffers -/

/-- The device's rows of `x`. -/
abbrev xM : Memref sig .tc .vmem S256x4096 .fp8e5m2 := Memref.whole cc0_stg0_0
/-- The device's columns of the weights. -/
abbrev wM : Memref sig .tc .vmem S4096x512 .fp8e5m2 := Memref.whole cc0_stg1_0
/-- The scale of `x`. -/
abbrev sxM : Memref sig .tc .smem S1 .f32 := Memref.whole cc0_stg2_0
/-- The scale of the weights. -/
abbrev swM : Memref sig .tc .smem S1 .f32 := Memref.whole cc0_stg3_0
/-- The table of the devices in the order of the cycle. -/
abbrev hamM : Memref sig .tc .smem S16 .i32 := Memref.whole cc0_stg4_0
/-- The table of each device's place on the cycle. -/
abbrev posM : Memref sig .tc .smem S16 .i32 := Memref.whole cc0_stg5_0
/-- The result's columns. -/
abbrev oM : Memref sig .tc .vmem S4096x512 .f32 := Memref.whole cc0_stg6_0
/-- The slots of the right-going hops. -/
abbrev rM : Memref sig .tc .vmem S9x4x64x4096 .fp8e5m2 := Memref.whole cc0_scratch0
/-- The slots of the left-going hops. -/
abbrev lM : Memref sig .tc .vmem S9x4x64x4096 .fp8e5m2 := Memref.whole cc0_scratch1
/-- The kernel's own copy of the weights. -/
abbrev wqM : Memref sig .tc .vmem S4096x512 .fp8e5m2 := Memref.whole cc0_scratch2

/-- A slot lies inside its buffer. -/
theorem slot_inb (j : ℕ) : ∀ a : Fin 4, (![j / 8 % 9, j / 2 % 4, 0, 0] : Fin 4 → ℕ) a + S1x1x64x4096.size a ≤ S9x4x64x4096.size a := by
  intro a
  have h1 := Nat.mod_lt (j / 8) (show 0 < 9 by decide)
  have h2 := Nat.mod_lt (j / 2) (show 0 < 4 by decide)
  fin_cases a
  · show j / 8 % 9 + 1 ≤ 9; omega
  · show j / 2 % 4 + 1 ≤ 4; omega
  · exact le_refl 64
  · exact le_refl 4096

set_option backward.proofsInPublic true in
/-- Slot `j`'s rectangle of its buffer. -/
abbrev slotR (j : ℕ) : Rect S9x4x64x4096 := Rect.unit (s := S9x4x64x4096) ![j / 8 % 9, j / 2 % 4, 0, 0] S1x1x64x4096.size (slot_inb j)
/-- The buffer slot `j` is in. -/
abbrev bufM (j : ℕ) : Memref sig .tc .vmem S9x4x64x4096 .fp8e5m2 := bif j % 2 == 0 then rM else lM
/-- Slot `j`, as the loads and stores address it. -/
abbrev sl (j : ℕ) : Memref sig .tc .vmem S1x1x64x4096 .fp8e5m2 := (bufM j).slice (slotR j) (fun _ => rfl)
/-- Slot `j`, as the hops address it. -/
abbrev sq (j : ℕ) : Memref sig .tc .vmem S64x4096 .fp8e5m2 := (sl j).squeeze S64x4096 squeezes_S1x1x64x4096_S64x4096

/-- The credit of a sub-block. -/
abbrev N : ℕ := (sq 0).view.dmaCredit
/-- A sub-block's credit is not zero. -/
theorem N_pos : 0 < N := View.dmaCredit_pos _ (by decide)
/-- Every slot has the same credit, a sub-block's. -/
theorem credit (j : ℕ) : (sq j).view.dmaCredit = N := by
  have h : j % 2 = 0 ∨ j % 2 = 1 := Nat.mod_two_eq_zero_or_one j
  rcases h with h | h <;> (unfold sq sl bufM; rw [h])

/-! ## The cells -/

/-- The runtime's barrier semaphore. -/
abbrev barS : Sem sig := (SemArray.scalar (sig.barrier 0 rfl) : Sems sig S_).sem

set_option backward.proofsInPublic true in
/-- The `i`-th of the kernel's own transfer semaphores. -/
def own (i : Fin 128) : DmaSem sig := ⟨7 + i.val, by have := i.isLt; show 7 + i.val < 135; omega⟩
set_option backward.proofsInPublic true in
/-- Which of them is hop `k`'s send semaphore. -/
def sI (k : ℕ) : Fin 128 := ⟨64 * (k % 2) + 4 * (k / 8 % 8) + k / 2 % 4, by omega⟩
set_option backward.proofsInPublic true in
/-- Which of them is hop `k`'s receive semaphore. -/
def rI (k : ℕ) : Fin 128 := ⟨64 * (k % 2) + 32 + 4 * (k / 8 % 8) + k / 2 % 4, by omega⟩
/-- The hop a semaphore belongs to. -/
def hopOf (i : Fin 128) : ℕ := 8 * (i.val % 32 / 4) + 2 * (i.val % 4) + i.val / 64
/-- Whether a semaphore is a receive semaphore. -/
def isRecv (i : Fin 128) : Bool := i.val / 32 % 2 == 1

/-- The send semaphore of hop `k`. -/
abbrev sS (k : ℕ) : DmaSem sig := own (sI k)
/-- The receive semaphore of hop `k`. -/
abbrev rS (k : ℕ) : DmaSem sig := own (rI k)

/-- The kernel's own semaphores are all different. -/
theorem own_inj : Function.Injective own := fun i j h => Fin.ext (by have := congrArg Fin.val h; simp only [own] at this; omega)

set_option maxRecDepth 4000 in
/-- The hop and the direction of each hop's two semaphores, read back from their numbers. -/
theorem sI_facts : ∀ k : Fin 64, hopOf (sI k.val) = k.val ∧ hopOf (rI k.val) = k.val ∧ isRecv (sI k.val) = false ∧ isRecv (rI k.val) = true := by
  decide +kernel
/-- The send semaphore of hop `k` is of hop `k`. -/
theorem hopOf_sI {k : ℕ} (hk : k < 64) : hopOf (sI k) = k := (sI_facts ⟨k, hk⟩).1
/-- The receive semaphore of hop `k` is of hop `k`. -/
theorem hopOf_rI {k : ℕ} (hk : k < 64) : hopOf (rI k) = k := (sI_facts ⟨k, hk⟩).2.1
/-- A send semaphore is not a receive semaphore. -/
theorem isRecv_sI {k : ℕ} (hk : k < 64) : isRecv (sI k) = false := (sI_facts ⟨k, hk⟩).2.2.1
/-- A receive semaphore is one. -/
theorem isRecv_rI {k : ℕ} (hk : k < 64) : isRecv (rI k) = true := (sI_facts ⟨k, hk⟩).2.2.2
/-- There are 64 hops. -/
theorem hopOf_lt (i : Fin 128) : hopOf i < 64 := by have := i.isLt; simp only [hopOf]; omega
/-- Each of the 128 semaphores is the send or the receive semaphore of its hop. -/
theorem own_facts : ∀ i : Fin 128, (isRecv i = false → sI (hopOf i) = i) ∧ (isRecv i = true → rI (hopOf i) = i) := by decide +kernel
/-- A semaphore that does not receive is its hop's send semaphore. -/
theorem eq_sI {i : Fin 128} (h : isRecv i = false) : sI (hopOf i) = i := (own_facts i).1 h
/-- A semaphore that receives is its hop's receive semaphore. -/
theorem eq_rI {i : Fin 128} (h : isRecv i = true) : rI (hopOf i) = i := (own_facts i).2 h

/-- Device `c`'s barrier cell. -/
abbrev barC (c : Dev nD) : GSem nD τ sig := ((c : Thread nD τ), .reg barS)
/-- Device `c`'s send cell of hop `k`. -/
abbrev sC (c : Dev nD) (k : ℕ) : GSem nD τ sig := ((c : Thread nD τ), .dma (sS k))
/-- Device `c`'s receive cell of hop `k`. -/
abbrev rC (c : Dev nD) (k : ℕ) : GSem nD τ sig := ((c : Thread nD τ), .dma (rS k))

/-- The kernel's own semaphores. -/
abbrev osem (i : Fin 128) : SemLoc sig := .dma (own i)

set_option backward.proofsInPublic true in
/-- What a transfer semaphore is among the kernel's own: none for the seven of the pipeline. -/
def ownOf (q : DmaSem sig) : Option (Fin 128) := if h : 7 ≤ q.val then some ⟨q.val - 7, by have : q.val < 135 := q.isLt; omega⟩ else none
/-- The number of one of the kernel's own semaphores, read back. -/
theorem ownOf_own (i : Fin 128) : ownOf (own i) = some i := by
  unfold ownOf; rw [dif_pos (by show 7 ≤ 7 + i.val; omega)]
  exact congrArg some (Fin.ext (by show 7 + i.val - 7 = i.val; omega))

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- Device `c`'s rows of `x`, as staged. -/
def xC (c : Dev nD) : (cc0_stg0_0 : Ref sig .tc).ty.Contents (Elt F) := iblk m c 0 t0_0
/-- The device's columns of the weights, as staged. -/
def wC (c : Dev nD) : (cc0_stg1_0 : Ref sig .tc).ty.Contents (Elt F) := iblk m c 1 t0_0
/-- The scale of `x`, as staged. -/
def sxC (c : Dev nD) : (cc0_stg2_0 : Ref sig .tc).ty.Contents (Elt F) := iblk m c 2 t0_0
/-- The scale of the weights, as staged. -/
def swC (c : Dev nD) : (cc0_stg3_0 : Ref sig .tc).ty.Contents (Elt F) := iblk m c 3 t0_0
/-- The cycle's table, as staged. -/
def hamC (c : Dev nD) : (cc0_stg4_0 : Ref sig .tc).ty.Contents (Elt F) := iblk m c 4 t0_0
/-- The table of places, as staged. -/
def posC (c : Dev nD) : (cc0_stg5_0 : Ref sig .tc).ty.Contents (Elt F) := iblk m c 5 t0_0

/-- A sub-block's rows lie inside the device's rows. -/
theorem xrow_inb (s : ℕ) : ∀ a : Fin 2, (![64 * (s % 4), 0] : Fin 2 → ℕ) a + S64x4096.size a ≤ S256x4096.size a := by
  intro a
  have h2 := Nat.mod_lt s (show 0 < 4 by decide)
  fin_cases a
  · show 64 * (s % 4) + 64 ≤ 256; omega
  · exact le_refl 4096

set_option backward.proofsInPublic true in
/-- Rows `64 s` to `64 s + 63` of `x`. -/
abbrev xR (s : ℕ) : Rect S256x4096 := Rect.unit (s := S256x4096) ![64 * (s % 4), 0] S64x4096.size (xrow_inb s)
/-- Sub-block `s` of device `o`'s rows, as loaded. -/
def xB (o : Dev nD) (s : ℕ) : Vec F S64x4096 .fp8e5m2 := xM.view.readAt (Elt F) (xR s).toLoadRect (xC m o)
/-- Sub-block `s` of device `o`'s rows, as it stands in a slot. -/
def yB (o : Dev nD) (s : ℕ) : Vec F S1x1x64x4096 .fp8e5m2 := k0_pay2 (xB m o s)
/-- What slot `j` of device `c` holds. -/
def slC (c : Dev nD) (j : ℕ) : Vec F S1x1x64x4096 .fp8e5m2 := yB m (org c j) (sub j)

/-- A hop carries the block on: what it writes at the peer is what its source slot held. -/
theorem slC_peer (c : Dev nD) {k : ℕ} (hk : k < 64) : slC m (peer c k) (k + 8) = slC m c k := by
  unfold slC; rw [org_peer c hk, sub_peer]

/-- Half of a buffer's share: what is kept while a hop reads the slot, and what is lent. -/
abbrev keep : PosShare TreeShare := fullShare.left
/-- The half that is lent to a hop. -/
abbrev lent : PosShare TreeShare := fullShare.right

/-- Slot `j` of device `c` whole, at contents not chosen. -/
def freeSlot (c : Dev nD) (j : ℕ) : sProp 𝕄 := iprop(∃ X, owns (c : Thread nD τ) (sl j) fullShare X)

/-! ## The schedule -/

/-- The hops of one direction that are run. -/
def hops (d : Bool) : Finset ℕ := (Finset.range 64).filter fun k => used k = true ∧ (k % 2 = 0 ↔ d = true)

/-- What a neighbour's unit on the barrier hands device `c`: of each hop of `c`'s to that neighbour, the slot it writes,
    and that the neighbour has opened the hop's receive cell. -/
def barPay (c : Dev nD) (d : Bool) : sProp 𝕄 :=
  bigSep (hops d) fun k => iprop(freeSlot (peer c k) (k + 8) ∗ reached ER (rC (peer c k) k) 0)
/-- What a hop hands the device it reaches: its slot with the block in it. -/
def recvPay (c : Dev nD) (k : ℕ) : sProp 𝕄 := owns (c : Thread nD τ) (sl (k + 8)) fullShare (slC m c (k + 8))
/-- What a hop hands its own device when it has left: the lent half of the source slot. -/
def sendPay (c : Dev nD) (k : ℕ) : sProp 𝕄 := owns (c : Thread nD τ) (sl k) lent (slC m c k)

/-- What a unit on each semaphore hands the device that waits there. -/
def payOf (c : Dev nD) (d : Bool) : SemLoc sig → sProp 𝕄
  | .reg _ => barPay c d
  | .dma q => match ownOf q with
    | none => iprop(emp)
    | some i => bif isRecv i then recvPay m c (hopOf i) else sendPay m c (hopOf i)

/-- The units that are paid on each semaphore: two on the barrier, one on each counter of a hop that is run. -/
def dutiesOf : SemLoc sig → Finset Bool
  | .reg q => if q = barS then Finset.univ else ∅
  | .dma q => match ownOf q with
    | none => ∅
    | some i => bif used (hopOf i) then {false} else ∅

/-- One round: two duties of one unit on every barrier cell, one of a sub-block's credit on the cells of the hops run. -/
def ringRd : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := payOf m g.1.1 d g.2
  amount_pos g _ _ _ := by
    rcases g with ⟨t, q | q⟩
    · exact Nat.one_pos
    · exact N_pos

/-- A free slot may stand in an invariant. -/
instance freeSlot_storable (c : Dev nD) (j : ℕ) : BI.Storable (upEmb : UEmb _ 𝕄) (freeSlot (F := F) c j) := by
  unfold freeSlot; infer_instance

/-- So may whatever a unit of the schedule hands over. -/
instance ringRd_payload_storable (g : GSem nD τ sig) (r : ℕ) (d : Bool) :
    BI.Storable (upEmb : UEmb _ 𝕄) ((ringRd (F := F) m).payload g r d) := by
  show BI.Storable upEmb (payOf m g.1.1 d g.2)
  rcases g with ⟨t, q | q⟩
  · show BI.Storable upEmb (barPay t.1 d); unfold barPay; infer_instance
  · show BI.Storable upEmb (match ownOf q with
      | none => iprop(emp)
      | some i => bif isRecv i then recvPay m t.1 (hopOf i) else sendPay m t.1 (hopOf i))
    cases ownOf q with
    | none => infer_instance
    | some i =>
      show BI.Storable upEmb (bif isRecv i then recvPay m t.1 (hopOf i) else sendPay m t.1 (hopOf i))
      cases isRecv i
      · show BI.Storable upEmb (sendPay m t.1 (hopOf i)); unfold sendPay; infer_instance
      · show BI.Storable upEmb (recvPay m t.1 (hopOf i)); unfold recvPay; infer_instance

section Sched
variable (c : Dev nD)

/-- The units paid on one of the kernel's own semaphores: one if its hop is run, else none. -/
theorem duties_own {i : Fin 128} : (ringRd (F := F) m).duties ((c : Thread nD τ), osem i) 0 = bif used (hopOf i) then {false} else ∅ := by
  show (if (0 : ℕ) = 0 ∧ ((c : Thread nD τ).2 = .tc) then (match ownOf (own i) with
    | none => ∅
    | some i => bif used (hopOf i) then {false} else ∅) else ∅) = _
  rw [if_pos ⟨rfl, rfl⟩, ownOf_own]
/-- One unit is paid on the send cell of a hop that is run. -/
theorem duties_send {k : ℕ} (hk : k < 64) (hu : used k = true) : (ringRd (F := F) m).duties (sC c k) 0 = {false} := by
  rw [duties_own, hopOf_sI hk, hu]; rfl
/-- One unit is paid on the receive cell of a hop that is run. -/
theorem duties_recv {k : ℕ} (hk : k < 64) (hu : used k = true) : (ringRd (F := F) m).duties (rC c k) 0 = {false} := by
  rw [duties_own, hopOf_rI hk, hu]; rfl
/-- Two units are paid on the barrier cell. -/
theorem duties_bar : (ringRd (F := F) m).duties (barC c) 0 = Finset.univ := by
  show (if (0 : ℕ) = 0 ∧ ((c : Thread nD τ).2 = .tc) then (if barS = barS then Finset.univ else ∅) else ∅) = _
  rw [if_pos ⟨rfl, rfl⟩, if_pos rfl]
/-- After the first round nothing is paid anywhere. -/
theorem duties_later (g : GSem nD τ sig) : ∀ r, 1 ≤ r → (ringRd (F := F) m).duties g r = ∅ :=
  fun r hr => if_neg fun h => by omega
/-- The cells of the hops not run have no duty at all. -/
theorem duties_unused {i : Fin 128} (hu : used (hopOf i) = false) : ∀ r, 0 ≤ r → (ringRd (F := F) m).duties ((c : Thread nD τ), osem i) r = ∅ := by
  intro r _
  rcases Nat.eq_zero_or_pos r with rfl | h
  · rw [duties_own, hu]; rfl
  · exact duties_later m _ r h

/-- What a unit on one of the kernel's own semaphores hands over. -/
theorem payload_own (i : Fin 128) (d : Bool) : (ringRd (F := F) m).payload ((c : Thread nD τ), osem i) 0 d
    = bif isRecv i then recvPay m c (hopOf i) else sendPay m c (hopOf i) := by
  show (match ownOf (own i) with
    | none => iprop(emp)
    | some i => bif isRecv i then recvPay m c (hopOf i) else sendPay m c (hopOf i)) = _
  rw [ownOf_own]
/-- The unit on a send cell hands back the lent half of the source slot. -/
theorem payload_send {k : ℕ} (hk : k < 64) (d : Bool) : (ringRd (F := F) m).payload (sC c k) 0 d = sendPay m c k := by
  rw [payload_own, isRecv_sI hk, hopOf_sI hk]; rfl
/-- The unit on a receive cell hands over the filled slot. -/
theorem payload_recv {k : ℕ} (hk : k < 64) (d : Bool) : (ringRd (F := F) m).payload (rC c k) 0 d = recvPay m c k := by
  rw [payload_own, isRecv_rI hk, hopOf_rI hk]; rfl

/-- The barrier cell expects 2. -/
theorem expect_bar : (ringRd (F := F) m).expect (barC c) 0 = 2 := by
  unfold Schedule.expect Schedule.amountOf
  rw [duties_bar]; rfl
/-- A send cell expects a sub-block's credit. -/
theorem expect_send {k : ℕ} (hk : k < 64) (hu : used k = true) : (ringRd (F := F) m).expect (sC c k) 0 = N := by
  unfold Schedule.expect Schedule.amountOf; rw [duties_send m c hk hu, Finset.sum_singleton]; rfl
/-- A receive cell expects a sub-block's credit. -/
theorem expect_recv {k : ℕ} (hk : k < 64) (hu : used k = true) : (ringRd (F := F) m).expect (rC c k) 0 = N := by
  unfold Schedule.expect Schedule.amountOf; rw [duties_recv m c hk hu, Finset.sum_singleton]; rfl

/-- The whole of a barrier cell's round: both neighbours' slots. -/
theorem rest_bar : bigSep ((ringRd (F := F) m).duties (barC c) 0 \ ∅) (fun d => (ringRd (F := F) m).payload (barC c) 0 d)
    = iprop(barPay c false ∗ barPay c true) := by
  rw [Finset.sdiff_empty, duties_bar, bigSep_univ_eq_bigSepL [false, true] (by decide) (by decide), bigSepL_cons_cons, bigSepL_singleton]
  rfl
/-- All that a send cell hands over is the lent half. -/
theorem rest_send {k : ℕ} (hk : k < 64) (hu : used k = true) :
    bigSep ((ringRd (F := F) m).duties (sC c k) 0 \ ∅) (fun d => (ringRd (F := F) m).payload (sC c k) 0 d) = sendPay m c k := by
  rw [Finset.sdiff_empty, duties_send m c hk hu, bigSep_singleton, payload_send m c hk]
/-- All that a receive cell hands over is the filled slot. -/
theorem rest_recv {k : ℕ} (hk : k < 64) (hu : used k = true) :
    bigSep ((ringRd (F := F) m).duties (rC c k) 0 \ ∅) (fun d => (ringRd (F := F) m).payload (rC c k) 0 d) = recvPay m c k := by
  rw [Finset.sdiff_empty, duties_recv m c hk hu, bigSep_singleton, payload_recv m c hk]

end Sched

/-! ## What each device owes; the levels -/

/-- What device `c` owes when `ns` hops have been counted off: a sub-block's credit at the receive cell of each hop still to be run. -/
def Ow (c : Dev nD) (ns : ℕ) : CellTallies nD τ sig Unit :=
  ∑ k ∈ (Finset.range 64).filter (fun k => used k = true ∧ ns ≤ k), tallyAt (rC (peer c k) k) () N
/-- What it owes between its two signals: those, and one unit to the right neighbour's barrier cell. -/
def O₁ (c : Dev nD) : CellTallies nD τ sig Unit := Ow c 0 + tallyAt (barC (after c 1)) () 1
/-- What it owes at launch: one unit to the left neighbour's barrier cell as well. -/
def O₀ (c : Dev nD) : CellTallies nD τ sig Unit := O₁ c + tallyAt (barC (after c 15)) () 1

/-- The cells that take part: those of the devices' TensorCores. -/
def L (g : GSem nD τ sig) : Finset Unit := if g.1.2 = .tc then {()} else ∅
/-- The levels: the barrier at 1, hop `k`'s receive cell at `2 + k`, everything else at 0. -/
def lvOf : SemLoc sig → ℕ
  | .reg _ => 1
  | .dma q => match ownOf q with
    | none => 0
    | some i => bif isRecv i then 2 + hopOf i else 0
/-- A cell's level is its semaphore's. -/
def lv (g : GSem nD τ sig) (_ : Unit) : ℕ := lvOf g.2

/-- No other core has a cell that takes part. -/
theorem L_of_ne (g : GSem nD τ sig) (h : g.1.2 ≠ .tc) : L g = ∅ := if_neg h
/-- Every cell of a TensorCore takes part. -/
theorem L_tc (c : Dev nD) (sm : SemLoc sig) : L ((c : Thread nD τ), sm) = {()} := if_pos rfl

/-- The level of one of the kernel's own cells. -/
theorem lv_own (c : Dev nD) (i : Fin 128) : lv ((c : Thread nD τ), osem i) () = bif isRecv i then 2 + hopOf i else 0 := by
  show (match ownOf (own i) with | none => 0 | some i => bif isRecv i then 2 + hopOf i else 0) = _
  rw [ownOf_own]
/-- A send cell is at level 0. -/
theorem lv_send (c : Dev nD) {k : ℕ} (hk : k < 64) : lv (sC c k) () = 0 := by rw [lv_own, isRecv_sI hk]; rfl
/-- The receive cell of hop `k` is at level `2 + k`. -/
theorem lv_recv (c : Dev nD) {k : ℕ} (hk : k < 64) : lv (rC c k) () = 2 + k := by rw [lv_own, isRecv_rI hk, hopOf_rI hk]; rfl

/-- A sum of tallies, read at a cell. -/
theorem sum_tally {ι : Type} (s : Finset ι) (f : ι → CellTallies nD τ sig Unit) (g : GSem nD τ sig) (u : Unit) :
    (∑ k ∈ s, f k) g u = ∑ k ∈ s, f k g u := by
  rw [Finset.sum_apply, Finsupp.finset_sum_apply]

/-- What is owed is owed at the receive cells of hops still to be run. -/
theorem Ow_pos {c : Dev nD} {ns : ℕ} {g : GSem nD τ sig} {u : Unit} (h : 0 < Ow c ns g u) :
    ∃ k, k < 64 ∧ used k = true ∧ ns ≤ k ∧ g = rC (peer c k) k := by
  unfold Ow at h
  rw [sum_tally] at h
  obtain ⟨k, hk, hp⟩ := Finset.exists_ne_zero_of_sum_ne_zero (Nat.pos_iff_ne_zero.mp h)
  rw [Finset.mem_filter, Finset.mem_range] at hk
  rw [tallyAt_apply] at hp
  by_cases hg : g = rC (peer c k) k ∧ u = ()
  · exact ⟨k, hk.1, hk.2.1, hk.2.2, hg.1⟩
  · rw [if_neg hg] at hp; exact absurd rfl hp

/-- What is owed before hop `k` is what is owed after it and hop `k`'s own credit. -/
theorem Ow_step (c : Dev nD) {ns k : ℕ} (hk : k < 64) (hu : used k = true) (hle : ns ≤ k) (hgap : ∀ j < k, ns ≤ j → used j = false) :
    Ow c ns = Ow c (k + 1) + tallyAt (rC (peer c k) k) () N := by
  unfold Ow
  have hset : (Finset.range 64).filter (fun j => used j = true ∧ ns ≤ j)
      = insert k ((Finset.range 64).filter (fun j => used j = true ∧ k + 1 ≤ j)) := by
    ext j
    rw [Finset.mem_insert, Finset.mem_filter, Finset.mem_filter, Finset.mem_range]
    constructor
    · rintro ⟨h1, h2, h3⟩
      by_cases hjk : j = k
      · exact Or.inl hjk
      · refine Or.inr ⟨h1, h2, ?_⟩
        by_contra hlt
        have := hgap j (by omega) h3
        rw [h2] at this; exact Bool.noConfusion this
    · rintro (rfl | ⟨h1, h2, h3⟩)
      · exact ⟨hk, hu, hle⟩
      · exact ⟨h1, h2, by omega⟩
  rw [hset, Finset.sum_insert (by rw [Finset.mem_filter]; omega), add_comm]

/-- A device may wait on a cell of its own whose level is below the receive cell of every hop still to be run. -/
theorem mayWait_low (c : Dev nD) (sm : SemLoc sig) (ns : ℕ) (h : lvOf sm < 2 + ns) :
    (levAts L lv : sProp 𝕄) ⊢ MayWait (c : Thread nD τ) sm () (Ow c ns) :=
  MayOwe.of_cut (L := L) (lev := lv) (1 + ns) (fun p hp => by rw [Finset.mem_singleton.mp hp, L_tc]; exact Finset.mem_singleton_self _)
    (fun g u hg => by obtain ⟨k, _, _, _, rfl⟩ := Ow_pos hg; exact Finset.mem_singleton_self _)
    (fun p hp => by rw [Finset.mem_singleton.mp hp]; show lvOf sm ≤ 1 + ns; omega)
    (fun g u hg => by obtain ⟨k, hk, _, hle, rfl⟩ := Ow_pos hg; rw [lv_recv _ hk]; omega)

/-- What a device owes at launch is owed at receive cells of its hops and at its neighbours' barrier cells alone. -/
theorem O₀_pos {c : Dev nD} {g : GSem nD τ sig} {u : Unit} (h : 0 < O₀ c g u) :
    (∃ k, k < 64 ∧ g = rC (peer c k) k) ∨ g = barC (after c 1) ∨ g = barC (after c 15) := by
  unfold O₀ O₁ at h
  rw [Pi.add_apply, Finsupp.add_apply, Pi.add_apply, Finsupp.add_apply, tallyAt_apply, tallyAt_apply] at h
  by_cases h1 : 0 < Ow c 0 g u
  · obtain ⟨k, hk, _, _, hg⟩ := Ow_pos h1; exact Or.inl ⟨k, hk, hg⟩
  · by_contra hn
    rw [not_or, not_or] at hn
    rw [if_neg (fun h' => hn.2.1 h'.1), if_neg (fun h' => hn.2.2 h'.1)] at h
    omega

/-- The pipeline's own waits are below everything owed. -/
theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, _, rfl⟩ | rfl | rfl <;> exact Finset.mem_singleton_self _)
      (fun p hp => by
        rw [Finset.mem_singleton.mp hp]
        show (match ownOf q with | none => 0 | some i => bif isRecv i then 2 + hopOf i else 0) ≤ 0
        rw [show ownOf q = none from dif_neg (by omega)])
      (fun g u hg => by
        rcases O₀_pos hg with ⟨k, hk, rfl⟩ | rfl | rfl
        · rw [lv_recv _ hk]; omega
        · exact Nat.one_pos
        · exact Nat.one_pos)
  · rw [MayWait_zero]; iintro -; iempintro

end Cert.KernelIdeal.RingProof
-- ==== Proof.State.lean ====
/-
What a device holds between two steps of the kernel: the cells' records, what it still owes, its staged inputs, the
copy of the weights, the result so far, its side of every hop, and its slots.
-/
module

public import proofs.«01_k».proof.Proof.Cells
public import Idealize.ShloMosaic.Lib.Pointwise.Index

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells' records -/

/-- The barrier cells, one for each device. -/
def barEmb : Dev nD ↪ GSem nD τ sig := ⟨fun c => barC c, fun _ _ h => congrArg (fun g : GSem nD τ sig => g.1.1) h⟩
/-- The kernel's own semaphores are all different. -/
theorem osem_inj : Function.Injective (osem : Fin 128 → SemLoc sig) := fun i j h => own_inj (SemLoc.dma.inj h)
/-- The kernel's own cells, 128 for each device. -/
def ownEmb : Dev nD × Fin 128 ↪ GSem nD τ sig :=
  ⟨fun ci => ((ci.1 : Thread nD τ), osem ci.2), fun _ _ h =>
    Prod.ext (congrArg (fun g : GSem nD τ sig => g.1.1) h) (osem_inj (congrArg Prod.snd h))⟩

/-- All barrier cells. -/
abbrev barCells : Finset (GSem nD τ sig) := Finset.univ.map barEmb
/-- All of the kernel's own cells. -/
abbrev ownCells : Finset (GSem nD τ sig) := Finset.univ.map ownEmb

variable (m : (ℓ : Loc nD τ sig) → Buf (Elt F) ℓ)

/-- What every device may consult: the invariant of every cell, and that every barrier cell has been opened. -/
def records (K : GSem nD τ sig → ℕ) : sProp 𝕄 :=
  iprop((bigSep (barCells ∪ ownCells) fun g => cellInv ER (ringRd m) (K g) g) ∗ bigSep barCells fun g => reached ER g 0)

/-- The records may be read again and again. -/
instance records_persistent (K : GSem nD τ sig → ℕ) : BI.Persistent (records m K) := by unfold records; infer_instance

/-- Among them is each barrier cell's invariant, -/
theorem records_bar (K : GSem nD τ sig → ℕ) (c : Dev nD) : records m K ⊢ cellInv ER (ringRd m) (K (barC c)) (barC c) := by
  unfold records
  exact sep_elim_left.trans (bigSep_elim (Finset.mem_union_left _ (Finset.mem_map_of_mem barEmb (Finset.mem_univ c))))
/-- that of each of the kernel's own cells, -/
theorem records_own (K : GSem nD τ sig → ℕ) (c : Dev nD) (i : Fin 128) :
    records m K ⊢ cellInv ER (ringRd m) (K ((c : Thread nD τ), osem i)) ((c : Thread nD τ), osem i) := by
  unfold records
  exact sep_elim_left.trans (bigSep_elim (Finset.mem_union_right _ (Finset.mem_map_of_mem ownEmb (Finset.mem_univ (c, i)))))
/-- and that each barrier cell is at its round. -/
theorem records_reached (K : GSem nD τ sig → ℕ) (c : Dev nD) : records m K ⊢ reached ER (barC c) 0 := by
  unfold records
  exact sep_elim_right.trans (bigSep_elim (Finset.mem_map_of_mem barEmb (Finset.mem_univ c)))

/-! ## Families over the hops and the slots -/

/-- One member of a family is taken out and, changed, put back, nothing else of the family having changed. -/
theorem fam_open {n i : ℕ} (hi : i < n) {Φ Ψ : ℕ → sProp 𝕄} (h : ∀ j, j < n → j ≠ i → Φ j = Ψ j) :
    bigSep (Finset.range n) Φ ⊢ iprop(Φ i ∗ (Ψ i -∗ bigSep (Finset.range n) Ψ)) := by
  rw [bigSep_erase (Finset.mem_range.mpr hi) (Φ := Φ), bigSep_erase (Finset.mem_range.mpr hi) (Φ := Ψ),
    bigSep_congr (s := (Finset.range n).erase i) (Ψ := Ψ) fun j hj =>
      h j (Finset.mem_range.mp (Finset.mem_of_mem_erase hj)) (Finset.ne_of_mem_erase hj)]
  show iprop(Φ i ∗ bigSep ((Finset.range n).erase i) Ψ) ⊢ iprop(Φ i ∗ (Ψ i -∗ (Ψ i ∗ bigSep ((Finset.range n).erase i) Ψ)))
  iintro ⟨H, Hr⟩
  isplitl [H]; · iexact H
  iintro H'
  isplitl [H'] <;> iassumption

/-- A family nothing of which changes. -/
theorem fam_same {n : ℕ} {Φ Ψ : ℕ → sProp 𝕄} (h : ∀ j, j < n → Φ j = Ψ j) :
    bigSep (Finset.range n) Φ = bigSep (Finset.range n) Ψ :=
  bigSep_congr fun j hj => h j (Finset.mem_range.mp hj)

/-- Device `c`'s side of hop `k`, when `ns` hops have been started and `nw` have left: before the start the rights to
    start it, and the peer's slot; then the right to wait for it to leave; then its send counter at zero. -/
def hopRes (c : Dev nD) (ns nw k : ℕ) : sProp 𝕄 :=
  if used k = true ∧ nw ≤ k then
    if k < ns then iprop(cred (tallyAt (sC c k) () N) ∗ atPos ER (sC c k) 0 ∅ 0)
    else iprop(dutyTok ER (sC c k) 0 false ∗ reached ER (sC c k) 0 ∗ dutyTok ER (rC (peer c k) k) 0 false
      ∗ reached ER (rC (peer c k) k) 0 ∗ freeSlot (peer c k) (k + 8) ∗ atPos ER (sC c k) 0 ∅ 0)
  else semVal (sC c k) 0

/-- What device `c` holds of hop `k` to it: the right to wait for it, then its receive counter at zero. -/
def recvRes (c : Dev nD) (na k : ℕ) : sProp 𝕄 :=
  if used k = true ∧ na ≤ k + 8 then iprop(cred (tallyAt (rC c k) () N) ∗ atPos ER (rC c k) 0 ∅ 0)
  else semVal (rC c k) 0

/-- What device `c` holds of its slot `j`, when the slots below `na` have been filled. -/
def slotRes (c : Dev nD) (na ns nw j : ℕ) : sProp 𝕄 :=
  if good j = true then
    if j < na then iprop(owns (c : Thread nD τ) (sl j) keep (slC m c j)
      ∗ (if j < 64 ∧ used j = true ∧ nw ≤ j ∧ j < ns then iprop(emp) else owns (c : Thread nD τ) (sl j) lent (slC m c j)))
    else if j < 8 then freeSlot c j else iprop(emp)
  else freeSlot c j

/-- Before a hop is started. -/
theorem hopRes_ready {c : Dev nD} {ns nw k : ℕ} (hu : used k = true) (h1 : nw ≤ k) (h2 : ns ≤ k) : hopRes (F := F) c ns nw k
    = iprop(dutyTok ER (sC c k) 0 false ∗ reached ER (sC c k) 0 ∗ dutyTok ER (rC (peer c k) k) 0 false
      ∗ reached ER (rC (peer c k) k) 0 ∗ freeSlot (peer c k) (k + 8) ∗ atPos ER (sC c k) 0 ∅ 0) := by
  unfold hopRes; rw [if_pos ⟨hu, h1⟩, if_neg (by omega)]
/-- Once it is started, until it is known to have left. -/
theorem hopRes_sent {c : Dev nD} {ns nw k : ℕ} (hu : used k = true) (h1 : nw ≤ k) (h2 : k < ns) : hopRes (F := F) c ns nw k
    = iprop(cred (tallyAt (sC c k) () N) ∗ atPos ER (sC c k) 0 ∅ 0) := by
  unfold hopRes; rw [if_pos ⟨hu, h1⟩, if_pos h2]
/-- Once it has left, or if it is not run. -/
theorem hopRes_left {c : Dev nD} {ns nw k : ℕ} (h : used k = true → k < nw) : hopRes (F := F) c ns nw k = semVal (sC c k) 0 := by
  unfold hopRes; rw [if_neg fun ⟨hu, h'⟩ => by have := h hu; omega]

/-- Before a hop to the device has landed. -/
theorem recvRes_due {c : Dev nD} {na k : ℕ} (hu : used k = true) (h1 : na ≤ k + 8) : recvRes (F := F) c na k
    = iprop(cred (tallyAt (rC c k) () N) ∗ atPos ER (rC c k) 0 ∅ 0) := by
  unfold recvRes; rw [if_pos ⟨hu, h1⟩]
/-- Once it has landed, or if it is not run. -/
theorem recvRes_come {c : Dev nD} {na k : ℕ} (h : used k = true → k + 8 < na) : recvRes (F := F) c na k = semVal (rC c k) 0 := by
  unfold recvRes; rw [if_neg fun ⟨hu, h'⟩ => by have := h hu; omega]

/-- A filled slot that no hop reads. -/
theorem slotRes_full {c : Dev nD} {na ns nw j : ℕ} (hg : good j = true) (h1 : j < na) (h2 : j < nw ∨ ns ≤ j ∨ used j = false ∨ 64 ≤ j) :
    slotRes m c na ns nw j = iprop(owns (c : Thread nD τ) (sl j) keep (slC m c j) ∗ owns (c : Thread nD τ) (sl j) lent (slC m c j)) := by
  have hn : ¬ (j < 64 ∧ used j = true ∧ nw ≤ j ∧ j < ns) := by
    rintro ⟨h, hu, h', h''⟩
    rcases h2 with h2 | h2 | h2 | h2
    · omega
    · omega
    · rw [hu] at h2; exact Bool.noConfusion h2
    · omega
  unfold slotRes
  rw [if_pos hg, if_pos h1, if_neg hn]
/-- A filled slot that a hop reads. -/
theorem slotRes_lent {c : Dev nD} {na ns nw j : ℕ} (hg : good j = true) (h1 : j < na) (h64 : j < 64) (hu : used j = true) (h2 : nw ≤ j) (h3 : j < ns) :
    slotRes m c na ns nw j = iprop(owns (c : Thread nD τ) (sl j) keep (slC m c j) ∗ emp) := by
  unfold slotRes
  rw [if_pos hg, if_pos h1, if_pos ⟨h64, hu, h2, h3⟩]
/-- One of the first slots before it is filled. -/
theorem slotRes_free {c : Dev nD} {na ns nw j : ℕ} (h1 : na ≤ j) (h : j < 8) : slotRes m c na ns nw j = freeSlot c j := by
  unfold slotRes
  rw [if_neg (show ¬ j < na by omega), if_pos h, ite_self]
/-- A slot that a hop is to fill is with the neighbour. -/
theorem slotRes_away {c : Dev nD} {na ns nw j : ℕ} (hg : good j = true) (h1 : na ≤ j) (h : 8 ≤ j) : slotRes m c na ns nw j = iprop(emp) := by
  unfold slotRes
  rw [if_pos hg, if_neg (by omega), if_neg (by omega)]

/-! ## A slot in halves -/

/-- A slot is split into what is kept and what may be lent, -/
theorem owns_halve (c : Dev nD) (j : ℕ) (X : Vec F S1x1x64x4096 .fp8e5m2) :
    (owns (c : Thread nD τ) (sl j) fullShare X : sProp 𝕄) ⊢ iprop(owns (c : Thread nD τ) (sl j) keep X ∗ owns (c : Thread nD τ) (sl j) lent X) := by
  unfold owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

/-- and made whole again. -/
theorem owns_unhalve (c : Dev nD) (j : ℕ) (X Y : Vec F S1x1x64x4096 .fp8e5m2) :
    iprop(owns (c : Thread nD τ) (sl j) keep X ∗ owns (c : Thread nD τ) (sl j) lent Y) ⊢ (owns (c : Thread nD τ) (sl j) fullShare X : sProp 𝕄) := by
  unfold owns
  iintro ⟨⟨%f, %hf, H1⟩, ⟨%g, %hg, H2⟩⟩
  ihave %hag := pointsTo_agree $$ [H1 H2]
  · isplitl [H1] <;> iassumption
  iexists f
  isplitr; · ipureintro; exact hf
  iapply (pointsTo_share (PosShare.mem_left_op_right fullShare)).2
  isplitl [H1]; · iexact H1
  rw [pointsTo_congr (f := f) (g := g) fun i hi => (hag i (Finset.mem_inter.mpr ⟨hi, hi⟩)).1]
  iexact H2

/-! ## What the result holds -/

variable (c : Dev nD)

/-- The weights as the multiplications read them. -/
def wqC : Vec F S4096x512 .fp8e5m2 := k0_pay14 (wM.view.readAt (Elt F) (Rect.unit (s := S4096x512) ![0, 0] S4096x512.size inb_S4096x512_S4096x512_0_0).toLoadRect (wC m c))
/-- The two scales as loaded, and their product. -/
def sx1 : Elt F .f32 := (sxM.access (Rect.unit (s := S1) ![0] S1.size inb_S1_S1_0)).read (Elt F) (sxC m c) (Shape.Idx.first (numel1_S1.symm ▸ Nat.one_pos))
/-- The scale of the weights, as read. -/
def sw1 : Elt F .f32 := (swM.access (Rect.unit (s := S1) ![0] S1.size inb_S1_S1_0)).read (Elt F) (swC m c) (Shape.Idx.first (numel1_S1.symm ▸ Nat.one_pos))
/-- The product of the two scales. -/
def scaleC : Elt F .f32 := k0_pay13 (sx1 m c) (sw1 m c)
/-- What device `c` computes of sub-block `s` of device `o`'s rows. -/
def outB (o : Dev nD) (s : ℕ) : FVec F S64x512 .f32 := k0_pay16 (scaleC m c) (yB m o s) (wqC m c)

/-- The blocks computed from the slots below `nc` stand in the result. -/
def Done (nc : ℕ) (f : (cc0_stg6_0 : Ref sig .tc).ty.Contents (Elt F)) : Prop :=
  ∀ j, j < nc → comp j = true → ∀ r : Fin 64, ∀ q : Fin 512, ∀ h : 256 * (org c j).val + 64 * sub j + r.val < 4096,
    f (ix2 ⟨256 * (org c j).val + 64 * sub j + r.val, h⟩ q) = outB m c (org c j) (sub j) (ix2 r q)

/-! ## The state -/

/-- The staged inputs. -/
def inputs : sProp 𝕄 :=
  iprop(owns (c : Thread nD τ) xM fullShare (xC m c) ∗ owns (c : Thread nD τ) wM fullShare (wC m c)
    ∗ owns (c : Thread nD τ) sxM fullShare (sxC m c) ∗ owns (c : Thread nD τ) swM fullShare (swC m c)
    ∗ owns (c : Thread nD τ) hamM fullShare (hamC m c) ∗ owns (c : Thread nD τ) posM fullShare (posC m c))
/-- The copy of the weights: made, or not yet. -/
def wqRes (b : Bool) : sProp 𝕄 := iprop(∃ X, ⌜b = true → X = wqC m c⌝ ∗ owns (c : Thread nD τ) wqM fullShare X)
/-- The result, with the blocks computed so far. -/
def outRes (nc : ℕ) : sProp 𝕄 := iprop(∃ f, ⌜Done m c nc f⌝ ∗ owns (c : Thread nD τ) oM fullShare f)

/-- Device `c` after the barrier, with the slots below `na` filled, the hops below `ns` started and those below `nw`
    left, the blocks of the slots below `nc` computed, and the weights copied or not. -/
def St (K : GSem nD τ sig → ℕ) (na ns nw nc : ℕ) (b : Bool) : sProp 𝕄 :=
  iprop(records m K ∗ levAts L lv ∗ (∃ W, owes (c : Thread nD τ) (Ow c ns) W) ∗ inputs m c ∗ wqRes m c b ∗ outRes m c nc
    ∗ bigSep (Finset.range 64) (hopRes c ns nw) ∗ bigSep (Finset.range 64) (recvRes c na)
    ∗ bigSep (Finset.range 72) (slotRes m c na ns nw) ∗ semVal (barC c) 0)

end Cert.KernelIdeal.RingProof
-- ==== Proof.Steps.lean ====
/-
The steps of the kernel: what each of its operations needs of a device's state and what it leaves.
-/
module

public import proofs.«01_k».proof.Proof.State

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The program has no loops to be measured. -/
abbrev 𝒱₀ : Variants := Variants.none

/-- Run by device `c` from what `P` grants, `p` runs without fault and leaves what `Q` says of its value. -/
def Does (c : Dev nD) (P : sProp 𝕄) {α : Type} (p : Prog (TpuEff nD τ sig (Elt F) Λ₀ .tc) α) (Q : α → sProp 𝕄) : Prop :=
  P ⊢ wp frame (wpE (defs₀ (F := F)) 𝒱₀ (c : Thread nD τ) none) Set.univ p Q

/-- The value is `v`, and `P` is granted. -/
def At {α : Type} (v : α) (P : sProp 𝕄) (a : α) : sProp 𝕄 := iprop(⌜a = v⌝ ∗ P)

namespace Does
variable {c : Dev nD} {α β : Type} {P P' : sProp (MT nD τ sig Unit (Elt F) ℕ UU ℕ)} {Q : β → sProp (MT nD τ sig Unit (Elt F) ℕ UU ℕ)}

/-- What `Does` says, in the logic. -/
theorem run {p : Prog (TpuEff nD τ sig (Elt F) Λ₀ .tc) β} (h : Does c P p Q) :
    P ⊢ wp frame (wpE (defs₀ (F := F)) 𝒱₀ (c : Thread nD τ) none) Set.univ p Q := h

/-- A value is returned. -/
theorem ret (v : α) : Does c P (pure v) (At v P) := by
  unfold Does At
  rw [wp_pure]
  iintro H; imodintro
  isplitr; · ipureintro; rfl
  iexact H

/-- One run after another; -/
theorem bind_of {p : Prog (TpuEff nD τ sig (Elt F) Λ₀ .tc) α} {k : α → Prog (TpuEff nD τ sig (Elt F) Λ₀ .tc) β} {R : α → sProp 𝕄}
    (hp : Does c P p R) (hk : ∀ a, Does c (R a) (k a) Q) : Does c P (p >>= k) Q := by
  unfold Does at *
  rw [wp_bind]
  exact hp.trans (wp_mono _ _ _ hk)

/-- the first with a known value. -/
theorem bind {p : Prog (TpuEff nD τ sig (Elt F) Λ₀ .tc) α} {k : α → Prog (TpuEff nD τ sig (Elt F) Λ₀ .tc) β} {v : α}
    (hp : Does c P p (At v P')) (hk : Does c P' (k v) Q) : Does c P (p >>= k) Q := by
  refine bind_of hp fun a => ?_
  unfold Does At at *
  iintro ⟨%ha, H⟩
  subst ha
  iapply hk
  iexact H

/-- One operation at the head: from its rule, in the form that takes what the operation needs and gives a continuation what it leaves. -/
theorem head {γ : Type} {e : TpuEff nD τ sig (Elt F) Λ₀ .tc γ} {k : γ → Prog (TpuEff nD τ sig (Elt F) Λ₀ .tc) β}
    (h : P ⊢ wp frame (wpE (defs₀ (F := F)) 𝒱₀ (c : Thread nD τ) none) Set.univ (.op e k) Q) : Does c P (Prog.lift e >>= k) Q := h

/-- A device reads its own number. -/
theorem device {k : Dev nD → Prog (TpuEff nD τ sig (Elt F) Λ₀ .tc) β} (h : Does c P (k c) Q) : Does c P (Prog.lift .deviceId >>= k) Q := by
  refine head ?_
  rw [wp_deviceId]
  exact h

/-- A condition that holds may be assumed. -/
theorem assume {φ : Prop} {d : Decidable φ} {k : PLift φ → Prog (TpuEff nD τ sig (Elt F) Λ₀ .tc) β} (hφ : φ) (h : Does c P (k ⟨hφ⟩) Q) :
    Does c P (Prog.lift (.assume φ d) >>= k) Q := by
  refine head ?_
  exact (show P ⊢ _ from h).trans (wp_assume 𝒱₀ (c : Thread nD τ) none Set.univ hφ)

/-! ## Loads from the staged inputs, the copy of the weights and the result -/

/-- A load through a rectangle of a whole buffer, of which `P` grants some share. -/
theorem load_whole {cs : CoreSpace} {s : Shape} {e : EltTy} {M : Memref sig .tc cs s e} {r : Rect s} {hl : M.view.LoadsAt r}
    {k : (r.shape.Idx → Elt F e) → Prog (TpuEff nD τ sig (Elt F) Λ₀ .tc) β} {X : s.Idx → Elt F e}
    (hP : P ⊢ iprop(owns (c : Thread nD τ) M fullShare X ∗ (owns (c : Thread nD τ) M fullShare X -∗ P')))
    (hk : ∀ f, M.view.read (Elt F) f = X → Does c P' (k ((M.access r).read (Elt F) f)) Q) :
    Does c P (Prog.lift (.load M r.toLoadRect hl) >>= k) Q := by
  refine head ?_
  refine hP.trans ?_
  unfold owns
  iintro ⟨⟨%f, %hf, H⟩, Hback⟩
  iapply (wp_load_rect 𝒱₀ (c : Thread nD τ) none Set.univ (m := M) (r := r) (S := M.view.set) (View.set_slice_subset _ _)) $$ H
  iintro H
  iapply (run (hk f hf))
  iapply Hback
  iexists f
  isplitr; · ipureintro; exact hf
  iexact H

variable {m : (ℓ : Loc nD τ sig) → Buf (Elt F) ℓ} {K : GSem nD τ sig → ℕ} {na ns nw nc : ℕ} {b : Bool}

/-- The inputs are taken out of the state and put back; -/
theorem St_inputs : St m c K na ns nw nc b ⊢ iprop(inputs m c ∗ (inputs m c -∗ St m c K na ns nw nc b)) := by
  unfold St
  iintro ⟨#H1, #H2, H3, H4, H5, H6, H7, H8, H9, H10⟩
  isplitl [H4]; · iexact H4
  iintro H4
  isplitr; · iexact H1
  isplitr; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- so is the copy of the weights, -/
theorem St_wq : St m c K na ns nw nc b ⊢ iprop(wqRes m c b ∗ (wqRes m c b -∗ St m c K na ns nw nc b)) := by
  unfold St
  iintro ⟨#H1, #H2, H3, H4, H5, H6, H7, H8, H9, H10⟩
  isplitl [H5]; · iexact H5
  iintro H5
  isplitr; · iexact H1
  isplitr; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- which may come back written, -/
theorem St_wq_put : St m c K na ns nw nc b ⊢ iprop(wqRes m c b ∗ (wqRes m c true -∗ St m c K na ns nw nc true)) := by
  unfold St
  iintro ⟨#H1, #H2, H3, H4, H5, H6, H7, H8, H9, H10⟩
  isplitl [H5]; · iexact H5
  iintro H5
  isplitr; · iexact H1
  isplitr; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- and so is the result, which may have grown. -/
theorem St_out {nc' : ℕ} : St m c K na ns nw nc b ⊢ iprop(outRes m c nc ∗ (outRes m c nc' -∗ St m c K na ns nw nc' b)) := by
  unfold St
  iintro ⟨#H1, #H2, H3, H4, H5, H6, H7, H8, H9, H10⟩
  isplitl [H6]; · iexact H6
  iintro H6
  isplitr; · iexact H1
  isplitr; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- The slots, the rest of the state with them when they are put back. -/
theorem St_slots {na' ns' nw' : ℕ} (h1 : ns' = ns) (h2 : nw' = nw) (h3 : ∀ k, k < 64 → recvRes (F := F) c na k = recvRes c na' k) :
    St m c K na ns nw nc b ⊢ iprop(bigSep (Finset.range 72) (slotRes m c na ns nw)
      ∗ (bigSep (Finset.range 72) (slotRes m c na' ns' nw') -∗ St m c K na' ns' nw' nc b)) := by
  subst h1 h2
  unfold St
  rw [fam_same h3]
  iintro ⟨#H1, #H2, H3, H4, H5, H6, H7, H8, H9, H10⟩
  isplitl [H9]; · iexact H9
  iintro H9
  isplitr; · iexact H1
  isplitr; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-! ### The inputs -/

/-- Of the inputs, the rows of `x`; -/
theorem in_x (hP : P ⊢ iprop(inputs m c ∗ (inputs m c -∗ P))) :
    P ⊢ iprop(owns (c : Thread nD τ) xM fullShare (xC m c) ∗ (owns (c : Thread nD τ) xM fullShare (xC m c) -∗ P)) := by
  refine hP.trans ?_
  unfold inputs
  iintro ⟨⟨H1, H2, H3, H4, H5, H6⟩, Hb⟩
  isplitl [H1]; · iexact H1
  iintro H1; iapply Hb
  isplitl [H1]; · iexact H1
  isplitl [H2]; · iexact H2
  isplitl [H3]; · iexact H3
  isplitl [H4]; · iexact H4
  isplitl [H5] <;> iassumption
/-- the columns of the weights; -/
theorem in_w (hP : P ⊢ iprop(inputs m c ∗ (inputs m c -∗ P))) :
    P ⊢ iprop(owns (c : Thread nD τ) wM fullShare (wC m c) ∗ (owns (c : Thread nD τ) wM fullShare (wC m c) -∗ P)) := by
  refine hP.trans ?_
  unfold inputs
  iintro ⟨⟨H1, H2, H3, H4, H5, H6⟩, Hb⟩
  isplitl [H2]; · iexact H2
  iintro H2; iapply Hb
  isplitl [H1]; · iexact H1
  isplitl [H2]; · iexact H2
  isplitl [H3]; · iexact H3
  isplitl [H4]; · iexact H4
  isplitl [H5] <;> iassumption
/-- the scale of `x`; -/
theorem in_sx (hP : P ⊢ iprop(inputs m c ∗ (inputs m c -∗ P))) :
    P ⊢ iprop(owns (c : Thread nD τ) sxM fullShare (sxC m c) ∗ (owns (c : Thread nD τ) sxM fullShare (sxC m c) -∗ P)) := by
  refine hP.trans ?_
  unfold inputs
  iintro ⟨⟨H1, H2, H3, H4, H5, H6⟩, Hb⟩
  isplitl [H3]; · iexact H3
  iintro H3; iapply Hb
  isplitl [H1]; · iexact H1
  isplitl [H2]; · iexact H2
  isplitl [H3]; · iexact H3
  isplitl [H4]; · iexact H4
  isplitl [H5] <;> iassumption
/-- the scale of the weights; -/
theorem in_sw (hP : P ⊢ iprop(inputs m c ∗ (inputs m c -∗ P))) :
    P ⊢ iprop(owns (c : Thread nD τ) swM fullShare (swC m c) ∗ (owns (c : Thread nD τ) swM fullShare (swC m c) -∗ P)) := by
  refine hP.trans ?_
  unfold inputs
  iintro ⟨⟨H1, H2, H3, H4, H5, H6⟩, Hb⟩
  isplitl [H4]; · iexact H4
  iintro H4; iapply Hb
  isplitl [H1]; · iexact H1
  isplitl [H2]; · iexact H2
  isplitl [H3]; · iexact H3
  isplitl [H4]; · iexact H4
  isplitl [H5] <;> iassumption
/-- the cycle's table; -/
theorem in_ham (hP : P ⊢ iprop(inputs m c ∗ (inputs m c -∗ P))) :
    P ⊢ iprop(owns (c : Thread nD τ) hamM fullShare (hamC m c) ∗ (owns (c : Thread nD τ) hamM fullShare (hamC m c) -∗ P)) := by
  refine hP.trans ?_
  unfold inputs
  iintro ⟨⟨H1, H2, H3, H4, H5, H6⟩, Hb⟩
  isplitl [H5]; · iexact H5
  iintro H5; iapply Hb
  isplitl [H1]; · iexact H1
  isplitl [H2]; · iexact H2
  isplitl [H3]; · iexact H3
  isplitl [H4]; · iexact H4
  isplitl [H5] <;> iassumption
/-- the table of places. -/
theorem in_pos (hP : P ⊢ iprop(inputs m c ∗ (inputs m c -∗ P))) :
    P ⊢ iprop(owns (c : Thread nD τ) posM fullShare (posC m c) ∗ (owns (c : Thread nD τ) posM fullShare (posC m c) -∗ P)) := by
  refine hP.trans ?_
  unfold inputs
  iintro ⟨⟨H1, H2, H3, H4, H5, H6⟩, Hb⟩
  isplitl [H6]; · iexact H6
  iintro H6; iapply Hb
  isplitl [H1]; · iexact H1
  isplitl [H2]; · iexact H2
  isplitl [H3]; · iexact H3
  isplitl [H4]; · iexact H4
  isplitl [H5] <;> iassumption

/-- What the tables hold. -/
theorem ham_at (n : Fin 16) : lit0 (S16.rowMajor (ix1 n)) = word (hamT n) := by revert n; decide +kernel
/-- The second table holds each device's place. -/
theorem pos_at (n : Fin 16) : lit1 (S16.rowMajor (ix1 n)) = word (posT n) := by revert n; decide +kernel

/-- When the call starts the first table holds its constants; -/
theorem V_ham : V m c main_c = fun i => lit0 (S16.rowMajor i) := by
  show StableHlo.after hostOps0 _ (Proc.devRef .tc main_c) = _
  simp only [hostOps0, List.flatten_cons, List.flatten_nil, List.append_nil, List.cons_append, List.nil_append, StableHlo.after_cons, StableHlo.after_nil]
  exact (StableHlo.nullary_result_ne _ _ _ _ (by decide)).trans (StableHlo.nullary_result _ _ _ _)
/-- so does the second. -/
theorem V_pos : V m c main_c_0 = fun i => lit1 (S16.rowMajor i) := by
  show StableHlo.after hostOps0 _ (Proc.devRef .tc main_c_0) = _
  simp only [hostOps0, List.flatten_cons, List.flatten_nil, List.append_nil, List.cons_append, List.nil_append, StableHlo.after_cons, StableHlo.after_nil]
  exact StableHlo.nullary_result _ _ _ _
/-- As staged, the first table holds its constants; -/
theorem hamC_eq : hamC m c = fun i => lit0 (S16.rowMajor i) := by
  rw [← V_ham (m := m) (c := c)]
  funext i
  show V m c main_c _ = V m c main_c i
  refine congrArg _ ?_
  funext a
  fin_cases a
  refine Fin.ext ?_
  show 0 + 1 * (i 0).val = (i 0).val
  omega
/-- so does the second. -/
theorem posC_eq : posC m c = fun i => lit1 (S16.rowMajor i) := by
  rw [← V_pos (m := m) (c := c)]
  funext i
  show V m c main_c_0 _ = V m c main_c_0 i
  refine congrArg _ ?_
  funext a
  fin_cases a
  refine Fin.ext ?_
  show 0 + 1 * (i 0).val = (i 0).val
  omega

/-- A read of one entry of a table reads the entry its offset names. -/
theorem emb_at {off : Fin 1 → ℕ} {inb : ∀ a, off a + S1.size a ≤ S16.size a} (n : Fin 16) (h : off = ![n.val]) (x : S1.Idx) :
    (Rect.unit (s := S16) off S1.size inb).emb x = ix1 n := by
  subst h
  funext a
  fin_cases a
  refine Fin.ext ?_
  show n.val + 1 * (x 0).val = n.val
  have := (x 0).isLt
  have h1 : (x 0).val < 1 := this
  omega

/-- A word loaded from the table of devices. -/
theorem ham {off : Fin 1 → ℕ} {inb : ∀ a, off a + S1.size a ≤ S16.size a} {h1 : (Rect.unit (s := S16) off S1.size inb).shape.numel = 1} {hp}
    {k : BitVec 32 → Prog (TpuEff nD τ sig (Elt F) Λ₀ .tc) β} (n : Fin 16) (h : off = ![n.val])
    (hP : P ⊢ iprop(inputs m c ∗ (inputs m c -∗ P))) (hk : Does c P (k (word (hamT n))) Q) :
    Does c P (smemLoad hamM (Rect.unit (s := S16) off S1.size inb) h1 hp >>= k) Q := by
  refine load_whole (in_ham hP) fun f hf => ?_
  have e : (hamM.access (Rect.unit (s := S16) off S1.size inb)).read (Elt F) f (Shape.Idx.first (h1.symm ▸ Nat.one_pos)) = word (hamT n) := by
    have hf' : f = hamC m c := hf
    subst hf'
    rw [hamC_eq]
    exact (congrArg (fun i => lit0 (S16.rowMajor i)) (emb_at n h _)).trans (ham_at n)
  show Does c P (k ((hamM.access (Rect.unit (s := S16) off S1.size inb)).read (Elt F) f (Shape.Idx.first (h1.symm ▸ Nat.one_pos)))) Q
  rw [e]; exact hk

/-- A word loaded from the table of places. -/
theorem pos {off : Fin 1 → ℕ} {inb : ∀ a, off a + S1.size a ≤ S16.size a} {h1 : (Rect.unit (s := S16) off S1.size inb).shape.numel = 1} {hp}
    {k : BitVec 32 → Prog (TpuEff nD τ sig (Elt F) Λ₀ .tc) β} (n : Fin 16) (h : off = ![n.val])
    (hP : P ⊢ iprop(inputs m c ∗ (inputs m c -∗ P))) (hk : Does c P (k (word (posT n))) Q) :
    Does c P (smemLoad posM (Rect.unit (s := S16) off S1.size inb) h1 hp >>= k) Q := by
  refine load_whole (in_pos hP) fun f hf => ?_
  have e : (posM.access (Rect.unit (s := S16) off S1.size inb)).read (Elt F) f (Shape.Idx.first (h1.symm ▸ Nat.one_pos)) = word (posT n) := by
    have hf' : f = posC m c := hf
    subst hf'
    rw [posC_eq]
    exact (congrArg (fun i => lit1 (S16.rowMajor i)) (emb_at n h _)).trans (pos_at n)
  show Does c P (k ((posM.access (Rect.unit (s := S16) off S1.size inb)).read (Elt F) f (Shape.Idx.first (h1.symm ▸ Nat.one_pos)))) Q
  rw [e]; exact hk

/-- The scale of `x` is read. -/
theorem sx {hp} {k : Elt F .f32 → Prog (TpuEff nD τ sig (Elt F) Λ₀ .tc) β}
    (hk : Does c (St m c K na ns nw nc b) (k (sx1 m c)) Q) :
    Does c (St m c K na ns nw nc b) (smemLoad sxM (Rect.unit (s := S1) ![0] S1.size inb_S1_S1_0) numel1_S1 hp >>= k) Q := by
  refine load_whole (in_sx St_inputs) fun f hf => ?_
  have hf' : f = sxC m c := hf
  subst hf'
  exact hk
/-- The scale of the weights is read. -/
theorem sw {hp} {k : Elt F .f32 → Prog (TpuEff nD τ sig (Elt F) Λ₀ .tc) β}
    (hk : Does c (St m c K na ns nw nc b) (k (sw1 m c)) Q) :
    Does c (St m c K na ns nw nc b) (smemLoad swM (Rect.unit (s := S1) ![0] S1.size inb_S1_S1_0) numel1_S1 hp >>= k) Q := by
  refine load_whole (in_sw St_inputs) fun f hf => ?_
  have hf' : f = swC m c := hf
  subst hf'
  exact hk

/-- A sub-block of the device's own rows loaded. -/
theorem x {off : Fin 2 → ℕ} {inb : ∀ a, off a + S64x4096.size a ≤ S256x4096.size a} {hl}
    {k : Vec F S64x4096 .fp8e5m2 → Prog (TpuEff nD τ sig (Elt F) Λ₀ .tc) β} (s : ℕ) (h : off = ![64 * (s % 4), 0])
    (hk : Does c (St m c K na ns nw nc b) (k (xB m c s)) Q) :
    Does c (St m c K na ns nw nc b) (Prog.lift (.load xM (Rect.unit (s := S256x4096) off S64x4096.size inb).toLoadRect hl) >>= k) Q := by
  subst h
  refine load_whole (in_x St_inputs) fun f hf => ?_
  have hf' : f = xC m c := hf
  subst hf'
  exact hk

/-- The weights loaded. -/
theorem w {hl} {k : Vec F S4096x512 .fp8e5m2 → Prog (TpuEff nD τ sig (Elt F) Λ₀ .tc) β}
    (hk : Does c (St m c K na ns nw nc b) (k (wM.view.readAt (Elt F) (Rect.unit (s := S4096x512) ![0, 0] S4096x512.size inb_S4096x512_S4096x512_0_0).toLoadRect (wC m c))) Q) :
    Does c (St m c K na ns nw nc b) (Prog.lift (.load wM (Rect.unit (s := S4096x512) ![0, 0] S4096x512.size inb_S4096x512_S4096x512_0_0).toLoadRect hl) >>= k) Q := by
  refine load_whole (in_w St_inputs) fun f hf => ?_
  have hf' : f = wC m c := hf
  subst hf'
  exact hk

end Does
end Cert.KernelIdeal.RingProof
-- ==== Proof.Moves.lean ====
/-
Loads and stores of the slots, of the copy of the weights and of the result.
-/
module

public import proofs.«01_k».proof.Proof.Steps

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace Does
variable {c : Dev nD} {α β : Type} {P P' : sProp (MT nD τ sig Unit (Elt F) ℕ UU ℕ)} {Q : β → sProp (MT nD τ sig Unit (Elt F) ℕ UU ℕ)}
variable {m : (ℓ : Loc nD τ sig) → Buf (Elt F) ℓ} {K : GSem nD τ sig → ℕ} {na ns nw nc : ℕ} {b : Bool}

/-! ## Slots -/

/-- A load of a slot of which `P` grants some share. -/
theorem load_slot {j : ℕ} {q : PosShare TreeShare} {X : Vec F S1x1x64x4096 .fp8e5m2} {hl}
    {k : Vec F S1x1x64x4096 .fp8e5m2 → Prog (TpuEff nD τ sig (Elt F) Λ₀ .tc) β}
    (hP : P ⊢ iprop(owns (c : Thread nD τ) (sl j) q X ∗ (owns (c : Thread nD τ) (sl j) q X -∗ P')))
    (hk : Does c P' (k X) Q) :
    Does c P (Prog.lift (.load (bufM j) (slotR j).toLoadRect hl) >>= k) Q := by
  refine head ?_
  refine hP.trans ?_
  unfold owns
  iintro ⟨⟨%f, %hf, H⟩, Hback⟩
  subst hf
  iapply (wp_load_rect 𝒱₀ (c : Thread nD τ) none Set.univ (m := bufM j) (r := slotR j) (S := (sl j).view.set) (Finset.Subset.refl _)) $$ H
  iintro H
  iapply (run hk)
  iapply Hback
  iexists f
  isplitr; · ipureintro; rfl
  iexact H

/-- Of a filled slot the kept half is always at hand. -/
theorem slotRes_kept {m : (ℓ : Loc nD τ sig) → Buf (Elt F) ℓ} {c : Dev nD} {na ns nw j : ℕ} (hg : good j = true) (h : j < na) :
    ∃ R : sProp 𝕄, slotRes m c na ns nw j = iprop(owns (c : Thread nD τ) (sl j) keep (slC m c j) ∗ R) := by
  unfold slotRes
  rw [if_pos hg, if_pos h]
  exact ⟨_, rfl⟩

/-- A filled slot loaded. -/
theorem slot {M : Memref sig .tc .vmem S9x4x64x4096 .fp8e5m2} {off : Fin 4 → ℕ} {inb : ∀ a, off a + S1x1x64x4096.size a ≤ S9x4x64x4096.size a} {hl}
    {k : Vec F S1x1x64x4096 .fp8e5m2 → Prog (TpuEff nD τ sig (Elt F) Λ₀ .tc) β} (j : ℕ)
    (hM : M = bufM j) (hoff : off = ![j / 8 % 9, j / 2 % 4, 0, 0]) (hg : good j = true) (hj : j < 72) (h : j < na)
    (hk : Does c (St m c K na ns nw nc b) (k (slC m c j)) Q) :
    Does c (St m c K na ns nw nc b) (Prog.lift (.load M (Rect.unit (s := S9x4x64x4096) off S1x1x64x4096.size inb).toLoadRect hl) >>= k) Q := by
  subst hM hoff
  refine load_slot (P' := St m c K na ns nw nc b) (q := keep) ?_ hk
  refine (St_slots (na' := na) (ns' := ns) (nw' := nw) rfl rfl (fun _ _ => rfl)).trans ?_
  obtain ⟨R, hR⟩ := slotRes_kept (m := m) (c := c) (ns := ns) (nw := nw) hg h
  iintro ⟨Hs, Hb⟩
  ihave H := (fam_open hj (Φ := slotRes m c na ns nw) (Ψ := slotRes m c na ns nw) (fun _ _ _ => rfl)) $$ Hs
  rw [hR]
  icases H with ⟨⟨H, HR⟩, Hf⟩
  isplitl [H]; · iexact H
  iintro H
  iapply Hb; iapply Hf
  isplitl [H] <;> iassumption

/-- A slot not yet filled loaded: some value. -/
theorem slot_any {M : Memref sig .tc .vmem S9x4x64x4096 .fp8e5m2} {off : Fin 4 → ℕ} {inb : ∀ a, off a + S1x1x64x4096.size a ≤ S9x4x64x4096.size a} {hl}
    {k : Vec F S1x1x64x4096 .fp8e5m2 → Prog (TpuEff nD τ sig (Elt F) Λ₀ .tc) β} (j : ℕ)
    (hM : M = bufM j) (hoff : off = ![j / 8 % 9, j / 2 % 4, 0, 0]) (hj : j < 8) (h : na ≤ j)
    (hk : ∀ v, Does c (St m c K na ns nw nc b) (k v) Q) :
    Does c (St m c K na ns nw nc b) (Prog.lift (.load M (Rect.unit (s := S9x4x64x4096) off S1x1x64x4096.size inb).toLoadRect hl) >>= k) Q := by
  subst hM hoff
  refine head ?_
  refine (St_slots (na' := na) (ns' := ns) (nw' := nw) rfl rfl (fun _ _ => rfl)).trans ?_
  iintro ⟨Hs, Hb⟩
  ihave H := (fam_open (show j < 72 by omega) (Φ := slotRes m c na ns nw) (Ψ := slotRes m c na ns nw) (fun _ _ _ => rfl)) $$ Hs
  rw [slotRes_free m h hj]
  unfold freeSlot owns
  icases H with ⟨⟨%X, %f, %hf, H⟩, Hf⟩
  iapply (wp_load_rect 𝒱₀ (c : Thread nD τ) none Set.univ (m := bufM j) (r := slotR j) (S := (sl j).view.set) (Finset.Subset.refl _)) $$ H
  iintro H
  iapply (run (hk _))
  iapply Hb; iapply Hf
  iexists X; iexists f
  isplitr; · ipureintro; exact hf
  iexact H

/-- A slot filled with the device's own rows. -/
theorem put_slot {M : Memref sig .tc .vmem S9x4x64x4096 .fp8e5m2} {off : Fin 4 → ℕ} {inb : ∀ a, off a + S1x1x64x4096.size a ≤ S9x4x64x4096.size a}
    {w : Vec F S1x1x64x4096 .fp8e5m2} {hx hm}
    {k : PUnit → Prog (TpuEff nD τ sig (Elt F) Λ₀ .tc) β} (j : ℕ)
    (hM : M = bufM j) (hoff : off = ![j / 8 % 9, j / 2 % 4, 0, 0]) (hj : j < 8) (hna : na = j) (hns : ns ≤ j) (hw : w = slC m c j)
    (hk : Does c (St m c K (j + 1) ns nw nc b) (k ⟨⟩) Q) :
    Does c (St m c K na ns nw nc b) (Prog.lift (.store M (Rect.unit (s := S9x4x64x4096) off S1x1x64x4096.size inb) w Finset.univ hx hm) >>= k) Q := by
  subst hM hoff hna hw
  have hg : good na = true := by unfold good; rw [decide_eq_true hj]; rfl
  refine head ?_
  refine (St_slots (na' := na + 1) (ns' := ns) (nw' := nw) rfl rfl (fun i _ => ?_)).trans ?_
  · unfold recvRes
    exact if_congr (by constructor <;> rintro ⟨h1, h2⟩ <;> exact ⟨h1, by omega⟩) rfl rfl
  iintro ⟨Hs, Hb⟩
  ihave H := (fam_open (show na < 72 by omega) (Φ := slotRes m c na ns nw) (Ψ := slotRes m c (na + 1) ns nw) (fun i _ hi => by
    have h1 : i < na ↔ i < na + 1 := by omega
    unfold slotRes; simp only [h1])) $$ Hs
  rw [slotRes_free m (le_refl _) hj, slotRes_full m hg (show na < na + 1 by omega) (Or.inr (Or.inl hns))]
  unfold freeSlot
  icases H with ⟨⟨%X, H⟩, Hf⟩
  unfold owns
  icases H with ⟨%f, -, H⟩
  iapply (wp_store 𝒱₀ (c : Thread nD τ) none Set.univ (m := bufM na) (r := slotR na) (S := (sl na).view.set) (View.setOn_subset_set _ _)) $$ H
  iintro H
  iapply (run hk)
  iapply Hb; iapply Hf
  iapply (owns_halve c na (slC m c na))
  unfold owns
  iexists _
  isplitr
  rotate_left
  · iexact H
  · ipureintro; exact View.read_write_univ (v := (sl na).view) f (slC m c na)

/-! ## The copy of the weights, and the result -/

/-- The offsets of a whole block are zero. -/
theorem S4096x512_zero : (![0, 0] : Fin 2 → ℕ) = fun _ => 0 := by decide

/-- The copy of the weights loaded, once made. -/
theorem wq {hl} {k : Vec F S4096x512 .fp8e5m2 → Prog (TpuEff nD τ sig (Elt F) Λ₀ .tc) β}
    (hk : Does c (St m c K na ns nw nc true) (k (wqC m c)) Q) :
    Does c (St m c K na ns nw nc true) (Prog.lift (.load wqM (Rect.unit (s := S4096x512) ![0, 0] S4096x512.size inb_S4096x512_S4096x512_0_0).toLoadRect hl) >>= k) Q := by
  refine load_whole (X := wqC m c) (P' := St m c K na ns nw nc true) ?_ fun f hf => ?_
  · refine St_wq.trans ?_
    unfold wqRes
    iintro ⟨⟨%X, %hX, H⟩, Hb⟩
    have e := hX rfl
    subst e
    isplitl [H]; · iexact H
    iintro H
    iapply Hb
    iexists wqC m c
    isplitr; · ipureintro; exact fun _ => rfl
    iexact H
  · have e : (wqM.access (Rect.unit (s := S4096x512) ![0, 0] S4096x512.size inb_S4096x512_S4096x512_0_0)).read (Elt F) f = wqC m c :=
      (Memref.read_access_unit_zero (Elt F) cc0_scratch2 S4096x512_zero inb_S4096x512_S4096x512_0_0 f).trans hf
    show Does c _ (k ((wqM.access (Rect.unit (s := S4096x512) ![0, 0] S4096x512.size inb_S4096x512_S4096x512_0_0)).read (Elt F) f)) Q
    rw [e]; exact hk

/-- The copy's buffer loaded before the copy is made: some value. -/
theorem wq_any {hl} {k : Vec F S4096x512 .fp8e5m2 → Prog (TpuEff nD τ sig (Elt F) Λ₀ .tc) β}
    (hk : ∀ v, Does c (St m c K na ns nw nc b) (k v) Q) :
    Does c (St m c K na ns nw nc b) (Prog.lift (.load wqM (Rect.unit (s := S4096x512) ![0, 0] S4096x512.size inb_S4096x512_S4096x512_0_0).toLoadRect hl) >>= k) Q := by
  refine head ?_
  refine St_wq.trans ?_
  unfold wqRes owns
  iintro ⟨⟨%X, %hX, %f, %hf, H⟩, Hb⟩
  iapply (wp_load_rect 𝒱₀ (c : Thread nD τ) none Set.univ (m := wqM) (r := Rect.unit (s := S4096x512) ![0, 0] S4096x512.size inb_S4096x512_S4096x512_0_0)
    (S := wqM.view.set) (View.set_slice_subset _ _)) $$ H
  iintro H
  iapply (run (hk _))
  iapply Hb
  iexists X
  isplitr; · ipureintro; exact hX
  iexists f
  isplitr; · ipureintro; exact hf
  iexact H

/-- The copy of the weights made. -/
theorem put_wq {v : Vec F S4096x512 .fp8e5m2} {hx hm} {k : PUnit → Prog (TpuEff nD τ sig (Elt F) Λ₀ .tc) β} (hv : v = wqC m c)
    (hk : Does c (St m c K na ns nw nc true) (k ⟨⟩) Q) :
    Does c (St m c K na ns nw nc b) (Prog.lift (.store wqM (Rect.unit (s := S4096x512) ![0, 0] S4096x512.size inb_S4096x512_S4096x512_0_0) v Finset.univ hx hm) >>= k) Q := by
  subst hv
  refine head ?_
  refine St_wq_put.trans ?_
  unfold wqRes owns
  iintro ⟨⟨%X, -, %f, -, H⟩, Hb⟩
  iapply (wp_store 𝒱₀ (c : Thread nD τ) none Set.univ (m := wqM) (r := Rect.unit (s := S4096x512) ![0, 0] S4096x512.size inb_S4096x512_S4096x512_0_0)
    (S := wqM.view.set) ((View.setOn_subset_set _ _).trans (View.set_slice_subset _ _))) $$ H
  iintro H
  iapply (run hk)
  iapply Hb
  iexists wqC m c
  isplitr; · ipureintro; exact fun _ => rfl
  iexists _
  isplitr
  rotate_left
  · iexact H
  · ipureintro
    exact Memref.write_access_unit_zero_univ (Elt F) cc0_scratch2 S4096x512_zero inb_S4096x512_S4096x512_0_0 f (wqC m c)

/-- A block of the result loaded: some value. -/
theorem out_any {off : Fin 2 → ℕ} {inb : ∀ a, off a + S64x512.size a ≤ S4096x512.size a} {hl}
    {k : Vec F S64x512 .f32 → Prog (TpuEff nD τ sig (Elt F) Λ₀ .tc) β} (hk : ∀ v, Does c (St m c K na ns nw nc b) (k v) Q) :
    Does c (St m c K na ns nw nc b) (Prog.lift (.load oM (Rect.unit (s := S4096x512) off S64x512.size inb).toLoadRect hl) >>= k) Q := by
  refine head ?_
  refine (St_out (nc' := nc)).trans ?_
  unfold outRes owns
  iintro ⟨⟨%X, %hX, %f, %hf, H⟩, Hb⟩
  iapply (wp_load_rect 𝒱₀ (c : Thread nD τ) none Set.univ (m := oM) (r := Rect.unit (s := S4096x512) off S64x512.size inb)
    (S := oM.view.set) (View.set_slice_subset _ _)) $$ H
  iintro H
  iapply (run (hk _))
  iapply Hb
  iexists X
  isplitr; · ipureintro; exact hX
  iexists f
  isplitr; · ipureintro; exact hf
  iexact H

/-- A sub-block's rows lie inside the result. -/
theorem row_lt (o : Dev nD) (j : ℕ) (r : ℕ) (hr : r < 64) : 256 * o.val + 64 * sub j + r < 4096 := by
  have h1 : o.val < 16 := o.isLt
  have h2 : sub j < 4 := Nat.mod_lt _ (by decide)
  omega

/-- Storing the block computed from slot `j` adds it to those that stand in the result. -/
theorem Done_put {off : Fin 2 → ℕ} {inb : ∀ a, off a + S64x512.size a ≤ S4096x512.size a} {j : ℕ}
    (hoff : off = ![256 * (org c j).val + 64 * sub j, 0]) (hgap : ∀ i, i < j → nc ≤ i → comp i = false)
    {f : (cc0_stg6_0 : Ref sig .tc).ty.Contents (Elt F)} (hf : Done m c nc f) :
    Done m c (j + 1) ((oM.access (Rect.unit (s := S4096x512) off S64x512.size inb)).write (Elt F) f (outB m c (org c j) (sub j)) Finset.univ) := by
  subst hoff
  intro i hi hc r q h
  by_cases he : org c i = org c j ∧ sub i = sub j
  · have e : (ix2 ⟨256 * (org c i).val + 64 * sub i + r.val, h⟩ q : S4096x512.Idx)
        = (oM.access (Rect.unit (s := S4096x512) ![256 * (org c j).val + 64 * sub j, 0] S64x512.size inb)).emb (ix2 r q) := by
      funext a
      fin_cases a
      · refine Fin.ext ?_
        show 256 * (org c i).val + 64 * sub i + r.val = (256 * (org c j).val + 64 * sub j) + 1 * r.val
        rw [he.1, he.2]; omega
      · refine Fin.ext ?_
        show q.val = 0 + 1 * q.val
        omega
    rw [e, he.1, he.2]
    exact View.write_emb_of_mem (v := oM.access (Rect.unit (s := S4096x512) ![256 * (org c j).val + 64 * sub j, 0] S64x512.size inb)) (Val := Elt F)
      f (outB m c (org c j) (sub j)) (Finset.mem_univ (ix2 r q))
  · rw [View.write_of_not_mem]
    · refine hf i ?_ hc r q h
      by_contra hn
      have hij : i ≠ j := by rintro rfl; exact he ⟨rfl, rfl⟩
      have := hgap i (by omega) (by omega)
      rw [hc] at this; exact Bool.noConfusion this
    · intro hm
      obtain ⟨x, -, hx⟩ := Finset.mem_map.mp hm
      have h0 := congrArg (fun y : S4096x512.Idx => (y 0).val) hx
      have hx0 : (x 0).val < 64 := (x 0).isLt
      have h0' : (256 * (org c j).val + 64 * sub j) + 1 * (x 0).val = 256 * (org c i).val + 64 * sub i + r.val := h0
      have h1 : sub j < 4 := Nat.mod_lt _ (by decide)
      have h2 : sub i < 4 := Nat.mod_lt _ (by decide)
      have hr := r.isLt
      refine he ⟨Fin.ext ?_, ?_⟩ <;> omega

/-- The block computed from slot `j` stored. -/
theorem put_out {off : Fin 2 → ℕ} {inb : ∀ a, off a + S64x512.size a ≤ S4096x512.size a} {v : FVec F S64x512 .f32} {hx hm}
    {k : PUnit → Prog (TpuEff nD τ sig (Elt F) Λ₀ .tc) β} (j : ℕ)
    (hoff : off = ![256 * (org c j).val + 64 * sub j, 0]) (hgap : ∀ i, i < j → nc ≤ i → comp i = false) (hv : v = outB m c (org c j) (sub j))
    (hk : Does c (St m c K na ns nw (j + 1) b) (k ⟨⟩) Q) :
    Does c (St m c K na ns nw nc b) (Prog.lift (.store oM (Rect.unit (s := S4096x512) off S64x512.size inb) v Finset.univ hx hm) >>= k) Q := by
  subst hv
  refine head ?_
  refine (St_out (nc' := j + 1)).trans ?_
  unfold outRes owns
  iintro ⟨⟨%X, %hX, %f, %hf, H⟩, Hb⟩
  have hf' : f = X := hf
  subst hf'
  iapply (wp_store 𝒱₀ (c : Thread nD τ) none Set.univ (m := oM) (r := Rect.unit (s := S4096x512) off S64x512.size inb)
    (S := oM.view.set) ((View.setOn_subset_set _ _).trans (View.set_slice_subset _ _))) $$ H
  iintro H
  iapply (run hk)
  iapply Hb
  iexists _
  isplitr
  · ipureintro; exact Done_put (inb := inb) hoff hgap hX
  iexists _
  isplitr
  rotate_left
  · iexact H
  · ipureintro; rfl

end Does
end Cert.KernelIdeal.RingProof
-- ==== Proof.Hops.lean ====
/-
The hops: started, waited for where they arrive, and waited for where they leave.
-/
module

public import proofs.«01_k».proof.Proof.Moves

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What reaches a slot, read there as the loads read it, is what the source slot reads as. -/
theorem read_hop (j k : ℕ) (fd : (sq j).view.ty.Contents (Elt F)) (fs : (sq k).view.ty.Contents (Elt F)) :
    (sl j).view.read (Elt F) ((sq j).view.write (Elt F) fd ((sq k).view.read (Elt F) fs) Finset.univ) = (sl k).view.read (Elt F) fs := by
  funext y
  have h := congrFun (View.read_write_univ (v := (sq j).view) fd ((sq k).view.read (Elt F) fs))
    ((Shape.reshapeEquiv (s := S1x1x64x4096) (s' := S64x4096) (by decide)).symm y)
  have e := (Shape.reshapeEquiv (s := S1x1x64x4096) (s' := S64x4096) (by decide)).apply_symm_apply y
  refine Eq.trans ?_ (h.trans ?_)
  · exact congrArg ((sl j).view.read (Elt F) ((sq j).view.write (Elt F) fd ((sq k).view.read (Elt F) fs) Finset.univ)) e.symm
  · exact congrArg ((sl k).view.read (Elt F) fs) e

/-- A slot and the same slot as a copy names it are the same elements. -/
theorem set_sq (j : ℕ) : (sq j).view.set = (sl j).view.set := View.set_reshape _ _

/-- A slot as the loads address it is the slot as the hops address it. -/
theorem owns_hop (t : Dev nD) (j : ℕ) (q : PosShare TreeShare) (X : Vec F S1x1x64x4096 .fp8e5m2) : (owns (t : Thread nD τ) (sl j) q X : sProp 𝕄)
    = iprop(∃ f : Buf (Elt F) ((sq j).view.loc (t : Thread nD τ)), ⌜(sl j).view.read (Elt F) f = X⌝ ∗ ((sq j).view.loc (t : Thread nD τ) ↦[(sq j).view.set]{q} f)) := by
  rw [set_sq]; rfl

namespace Does
variable {c : Dev nD} {α β : Type} {P P' : sProp (MT nD τ sig Unit (Elt F) ℕ UU ℕ)} {Q : β → sProp (MT nD τ sig Unit (Elt F) ℕ UU ℕ)}
variable {m : (ℓ : Loc nD τ sig) → Buf (Elt F) ℓ} {K : GSem nD τ sig → ℕ} {na ns nw nc : ℕ} {b : Bool}

/-- A cell whose one round is over gives its counter back, at zero. -/
theorem close (κ : ℕ) (g : GSem nD τ sig) :
    iprop(cellInv ER (ringRd m) κ g ∗ atPos ER g (0 + 1) ∅ 0) ⊢ (|={Set.univ}=> semVal g 0 : sProp 𝕄) :=
  Rounds.cell_close ER (ringRd m) (Set.mem_univ κ) id (duties_later m g)

/-- What a hop's two counters are handed. -/
theorem pay_send {k : ℕ} {fs : Buf (Elt F) ((sq k).view.loc (c : Thread nD τ))} (h : (sl k).view.read (Elt F) fs = slC m c k) :
    ((sq k).view.loc (c : Thread nD τ) ↦[(sq k).view.set]{lent} fs : sProp 𝕄) ⊢ sendPay m c k := by
  unfold sendPay
  rw [owns_hop]
  iintro H; iexists fs
  isplitr; · ipureintro; exact h
  iexact H
/-- What lands at the peer is what the peer's receive counter is to hand over. -/
theorem pay_recv {k : ℕ} (hk : k < 64) {fs : Buf (Elt F) ((sq k).view.loc (c : Thread nD τ))} (h : (sl k).view.read (Elt F) fs = slC m c k)
    (fd : Buf (Elt F) ((sq (k + 8)).view.loc (peer c k : Thread nD τ))) :
    ((sq (k + 8)).view.loc (peer c k : Thread nD τ) ↦[(sq (k + 8)).view.set]{fullShare}
      (sq (k + 8)).view.write (Elt F) fd ((sq k).view.read (Elt F) fs) Finset.univ : sProp 𝕄) ⊢ recvPay m (peer c k) k := by
  have e := (read_hop (k + 8) k fd fs).trans (h.trans (slC_peer m c hk).symm)
  unfold recvPay
  rw [owns_hop]
  iintro H; iexists _
  isplitr
  rotate_left
  · iexact H
  · ipureintro; exact e

/-- A hop: the lent half of the source slot and the peer's slot are handed over. -/
theorem wp_hop {k : ℕ} (hk : k < 64) (hu : used k = true) {hsc h1 h2 h3} {f : PUnit → Prog (TpuEff nD τ sig (Elt F) Λ₀ .tc) β}
    {O : CellTallies nD τ sig Unit} {W : Waits sig Unit} {X : Vec F S1x1x64x4096 .fp8e5m2} :
    iprop(records m K ∗ owes (c : Thread nD τ) (O + tallyAt (rC (peer c k) k) () N) W ∗ dutyTok ER (sC c k) 0 false ∗ reached ER (sC c k) 0
      ∗ dutyTok ER (rC (peer c k) k) 0 false ∗ reached ER (rC (peer c k) k) 0
      ∗ owns (peer c k : Thread nD τ) (sl (k + 8)) fullShare X ∗ owns (c : Thread nD τ) (sl k) lent (slC m c k))
    ⊢ iprop((iprop(cred (tallyAt (sC c k) () N) ∗ owes (c : Thread nD τ) O W) -∗ wp frame (wpE (defs₀ (F := F)) 𝒱₀ (c : Thread nD τ) none) Set.univ (f ⟨⟩) Q)
      -∗ wp frame (wpE (defs₀ (F := F)) 𝒱₀ (c : Thread nD τ) none) Set.univ
          (.op (.enqueueDma (sq k) (.remote (Dev.tc (peer c k)) (sq (k + 8)) (.dma (sS k)) hsc) (.dma (rS k)) h1 h2 h3) f) Q) := by
  rw [owns_hop, owns_hop]
  iintro ⟨#Hrec, HO, HtS, #HrS, HtR, #HrR, ⟨%fd, %hfd, Hfree⟩, ⟨%fs, %hfs, Hlent⟩⟩ Hk
  iapply (Rounds.wp_send_pointsTo 𝒱₀ ER (ringRd m) (c : Thread nD τ) none (c' := (peer c k : Thread nD τ)) (src := sq k) (dst := sq (k + 8))
      (sS := .dma (sS k)) (sem := .dma (rS k)) (q := lent) (fs := fs) (κ₁ := K (sC c k)) (κ₂ := K (rC (peer c k) k))
      (r₁ := 0) (r₂ := 0) (d₁ := false) (d₂ := false) (fd := fd)
      (by rw [duties_send m c hk hu]; exact Finset.mem_singleton_self _) (by rw [duties_recv m (peer c k) hk hu]; exact Finset.mem_singleton_self _)
      () () N (credit (k + 8)) rfl rfl O rfl (W := W)
      (by rw [payload_send m c hk]; exact pay_send hfs) (by rw [payload_recv m (peer c k) hk]; exact pay_recv hk hfs fd)) $$ [Hlent Hfree HO HtS HtR]
  · isplitr; · iapply (records_own m K c (sI k)); iexact Hrec
    isplitr; · iapply (records_own m K (peer c k) (rI k)); iexact Hrec
    isplitl [Hlent]; · iexact Hlent
    isplitl [Hfree]; · iexact Hfree
    isplitl [HO]; · iexact HO
    isplitl [HtS]; · iexact HtS
    isplitr; · iexact HrS
    isplitl [HtR]; · iexact HtR
    iexact HrR
  iexact Hk

/-- Hop `k` started. -/
theorem send {src dst : Memref sig .tc .vmem S64x4096 .fp8e5m2} {n : Dev nD} {a a' : DmaSem sig} {hsc h1 h2 h3}
    {f : PUnit → Prog (TpuEff nD τ sig (Elt F) Λ₀ .tc) β} (k : ℕ)
    (hsrc : src = sq k) (hdst : dst = sq (k + 8)) (hn : n = peer c k) (ha : a = sS k) (ha' : a' = rS k)
    (hk : k < 64) (hu : used k = true) (hg : good k = true) (hna : k < na) (hnw : nw ≤ k) (hns : ns ≤ k)
    (hgap : ∀ j, j < k → ns ≤ j → used j = false)
    (hf : Does c (St m c K na (k + 1) nw nc b) (f ⟨⟩) Q) :
    Does c (St m c K na ns nw nc b) (Prog.lift (.enqueueDma src (.remote (Dev.tc n) dst (.dma a) hsc) (.dma a') h1 h2 h3) >>= f) Q := by
  subst hsrc hdst hn ha ha'
  refine head ?_
  unfold St
  iintro ⟨#Hrec, #Hlev, ⟨%W, HO⟩, Hin, Hwq, Hout, Hh, Hr, Hs, Hb⟩
  ihave Hh := (fam_open hk (Φ := hopRes c ns nw) (Ψ := hopRes c (k + 1) nw) (fun j _ hj => by
    unfold hopRes
    by_cases hj' : used j = true ∧ nw ≤ j
    · rw [if_pos hj', if_pos hj']
      refine if_congr ⟨fun h => by omega, fun h => ?_⟩ rfl rfl
      by_contra hn
      have := hgap j (by omega) (by omega)
      rw [hj'.1] at this; exact Bool.noConfusion this
    · rw [if_neg hj', if_neg hj'])) $$ Hh
  ihave Hs := (fam_open (show k < 72 by omega) (Φ := slotRes m c na ns nw) (Ψ := slotRes m c na (k + 1) nw) (fun j _ hj => by
    unfold slotRes
    have hh : (j < 64 ∧ used j = true ∧ nw ≤ j ∧ j < ns) ↔ (j < 64 ∧ used j = true ∧ nw ≤ j ∧ j < k + 1) := by
      constructor
      · rintro ⟨h1, h2, h3, h4⟩; exact ⟨h1, h2, h3, by omega⟩
      · rintro ⟨h1, h2, h3, h4⟩
        refine ⟨h1, h2, h3, ?_⟩
        by_contra hn
        have := hgap j (by omega) (by omega)
        rw [h2] at this; exact Bool.noConfusion this
    simp only [hh])) $$ Hs
  rw [hopRes_ready hu hnw hns, hopRes_sent hu hnw (show k < k + 1 by omega), slotRes_full m hg hna (Or.inr (Or.inl hns)),
    slotRes_lent m hg hna hk hu hnw (show k < k + 1 by omega), Ow_step c hk hu hns hgap]
  icases Hh with ⟨⟨HtS, #HrS, HtR, #HrR, Hfree, Hat⟩, Hhb⟩
  icases Hs with ⟨⟨Hkeep, Hlent⟩, Hsb⟩
  unfold freeSlot
  icases Hfree with ⟨%X, Hfree⟩
  iapply (wp_hop (m := m) (K := K) hk hu) $$ [HO HtS HtR Hfree Hlent]
  · isplitr; · iexact Hrec
    isplitl [HO]; · iexact HO
    isplitl [HtS]; · iexact HtS
    isplitr; · iexact HrS
    isplitl [HtR]; · iexact HtR
    isplitr; · iexact HrR
    isplitl [Hfree]; · iexact Hfree
    iexact Hlent
  iintro ⟨Hc, HO⟩
  iapply (run hf)
  unfold St
  isplitr; · iexact Hrec
  isplitr; · iexact Hlev
  isplitl [HO]; · iexists W; iexact HO
  isplitl [Hin]; · iexact Hin
  isplitl [Hwq]; · iexact Hwq
  isplitl [Hout]; · iexact Hout
  isplitl [Hhb Hc Hat]
  · iapply Hhb
    isplitl [Hc] <;> iassumption
  isplitl [Hr]; · iexact Hr
  isplitl [Hsb Hkeep]
  · iapply Hsb
    isplitl [Hkeep]; · iexact Hkeep
    iempintro
  iexact Hb

/-- Hop `k` to the device waited for. -/
theorem recv {src dst : Memref sig .tc .vmem S64x4096 .fp8e5m2} {a : DmaSem sig} {h1 h2}
    {f : PUnit → Prog (TpuEff nD τ sig (Elt F) Λ₀ .tc) β} (k : ℕ)
    (ha : a = rS k) (hdst : ∃ j, dst = sq j) (hk : k < 64) (hu : used k = true) (hns : ns ≤ k + 8) (hsent : k < ns) (hna : na ≤ k + 8)
    (hgap : ∀ j, j < k + 8 → na ≤ j → good j = false)
    (hf : Does c (St m c K (k + 9) ns nw nc b) (f ⟨⟩) Q) :
    Does c (St m c K na ns nw nc b) (Prog.lift (.waitDma2 a src dst h1 h2) >>= f) Q := by
  obtain ⟨j₀, rfl⟩ := hdst
  subst ha
  have hg : good (k + 8) = true := by
    unfold good; rw [Nat.add_sub_cancel, hu, Bool.or_true]
  refine head ?_
  unfold St
  iintro ⟨#Hrec, #Hlev, ⟨%W, HO⟩, Hin, Hwq, Hout, Hh, Hr, Hs, Hb⟩
  ihave Hr := (fam_open hk (Φ := recvRes c na) (Ψ := recvRes c (k + 9)) (fun j _ hj => by
    unfold recvRes
    by_cases hu' : used j = true
    · refine if_congr ⟨fun h => ⟨hu', ?_⟩, fun h => ⟨hu', by omega⟩⟩ rfl rfl
      by_contra hn
      have := hgap (j + 8) (by omega) (by omega)
      unfold good at this
      rw [Nat.add_sub_cancel, hu', Bool.or_true] at this; exact Bool.noConfusion this
    · rw [if_neg (fun h => hu' h.1), if_neg (fun h => hu' h.1)])) $$ Hr
  ihave Hs := (fam_open (show k + 8 < 72 by omega) (Φ := slotRes m c na ns nw) (Ψ := slotRes m c (k + 9) ns nw) (fun j _ hj => by
    unfold slotRes
    by_cases hg' : good j = true
    · have hh : j < na ↔ j < k + 9 := by
        constructor
        · intro h; omega
        · intro h
          by_contra hn
          have := hgap j (by omega) (by omega)
          rw [hg'] at this; exact Bool.noConfusion this
      simp only [hh]
    · rw [if_neg hg', if_neg hg'])) $$ Hs
  rw [recvRes_due hu hna, recvRes_come (fun _ => show k + 8 < k + 9 by omega), slotRes_away m hg hna (show 8 ≤ k + 8 by omega),
    slotRes_full m hg (show k + 8 < k + 9 by omega) (Or.inr (Or.inl hns))]
  icases Hr with ⟨⟨Hc, Hat⟩, Hrb⟩
  icases Hs with ⟨-, Hsb⟩
  iapply (Rounds.wp_wait_rest_token 𝒱₀ ER (ringRd m) (c : Thread nD τ) none (κ := K (rC c k))
      (wpE_waitDma2_eq 𝒱₀ (c : Thread nD τ) none Set.univ) (Set.mem_univ _) () (O := Ow c ns) (W := W) (R := 0) (m := 0) (T := ∅)
      ((Nat.zero_add _).trans ((credit j₀).trans (expect_recv m c hk hu).symm))) $$ [Hc HO Hat]
  · isplitr; · iapply (records_own m K c (rI k)); iexact Hrec
    isplitl [Hc]; · rw [credit j₀]; iexact Hc
    isplitl [HO]; · iexact HO
    isplitr
    · iapply (mayWait_low c (.dma (rS k)) ns (by
        have := lv_recv c hk
        show lvOf (SemLoc.dma (rS k)) < 2 + ns
        have h' : lvOf (SemLoc.dma (rS k)) = 2 + k := this
        omega))
      iexact Hlev
    iexact Hat
  iintro ⟨HO, Hat, -, Hpay⟩
  ihave Hpay := (Entails.of_eq (rest_recv m c hk hu)) $$ Hpay
  unfold recvPay
  ihave Hpay := (owns_halve c (k + 8) _) $$ Hpay
  iapply fupd_wp
  imod (close (m := m) (K (rC c k)) (rC c k)) $$ [Hat] with Hz
  · isplitr; · iapply (records_own m K c (rI k)); iexact Hrec
    iexact Hat
  imodintro
  iapply (run hf)
  unfold St
  isplitr; · iexact Hrec
  isplitr; · iexact Hlev
  isplitl [HO]; · iexists _; iexact HO
  isplitl [Hin]; · iexact Hin
  isplitl [Hwq]; · iexact Hwq
  isplitl [Hout]; · iexact Hout
  isplitl [Hh]; · iexact Hh
  isplitl [Hrb Hz]; · iapply Hrb; iexact Hz
  isplitl [Hsb Hpay]; · iapply Hsb; iexact Hpay
  iexact Hb

/-- Hop `k`'s leaving waited for. -/
theorem sent {src dst : Memref sig .tc .vmem S64x4096 .fp8e5m2} {a : DmaSem sig} {h1 h2}
    {f : PUnit → Prog (TpuEff nD τ sig (Elt F) Λ₀ .tc) β} (k : ℕ)
    (ha : a = sS k) (hdst : ∃ j, dst = sq j) (hk : k < 64) (hu : used k = true) (hg : good k = true) (hna : k < na) (hnw : nw ≤ k) (hns : k < ns)
    (hgap : ∀ j, j < k → nw ≤ j → used j = false)
    (hf : Does c (St m c K na ns (k + 1) nc b) (f ⟨⟩) Q) :
    Does c (St m c K na ns nw nc b) (Prog.lift (.waitDma2 a src dst h1 h2) >>= f) Q := by
  obtain ⟨j₀, rfl⟩ := hdst
  subst ha
  refine head ?_
  unfold St
  iintro ⟨#Hrec, #Hlev, ⟨%W, HO⟩, Hin, Hwq, Hout, Hh, Hr, Hs, Hb⟩
  have hgap' : ∀ j, j ≠ k → used j = true → (nw ≤ j ↔ k + 1 ≤ j) := by
    intro j hj hu'
    refine ⟨fun h => ?_, fun h => by omega⟩
    by_contra hn
    have := hgap j (by omega) h
    rw [hu'] at this; exact Bool.noConfusion this
  ihave Hh := (fam_open hk (Φ := hopRes c ns nw) (Ψ := hopRes c ns (k + 1)) (fun j _ hj => by
    unfold hopRes
    exact if_congr ⟨fun h => ⟨h.1, (hgap' j hj h.1).1 h.2⟩, fun h => ⟨h.1, (hgap' j hj h.1).2 h.2⟩⟩ rfl rfl)) $$ Hh
  ihave Hs := (fam_open (show k < 72 by omega) (Φ := slotRes m c na ns nw) (Ψ := slotRes m c na ns (k + 1)) (fun j _ hj => by
    unfold slotRes
    have hh : (j < 64 ∧ used j = true ∧ nw ≤ j ∧ j < ns) ↔ (j < 64 ∧ used j = true ∧ k + 1 ≤ j ∧ j < ns) :=
      ⟨fun h => ⟨h.1, h.2.1, (hgap' j hj h.2.1).1 h.2.2.1, h.2.2.2⟩, fun h => ⟨h.1, h.2.1, (hgap' j hj h.2.1).2 h.2.2.1, h.2.2.2⟩⟩
    simp only [hh])) $$ Hs
  rw [hopRes_sent hu hnw hns, hopRes_left (fun _ => show k < k + 1 by omega), slotRes_lent m hg hna hk hu hnw hns,
    slotRes_full m hg hna (Or.inl (show k < k + 1 by omega))]
  icases Hh with ⟨⟨Hc, Hat⟩, Hhb⟩
  icases Hs with ⟨⟨Hkeep, -⟩, Hsb⟩
  iapply (Rounds.wp_wait_rest_token 𝒱₀ ER (ringRd m) (c : Thread nD τ) none (κ := K (sC c k))
      (wpE_waitDma2_eq 𝒱₀ (c : Thread nD τ) none Set.univ) (Set.mem_univ _) () (O := Ow c ns) (W := W) (R := 0) (m := 0) (T := ∅)
      ((Nat.zero_add _).trans ((credit j₀).trans (expect_send m c hk hu).symm))) $$ [Hc HO Hat]
  · isplitr; · iapply (records_own m K c (sI k)); iexact Hrec
    isplitl [Hc]; · rw [credit j₀]; iexact Hc
    isplitl [HO]; · iexact HO
    isplitr
    · iapply (mayWait_low c (.dma (sS k)) ns (by
        have := lv_send c hk
        show lvOf (SemLoc.dma (sS k)) < 2 + ns
        have h' : lvOf (SemLoc.dma (sS k)) = 0 := this
        omega))
      iexact Hlev
    iexact Hat
  iintro ⟨HO, Hat, -, Hpay⟩
  ihave Hpay := (Entails.of_eq (rest_send m c hk hu)) $$ Hpay
  unfold sendPay
  iapply fupd_wp
  imod (close (m := m) (K (sC c k)) (sC c k)) $$ [Hat] with Hz
  · isplitr; · iapply (records_own m K c (sI k)); iexact Hrec
    iexact Hat
  imodintro
  iapply (run hf)
  unfold St
  isplitr; · iexact Hrec
  isplitr; · iexact Hlev
  isplitl [HO]; · iexists _; iexact HO
  isplitl [Hin]; · iexact Hin
  isplitl [Hwq]; · iexact Hwq
  isplitl [Hout]; · iexact Hout
  isplitl [Hhb Hz]; · iapply Hhb; iexact Hz
  isplitl [Hr]; · iexact Hr
  isplitl [Hsb Hkeep Hpay]
  · iapply Hsb
    isplitl [Hkeep] <;> iassumption
  iexact Hb

end Does
end Cert.KernelIdeal.RingProof
-- ==== Proof.Meet.lean ====
/-
The barrier: what each device hands its neighbours there and what it gains.
-/
module

public import proofs.«01_k».proof.Proof.Hops

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-- Device `c`'s rights to start hop `k`, before the barrier: all but the peer's slot. -/
def hop0 (k : ℕ) : sProp 𝕄 :=
  if used k = true then iprop(dutyTok ER (sC c k) 0 false ∗ reached ER (sC c k) 0 ∗ dutyTok ER (rC (peer c k) k) 0 false ∗ atPos ER (sC c k) 0 ∅ 0)
  else semVal (sC c k) 0
/-- Device `c`'s slot and record of hop `k` to it, if the hop comes from the neighbour that `d` names. -/
def give (d : Bool) (k : ℕ) : sProp 𝕄 :=
  if used k = true ∧ (k % 2 = 0 ↔ d = true) then iprop(freeSlot c (k + 8) ∗ reached ER (rC c k) 0) else iprop(emp)
/-- What device `c` gains over hop `k`, if its peer is the neighbour that `d` names. -/
def gain (d : Bool) (k : ℕ) : sProp 𝕄 :=
  if used k = true ∧ (k % 2 = 0 ↔ d = true) then iprop(freeSlot (peer c k) (k + 8) ∗ reached ER (rC (peer c k) k) 0) else iprop(emp)

/-- A neighbour's unit hands over what is gained over the hops to that neighbour. -/
theorem barPay_gain (d : Bool) : (barPay c d : sProp 𝕄) = bigSep (Finset.range 64) (gain c d) := by
  unfold barPay hops
  exact bigSep_filter _ _ _

/-- What the neighbour to the left is paid is of hops that come from it. -/
theorem barPay_left : (barPay (after c 15) true : sProp 𝕄) = bigSep (Finset.range 64) (give c true) := by
  rw [barPay_gain]
  refine fam_same fun k hk => ?_
  unfold gain give
  by_cases h : used k = true ∧ (k % 2 = 0 ↔ true = true)
  · rw [if_pos h, if_pos h, peer_even (after c 15) (h.2.2 rfl), after_right_left]
  · rw [if_neg h, if_neg h]
/-- What the neighbour to the right is paid is of hops that come from it. -/
theorem barPay_right : (barPay (after c 1) false : sProp 𝕄) = bigSep (Finset.range 64) (give c false) := by
  rw [barPay_gain]
  refine fam_same fun k hk => ?_
  unfold gain give
  by_cases h : used k = true ∧ (k % 2 = 0 ↔ false = true)
  · have h0 : k % 2 = 1 := (Nat.mod_two_eq_zero_or_one k).resolve_left fun e => Bool.noConfusion (h.2.1 e)
    rw [if_pos h, if_pos h, peer_odd (after c 1) h0, after_left_right]
  · rw [if_neg h, if_neg h]

/-- With both neighbours' units the rights to start hop `k` are complete. -/
theorem hop_ready (k : ℕ) : iprop(hop0 c k ∗ gain c false k ∗ gain c true k) ⊢ (hopRes c 0 0 k : sProp 𝕄) := by
  by_cases hu : used k = true
  · rw [hopRes_ready hu (Nat.zero_le _) (Nat.zero_le _)]
    unfold hop0 gain
    rw [if_pos hu]
    by_cases h0 : k % 2 = 0
    · rw [if_neg (fun h => Bool.noConfusion (h.2.1 h0)), if_pos ⟨hu, fun _ => rfl, fun _ => h0⟩]
      iintro ⟨⟨H1, #H2, H3, H4⟩, -, H5, #H6⟩
      isplitl [H1]; · iexact H1
      isplitr; · iexact H2
      isplitl [H3]; · iexact H3
      isplitr; · iexact H6
      isplitl [H5] <;> iassumption
    · rw [if_pos ⟨hu, fun h => absurd h h0, fun h => Bool.noConfusion h⟩, if_neg (fun h => h0 (h.2.2 rfl))]
      iintro ⟨⟨H1, #H2, H3, H4⟩, ⟨H5, #H6⟩, -⟩
      isplitl [H1]; · iexact H1
      isplitr; · iexact H2
      isplitl [H3]; · iexact H3
      isplitr; · iexact H6
      isplitl [H5] <;> iassumption
  · rw [hopRes_left (fun h => absurd h hu)]
    unfold hop0 gain
    rw [if_neg hu, if_neg (fun h => hu h.1), if_neg (fun h => hu h.1)]
    iintro ⟨H, -, -⟩
    iexact H
/-- The same of all the hops at once. -/
theorem hops_ready : iprop(bigSep (Finset.range 64) (hop0 c) ∗ barPay c false ∗ barPay c true) ⊢ (bigSep (Finset.range 64) (hopRes c 0 0) : sProp 𝕄) := by
  rw [barPay_gain, barPay_gain, ← bigSep_sep', ← bigSep_sep']
  exact bigSep_mono fun k _ => hop_ready c k

/-! ## Before the barrier -/

variable (K : GSem nD τ sig → ℕ)

/-- What the barrier leaves as it is, or does not give away. -/
def Rest : sProp 𝕄 :=
  iprop(records m K ∗ levAts L lv ∗ inputs m c ∗ wqRes m c false ∗ outRes m c 0
    ∗ atPos ER (barC c) 0 ∅ 0 ∗ cred (tallyAt (barC c) () 2)
    ∗ bigSep (Finset.range 64) (hop0 c) ∗ bigSep (Finset.range 64) (recvRes c 0) ∗ bigSep (Finset.range 72) (slotRes m c 0 0 0))
/-- Before the first signal, between the two, and after both. -/
def M0 : sProp 𝕄 := iprop(Rest m c K ∗ (∃ W, owes (c : Thread nD τ) (O₀ c) W)
  ∗ (dutyTok ER (barC (after c 15)) 0 true ∗ barPay (after c 15) true) ∗ dutyTok ER (barC (after c 1)) 0 false ∗ barPay (after c 1) false)
/-- Between the two signals. -/
def M1 : sProp 𝕄 := iprop(Rest m c K ∗ (∃ W, owes (c : Thread nD τ) (O₁ c) W)
  ∗ dutyTok ER (barC (after c 1)) 0 false ∗ barPay (after c 1) false)
/-- After both. -/
def M2 : sProp 𝕄 := iprop(Rest m c K ∗ (∃ W, owes (c : Thread nD τ) (Ow c 0) W))

namespace Does
variable {m} {c} {K}
variable {α β : Type} {P P' : sProp (MT nD τ sig Unit (Elt F) ℕ UU ℕ)} {Q : β → sProp (MT nD τ sig Unit (Elt F) ℕ UU ℕ)}

/-- Before the first signal the inputs may be read. -/
theorem M0_inputs : M0 m c K ⊢ iprop(inputs m c ∗ (inputs m c -∗ M0 m c K)) := by
  unfold M0 Rest
  iintro ⟨⟨#H1, #H2, H3, H4, H5, H6, H7, H8, H9, H10⟩, HO, Hl⟩
  isplitl [H3]; · iexact H3
  iintro H3
  isplitr [HO Hl]
  · isplitr; · iexact H1
    isplitr; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
  isplitl [HO] <;> iassumption

/-- What a unit on the barrier cell hands over, by the schedule. -/
theorem payload_bar (d : Bool) : barPay c d ⊢ ((ringRd (F := F) m).payload (barC c) 0 d : sProp 𝕄) := Entails.of_eq rfl

/-- The unit to the left neighbour. -/
theorem signal_left {n : Dev nD} {f : PUnit → Prog (TpuEff nD τ sig (Elt F) Λ₀ .tc) β} (hn : n = after c 15)
    (hf : Does c (M1 m c K) (f ⟨⟩) Q) : Does c (M0 m c K) (semSignalWord n barS 1#32 >>= f) Q := by
  subst hn
  refine head ?_
  unfold M0 Rest
  iintro ⟨⟨#Hrec, Hrest⟩, ⟨%W, HO⟩, ⟨Ht, Hp⟩, Hl⟩
  iapply (Rounds.wp_signal 𝒱₀ ER (ringRd m) (c : Thread nD τ) none (dst := (after c 15 : Thread nD τ)) (κ := K (barC (after c 15)))
      (d := true) (by rw [duties_bar m (after c 15)]; exact Finset.mem_univ _) (show (ringRd m).amount (barC (after c 15)) 0 true = _ from (rfl : _ = 1).trans (by decide)) () (O₁ c) rfl)
    $$ [HO Ht Hp]
  · isplitr; · iapply (records_bar m K (after c 15)); iexact Hrec
    isplitl [HO]; · iexact HO
    isplitl [Ht]; · iexact Ht
    isplitl [Hp]; · iapply (payload_bar (m := m) (c := after c 15) true); iexact Hp
    iapply (records_reached m K (after c 15)); iexact Hrec
  iintro HO
  iapply (run hf)
  unfold M1 Rest
  isplitl [Hrest]
  · isplitr; · iexact Hrec
    iexact Hrest
  isplitl [HO]; · iexists W; iexact HO
  iexact Hl

/-- The unit to the right neighbour. -/
theorem signal_right {n : Dev nD} {f : PUnit → Prog (TpuEff nD τ sig (Elt F) Λ₀ .tc) β} (hn : n = after c 1)
    (hf : Does c (M2 m c K) (f ⟨⟩) Q) : Does c (M1 m c K) (semSignalWord n barS 1#32 >>= f) Q := by
  subst hn
  refine head ?_
  unfold M1 Rest
  iintro ⟨⟨#Hrec, Hrest⟩, ⟨%W, HO⟩, Ht, Hp⟩
  iapply (Rounds.wp_signal 𝒱₀ ER (ringRd m) (c : Thread nD τ) none (dst := (after c 1 : Thread nD τ)) (κ := K (barC (after c 1)))
      (d := false) (by rw [duties_bar m (after c 1)]; exact Finset.mem_univ _) (show (ringRd m).amount (barC (after c 1)) 0 false = _ from (rfl : _ = 1).trans (by decide)) () (Ow c 0) rfl)
    $$ [HO Ht Hp]
  · isplitr; · iapply (records_bar m K (after c 1)); iexact Hrec
    isplitl [HO]; · iexact HO
    isplitl [Ht]; · iexact Ht
    isplitl [Hp]; · iapply (payload_bar (m := m) (c := after c 1) false); iexact Hp
    iapply (records_reached m K (after c 1)); iexact Hrec
  iintro HO
  iapply (run hf)
  unfold M2 Rest
  isplitl [Hrest]
  · isplitr; · iexact Hrec
    iexact Hrest
  iexists W; iexact HO

/-- Both neighbours' units waited for. -/
theorem meet {f : PUnit → Prog (TpuEff nD τ sig (Elt F) Λ₀ .tc) β}
    (hf : Does c (St m c K 0 0 0 0 false) (f ⟨⟩) Q) : Does c (M2 m c K) (semWaitWord barS 2#32 >>= f) Q := by
  refine head ?_
  unfold M2 Rest
  iintro ⟨⟨#Hrec, #Hlev, Hin, Hwq, Hout, Hat, Hc, Hh, Hr, Hs⟩, ⟨%W, HO⟩⟩
  iapply (Rounds.wp_wait_rest_token 𝒱₀ ER (ringRd m) (c : Thread nD τ) none (κ := K (barC c))
      (wpE_semWait_eq 𝒱₀ (c : Thread nD τ) none Set.univ) (Set.mem_univ _) () (O := Ow c 0) (W := W) (R := 0) (m := 0) (T := ∅)
      (by rw [expect_bar m c]; decide)) $$ [Hc HO Hat]
  · isplitr; · iapply (records_bar m K c); iexact Hrec
    isplitl [Hc]; · iexact Hc
    isplitl [HO]; · iexact HO
    isplitr
    · iapply (mayWait_low c (.reg barS) 0 (show (1 : ℕ) < 2 + 0 by decide)); iexact Hlev
    iexact Hat
  iintro ⟨HO, Hat, -, Hpay⟩
  ihave Hpay := (Entails.of_eq (rest_bar m c)) $$ Hpay
  iapply fupd_wp
  imod (close (m := m) (K (barC c)) (barC c)) $$ [Hat] with Hz
  · isplitr; · iapply (records_bar m K c); iexact Hrec
    iexact Hat
  imodintro
  iapply (run hf)
  unfold St
  isplitr; · iexact Hrec
  isplitr; · iexact Hlev
  isplitl [HO]; · iexists _; iexact HO
  isplitl [Hin]; · iexact Hin
  isplitl [Hwq]; · iexact Hwq
  isplitl [Hout]; · iexact Hout
  isplitl [Hh Hpay]
  · iapply (hops_ready c)
    isplitl [Hh] <;> iassumption
  isplitl [Hr]; · iexact Hr
  isplitl [Hs] <;> iassumption

end Does
end Cert.KernelIdeal.RingProof
-- ==== Proof.Words.lean ====
/-
What the words the kernel computes name
-/
module

public import proofs.«01_k».proof.Proof.Meet

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The words the kernel computes, as numbers

The kernel finds its neighbours and its rows by arithmetic on machine words. Each fact below is that
arithmetic for the sixteen values a word can take. -/

/-- A device named by a word is that device. -/
theorem dev_val : ∀ a : Fin 16, (Scalar.addi (0#32 : BitVec 32) (Scalar.muli (word a) 1#32)).toNat = a.val := by decide +kernel

/-- The place the word of a lookup names: 15 after the device's own. -/
theorem off2 : ∀ c : Fin 16, k0_off2 (word (posT c)) = ![(spot c 15).val] := by decide +kernel

/-- The place the word of a lookup names: 1 after the device's own. -/
theorem off3 : ∀ c : Fin 16, k0_off3 (word (posT c)) = ![(spot c 1).val] := by decide +kernel

/-- The place the word of a lookup names: 15 after the device's own. -/
theorem off5 : ∀ c : Fin 16, k0_off5 (word (posT c)) = ![(spot c 15).val] := by decide +kernel

/-- The place the word of a lookup names: 14 after the device's own. -/
theorem off10 : ∀ c : Fin 16, k0_off10 (word (posT c)) = ![(spot c 14).val] := by decide +kernel

/-- The place the word of a lookup names: 13 after the device's own. -/
theorem off15 : ∀ c : Fin 16, k0_off15 (word (posT c)) = ![(spot c 13).val] := by decide +kernel

/-- The place the word of a lookup names: 12 after the device's own. -/
theorem off20 : ∀ c : Fin 16, k0_off20 (word (posT c)) = ![(spot c 12).val] := by decide +kernel

/-- The place the word of a lookup names: 11 after the device's own. -/
theorem off25 : ∀ c : Fin 16, k0_off25 (word (posT c)) = ![(spot c 11).val] := by decide +kernel

/-- The place the word of a lookup names: 10 after the device's own. -/
theorem off30 : ∀ c : Fin 16, k0_off30 (word (posT c)) = ![(spot c 10).val] := by decide +kernel

/-- The place the word of a lookup names: 9 after the device's own. -/
theorem off35 : ∀ c : Fin 16, k0_off35 (word (posT c)) = ![(spot c 9).val] := by decide +kernel

/-- The place the word of a lookup names: 1 after the device's own. -/
theorem off6 : ∀ c : Fin 16, k0_off6 (word (posT c)) = ![(spot c 1).val] := by decide +kernel

/-- The place the word of a lookup names: 2 after the device's own. -/
theorem off11 : ∀ c : Fin 16, k0_off11 (word (posT c)) = ![(spot c 2).val] := by decide +kernel

/-- The place the word of a lookup names: 3 after the device's own. -/
theorem off16 : ∀ c : Fin 16, k0_off16 (word (posT c)) = ![(spot c 3).val] := by decide +kernel

/-- The place the word of a lookup names: 4 after the device's own. -/
theorem off21 : ∀ c : Fin 16, k0_off21 (word (posT c)) = ![(spot c 4).val] := by decide +kernel

/-- The place the word of a lookup names: 5 after the device's own. -/
theorem off26 : ∀ c : Fin 16, k0_off26 (word (posT c)) = ![(spot c 5).val] := by decide +kernel

/-- The place the word of a lookup names: 6 after the device's own. -/
theorem off31 : ∀ c : Fin 16, k0_off31 (word (posT c)) = ![(spot c 6).val] := by decide +kernel

/-- The place the word of a lookup names: 7 after the device's own. -/
theorem off36 : ∀ c : Fin 16, k0_off36 (word (posT c)) = ![(spot c 7).val] := by decide +kernel

/-- The place the word of a lookup names: 8 after the device's own. -/
theorem off40 : ∀ c : Fin 16, k0_off40 (word (posT c)) = ![(spot c 8).val] := by decide +kernel

/-- The first rows of a device's block. -/
theorem off7 : ∀ o : Fin 16, k0_off7 (word o) = ![256 * o.val + 64 * 0, 0] := by decide +kernel

/-- The rows of sub-block `s` of a device's block. -/
theorem off8 : ∀ (o : Fin 16) (s : Fin 4), k0_off8 (word o) (BitVec.ofNat 32 (64 * s.val)) = ![256 * o.val + 64 * s.val, 0] := by decide +kernel

/-- The rows of sub-block `s` of a device's block. -/
theorem off9 : ∀ (o : Fin 16) (s : Fin 4), k0_off9 (word o) (BitVec.ofNat 32 (64 * s.val)) = ![256 * o.val + 64 * s.val, 0] := by decide +kernel

/-- The first rows of a device's block. -/
theorem off12 : ∀ o : Fin 16, k0_off12 (word o) = ![256 * o.val + 64 * 0, 0] := by decide +kernel

/-- The rows of sub-block `s` of a device's block. -/
theorem off13 : ∀ (o : Fin 16) (s : Fin 4), k0_off13 (word o) (BitVec.ofNat 32 (64 * s.val)) = ![256 * o.val + 64 * s.val, 0] := by decide +kernel

/-- The rows of sub-block `s` of a device's block. -/
theorem off14 : ∀ (o : Fin 16) (s : Fin 4), k0_off14 (word o) (BitVec.ofNat 32 (64 * s.val)) = ![256 * o.val + 64 * s.val, 0] := by decide +kernel

/-- The first rows of a device's block. -/
theorem off17 : ∀ o : Fin 16, k0_off17 (word o) = ![256 * o.val + 64 * 0, 0] := by decide +kernel

/-- The rows of sub-block `s` of a device's block. -/
theorem off18 : ∀ (o : Fin 16) (s : Fin 4), k0_off18 (word o) (BitVec.ofNat 32 (64 * s.val)) = ![256 * o.val + 64 * s.val, 0] := by decide +kernel

/-- The rows of sub-block `s` of a device's block. -/
theorem off19 : ∀ (o : Fin 16) (s : Fin 4), k0_off19 (word o) (BitVec.ofNat 32 (64 * s.val)) = ![256 * o.val + 64 * s.val, 0] := by decide +kernel

/-- The first rows of a device's block. -/
theorem off22 : ∀ o : Fin 16, k0_off22 (word o) = ![256 * o.val + 64 * 0, 0] := by decide +kernel

/-- The rows of sub-block `s` of a device's block. -/
theorem off23 : ∀ (o : Fin 16) (s : Fin 4), k0_off23 (word o) (BitVec.ofNat 32 (64 * s.val)) = ![256 * o.val + 64 * s.val, 0] := by decide +kernel

/-- The rows of sub-block `s` of a device's block. -/
theorem off24 : ∀ (o : Fin 16) (s : Fin 4), k0_off24 (word o) (BitVec.ofNat 32 (64 * s.val)) = ![256 * o.val + 64 * s.val, 0] := by decide +kernel

/-- The first rows of a device's block. -/
theorem off27 : ∀ o : Fin 16, k0_off27 (word o) = ![256 * o.val + 64 * 0, 0] := by decide +kernel

/-- The rows of sub-block `s` of a device's block. -/
theorem off28 : ∀ (o : Fin 16) (s : Fin 4), k0_off28 (word o) (BitVec.ofNat 32 (64 * s.val)) = ![256 * o.val + 64 * s.val, 0] := by decide +kernel

/-- The rows of sub-block `s` of a device's block. -/
theorem off29 : ∀ (o : Fin 16) (s : Fin 4), k0_off29 (word o) (BitVec.ofNat 32 (64 * s.val)) = ![256 * o.val + 64 * s.val, 0] := by decide +kernel

/-- The first rows of a device's block. -/
theorem off32 : ∀ o : Fin 16, k0_off32 (word o) = ![256 * o.val + 64 * 0, 0] := by decide +kernel

/-- The rows of sub-block `s` of a device's block. -/
theorem off33 : ∀ (o : Fin 16) (s : Fin 4), k0_off33 (word o) (BitVec.ofNat 32 (64 * s.val)) = ![256 * o.val + 64 * s.val, 0] := by decide +kernel

/-- The rows of sub-block `s` of a device's block. -/
theorem off34 : ∀ (o : Fin 16) (s : Fin 4), k0_off34 (word o) (BitVec.ofNat 32 (64 * s.val)) = ![256 * o.val + 64 * s.val, 0] := by decide +kernel

/-- The first rows of a device's block. -/
theorem off37 : ∀ o : Fin 16, k0_off37 (word o) = ![256 * o.val + 64 * 0, 0] := by decide +kernel

/-- The rows of sub-block `s` of a device's block. -/
theorem off38 : ∀ (o : Fin 16) (s : Fin 4), k0_off38 (word o) (BitVec.ofNat 32 (64 * s.val)) = ![256 * o.val + 64 * s.val, 0] := by decide +kernel

/-- The rows of sub-block `s` of a device's block. -/
theorem off39 : ∀ (o : Fin 16) (s : Fin 4), k0_off39 (word o) (BitVec.ofNat 32 (64 * s.val)) = ![256 * o.val + 64 * s.val, 0] := by decide +kernel

/-- The rows of sub-block `s` of a device's block. -/
theorem off41 : ∀ (o : Fin 16) (s : Fin 4), k0_off41 (word o) (BitVec.ofNat 32 (64 * s.val)) = ![256 * o.val + 64 * s.val, 0] := by decide +kernel

/-- The rows of sub-block `s` of the device's own block. -/
theorem off4 : ∀ (c : Fin 16) (s : Fin 4), k0_off4 c (BitVec.ofNat 32 (64 * s.val)) = ![256 * (org c (2 * s.val)).val + 64 * s.val, 0] := by decide +kernel

/-- Every lookup at the device's own place stays inside the table. -/
theorem chk1 : ∀ c : Fin 16, k0_chk1 (word (posT c)) := by decide +kernel

/-- What the kernel assumes of a device word holds. -/
theorem chk2 : ∀ a : Fin 16, k0_chk2 (word a) := by decide +kernel

/-- What the kernel assumes of a device word holds. -/
theorem chk3 : ∀ a : Fin 16, k0_chk3 (word a) := by decide +kernel

/-- What the kernel assumes of a device word holds. -/
theorem chk4 : ∀ a : Fin 16, k0_chk4 (word a) := by decide +kernel

/-- What the kernel assumes of a device word holds. -/
theorem chk5 : ∀ a : Fin 16, k0_chk5 (word a) := by decide +kernel

/-- What the kernel assumes of a device word holds. -/
theorem chk6 : ∀ a : Fin 16, k0_chk6 (word a) := by decide +kernel

/-- What the kernel assumes of a device word holds. -/
theorem chk7 : ∀ a : Fin 16, k0_chk7 (word a) := by decide +kernel

/-- What the kernel assumes of a device word holds. -/
theorem chk8 : ∀ a : Fin 16, k0_chk8 (word a) := by decide +kernel

/-- What the kernel assumes of a device word holds. -/
theorem chk9 : ∀ a : Fin 16, k0_chk9 (word a) := by decide +kernel

/-- What the kernel assumes of a device word holds. -/
theorem chk10 : ∀ a : Fin 16, k0_chk10 (word a) := by decide +kernel

/-- What the kernel assumes of a device word holds. -/
theorem chk11 : ∀ a : Fin 16, k0_chk11 (word a) := by decide +kernel

/-- What the kernel assumes of a device word holds. -/
theorem chk12 : ∀ a : Fin 16, k0_chk12 (word a) := by decide +kernel

/-- What the kernel assumes of a device word holds. -/
theorem chk13 : ∀ a : Fin 16, k0_chk13 (word a) := by decide +kernel

/-- What the kernel assumes of a device word holds. -/
theorem chk14 : ∀ a : Fin 16, k0_chk14 (word a) := by decide +kernel

/-- What the kernel assumes of a device word holds. -/
theorem chk15 : ∀ a : Fin 16, k0_chk15 (word a) := by decide +kernel

/-- What the kernel assumes of a device word holds. -/
theorem chk16 : ∀ a : Fin 16, k0_chk16 (word a) := by decide +kernel

/-- What the kernel assumes of a device word holds. -/
theorem chk17 : ∀ a : Fin 16, k0_chk17 (word a) := by decide +kernel

/-- What the kernel assumes of a device word holds. -/
theorem chk18 : ∀ a : Fin 16, k0_chk18 (word a) := by decide +kernel

/-- The first eight slots hold the device's own rows. -/
theorem own_row (m : (ℓ : Loc nD τ sig) → Buf (Elt F) ℓ) (c : Dev nD) (j : Fin 8) :
    yB m c (sub j.val) = slC m c j.val := by
  show yB m c (sub j.val) = yB m (org c j.val) (sub j.val)
  rw [org_self c j]

/-- A program that leaves `R` leaves whatever `R` gives. -/
theorem Does.weaken {c : Dev nD} {α : Type} {P : sProp 𝕄} {p : Prog (TpuEff nD τ sig (Elt F) Λ₀ .tc) α} {R Q : α → sProp 𝕄}
    (h : Does c P p R) (hR : ∀ a, R a ⊢ Q a) : Does c P p Q := by
  unfold Does at *
  exact h.trans (wp_mono _ _ _ hR)

/-- A program as its own last step. -/
theorem Does.tail {c : Dev nD} {α : Type} {P : sProp 𝕄} {p : Prog (TpuEff nD τ sig (Elt F) Λ₀ .tc) α} {Q : α → sProp 𝕄}
    (h : Does c P (p >>= pure) Q) : Does c P p Q := by
  rwa [show (p >>= pure) = p from Prog.bind_pure p] at h

end Cert.KernelIdeal.RingProof
-- ==== Proof.Body1.lean ====
/-
Parts of the kernel, one theorem each
-/
module

public import proofs.«01_k».proof.Proof.Words

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable {c : Dev nD} {m : (ℓ : Loc nD τ sig) → Buf (Elt F) ℓ} {K : GSem nD τ sig → ℕ}

namespace Does

/-- Part 1 of the kernel. -/
theorem part1 : Does c (M0 m c K)
    (k0_part1 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨c, (Scalar.remsi (Scalar.divsi (Dev.word c) 1#32) 16#32), (word (posT c)), (chk1 c), (word (after c 15)), (chk2 (after c 15)), (word (after c 1)), (chk3 (after c 1)), k0_pay3 (xB m c 0)⟩ (St m c K 1 0 0 0 false)) := by
  rw [k0_part1_eq_skeleton]
  unfold k0_part1_skel
  refine Does.device ?_
  refine Does.pos c (k0_off1_eq c) M0_inputs ?_
  refine Does.assume (chk1 _) ?_
  refine Does.ham (spot c 15) (off2 c) M0_inputs ?_
  refine Does.assume (chk2 _) ?_
  refine Does.ham (spot c 1) (off3 c) M0_inputs ?_
  refine Does.assume (chk3 _) ?_
  refine Does.signal_left (Fin.ext (dev_val (after c 15))) ?_
  refine Does.signal_right (Fin.ext (dev_val (after c 1))) ?_
  refine Does.meet ?_
  refine Does.x 0 rfl ?_
  refine Does.slot_any 0 rfl rfl (by decide) (by decide) fun v21 => ?_
  refine Does.put_slot 0 rfl rfl (by decide) rfl (by decide) (own_row m c 0) ?_
  refine Does.slot_any 1 rfl rfl (by decide) (by decide) fun v24 => ?_
  exact Does.ret _

/-- Part 2 of the kernel. -/
theorem part2 : Does c (St m c K 1 0 0 0 false)
    (k0_part2 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)) (k0_pay3 (xB m c 0)))
    (fun a => iprop(∃ w, At ⟨k0_pay4 (xB m c 1), w⟩ (St m c K 2 2 0 0 false) a)) := by
  rw [k0_part2_eq_skeleton]
  unfold k0_part2_skel
  refine Does.put_slot 1 rfl rfl (by decide) rfl (by decide) (own_row m c 1) ?_
  refine Does.send 0 rfl rfl (Fin.ext (dev_val (after c 1))) rfl rfl (by decide) (by decide +kernel) (by decide +kernel) (by decide) (by decide) (by decide) (by decide +kernel) ?_
  refine Does.send 1 rfl rfl (Fin.ext (dev_val (after c 15))) rfl rfl (by decide) (by decide +kernel) (by decide +kernel) (by decide) (by decide) (by decide) (by decide +kernel) ?_
  refine Does.x 1 rfl ?_
  refine Does.slot_any 2 rfl rfl (by decide) (by decide) fun v49 => ?_
  refine Does.weaken (Does.ret _) fun a => ?_
  iintro H
  iexists _
  iexact H

/-- Part 3 of the kernel. -/
theorem part3 (v49 : Vec F S1x1x64x4096 .fp8e5m2) : Does c (St m c K 2 2 0 0 false)
    (k0_part3 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)) (k0_pay4 (xB m c 1)) v49)
    (At ⟨⟩ (St m c K 4 3 0 0 false)) := by
  rw [k0_part3_eq_skeleton]
  unfold k0_part3_skel
  refine Does.put_slot 2 rfl rfl (by decide) rfl (by decide) (own_row m c 2) ?_
  refine Does.slot_any 3 rfl rfl (by decide) (by decide) fun v52 => ?_
  refine Does.put_slot 3 rfl rfl (by decide) rfl (by decide) (own_row m c 3) ?_
  refine Does.send 2 rfl rfl (Fin.ext (dev_val (after c 1))) rfl rfl (by decide) (by decide +kernel) (by decide +kernel) (by decide) (by decide) (by decide) (by decide +kernel) ?_
  exact Does.ret _

/-- Part 4 of the kernel. -/
theorem part4 : Does c (St m c K 4 3 0 0 false)
    (k0_part4 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 6 5 0 0 false)) := by
  rw [k0_part4_eq_skeleton]
  unfold k0_part4_skel
  refine Does.send 3 rfl rfl (Fin.ext (dev_val (after c 15))) rfl rfl (by decide) (by decide +kernel) (by decide +kernel) (by decide) (by decide) (by decide) (by decide +kernel) ?_
  refine Does.x 2 rfl ?_
  refine Does.slot_any 4 rfl rfl (by decide) (by decide) fun v77 => ?_
  refine Does.put_slot 4 rfl rfl (by decide) rfl (by decide) (own_row m c 4) ?_
  refine Does.slot_any 5 rfl rfl (by decide) (by decide) fun v80 => ?_
  refine Does.put_slot 5 rfl rfl (by decide) rfl (by decide) (own_row m c 5) ?_
  refine Does.send 4 rfl rfl (Fin.ext (dev_val (after c 1))) rfl rfl (by decide) (by decide +kernel) (by decide +kernel) (by decide) (by decide) (by decide) (by decide +kernel) ?_
  exact Does.ret _

/-- Part 5 of the kernel. -/
theorem part5 : Does c (St m c K 6 5 0 0 false)
    (k0_part5 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 8 7 0 0 false)) := by
  rw [k0_part5_eq_skeleton]
  unfold k0_part5_skel
  refine Does.send 5 rfl rfl (Fin.ext (dev_val (after c 15))) rfl rfl (by decide) (by decide +kernel) (by decide +kernel) (by decide) (by decide) (by decide) (by decide +kernel) ?_
  refine Does.x 3 rfl ?_
  refine Does.slot_any 6 rfl rfl (by decide) (by decide) fun v105 => ?_
  refine Does.put_slot 6 rfl rfl (by decide) rfl (by decide) (own_row m c 6) ?_
  refine Does.slot_any 7 rfl rfl (by decide) (by decide) fun v108 => ?_
  refine Does.put_slot 7 rfl rfl (by decide) rfl (by decide) (own_row m c 7) ?_
  refine Does.send 6 rfl rfl (Fin.ext (dev_val (after c 1))) rfl rfl (by decide) (by decide +kernel) (by decide +kernel) (by decide) (by decide) (by decide) (by decide +kernel) ?_
  exact Does.ret _

/-- Part 6 of the kernel. -/
theorem part6 : Does c (St m c K 8 7 0 0 false)
    (k0_part6 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 c (Scalar.remsi (Scalar.divsi (Dev.word c) 1#32) 16#32) (word (after c 15)) (chk2 (after c 15)))
    (At (k0_pay13 (sx1 m c) (sw1 m c)) (St m c K 8 8 0 1 true)) := by
  rw [k0_part6_eq_skeleton]
  unfold k0_part6_skel
  refine Does.send 7 rfl rfl (Fin.ext (dev_val (after c 15))) rfl rfl (by decide) (by decide +kernel) (by decide +kernel) (by decide) (by decide) (by decide) (by decide +kernel) ?_
  refine Does.sx ?_
  refine Does.sw ?_
  refine Does.w ?_
  refine Does.wq_any fun v136 => ?_
  refine Does.put_wq rfl ?_
  refine Does.slot 0 rfl rfl (by decide +kernel) (by decide) (by decide) ?_
  refine Does.wq ?_
  refine Does.out_any fun v148 => ?_
  refine Does.put_out 0 (off4 c 0) (by decide +kernel) rfl ?_
  exact Does.ret _

/-- Part 7 of the kernel. -/
theorem part7 : Does c (St m c K 8 8 0 1 true)
    (k0_part7 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 c (Scalar.remsi (Scalar.divsi (Dev.word c) 1#32) 16#32) (k0_pay13 (sx1 m c) (sw1 m c)))
    (At ⟨⟩ (St m c K 8 8 0 7 true)) := by
  rw [k0_part7_eq_skeleton]
  unfold k0_part7_skel
  refine Does.slot 2 rfl rfl (by decide +kernel) (by decide) (by decide) ?_
  refine Does.wq ?_
  refine Does.out_any fun v158 => ?_
  refine Does.put_out 2 (off4 c 1) (by decide +kernel) rfl ?_
  refine Does.slot 4 rfl rfl (by decide +kernel) (by decide) (by decide) ?_
  refine Does.wq ?_
  refine Does.out_any fun v168 => ?_
  refine Does.put_out 4 (off4 c 2) (by decide +kernel) rfl ?_
  refine Does.slot 6 rfl rfl (by decide +kernel) (by decide) (by decide) ?_
  refine Does.wq ?_
  refine Does.out_any fun v178 => ?_
  refine Does.put_out 6 (off4 c 3) (by decide +kernel) rfl ?_
  exact Does.ret _

end Does
end Cert.KernelIdeal.RingProof
-- ==== Proof.Body2.lean ====
/-
Parts of the kernel, one theorem each
-/
module

public import proofs.«01_k».proof.Proof.Words

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable {c : Dev nD} {m : (ℓ : Loc nD τ sig) → Buf (Elt F) ℓ} {K : GSem nD τ sig → ℕ}

namespace Does

/-- Part 8 of the kernel. -/
theorem part8 : Does c (St m c K 8 8 0 7 true)
    (k0_part8 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 9 9 0 7 true)) := by
  rw [k0_part8_eq_skeleton]
  unfold k0_part8_skel
  refine Does.recv 0 rfl ⟨8, rfl⟩ (by decide) (by decide +kernel) (by decide) (by decide) (by decide) (by decide +kernel) ?_
  refine Does.send 8 rfl rfl (Fin.ext (dev_val (after c 1))) rfl rfl (by decide) (by decide +kernel) (by decide +kernel) (by decide) (by decide) (by decide) (by decide +kernel) ?_
  exact Does.ret _

/-- Part 9 of the kernel. -/
theorem part9 : Does c (St m c K 9 9 0 7 true)
    (k0_part9 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 11 10 0 7 true)) := by
  rw [k0_part9_eq_skeleton]
  unfold k0_part9_skel
  refine Does.recv 1 rfl ⟨9, rfl⟩ (by decide) (by decide +kernel) (by decide) (by decide) (by decide) (by decide +kernel) ?_
  refine Does.send 9 rfl rfl (Fin.ext (dev_val (after c 15))) rfl rfl (by decide) (by decide +kernel) (by decide +kernel) (by decide) (by decide) (by decide) (by decide +kernel) ?_
  refine Does.recv 2 rfl ⟨10, rfl⟩ (by decide) (by decide +kernel) (by decide) (by decide) (by decide) (by decide +kernel) ?_
  exact Does.ret _

/-- Part 10 of the kernel. -/
theorem part10 : Does c (St m c K 11 10 0 7 true)
    (k0_part10 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 12 11 0 7 true)) := by
  rw [k0_part10_eq_skeleton]
  unfold k0_part10_skel
  refine Does.send 10 rfl rfl (Fin.ext (dev_val (after c 1))) rfl rfl (by decide) (by decide +kernel) (by decide +kernel) (by decide) (by decide) (by decide) (by decide +kernel) ?_
  refine Does.recv 3 rfl ⟨11, rfl⟩ (by decide) (by decide +kernel) (by decide) (by decide) (by decide) (by decide +kernel) ?_
  exact Does.ret _

/-- Part 11 of the kernel. -/
theorem part11 : Does c (St m c K 12 11 0 7 true)
    (k0_part11 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 13 13 0 7 true)) := by
  rw [k0_part11_eq_skeleton]
  unfold k0_part11_skel
  refine Does.send 11 rfl rfl (Fin.ext (dev_val (after c 15))) rfl rfl (by decide) (by decide +kernel) (by decide +kernel) (by decide) (by decide) (by decide) (by decide +kernel) ?_
  refine Does.recv 4 rfl ⟨12, rfl⟩ (by decide) (by decide +kernel) (by decide) (by decide) (by decide) (by decide +kernel) ?_
  refine Does.send 12 rfl rfl (Fin.ext (dev_val (after c 1))) rfl rfl (by decide) (by decide +kernel) (by decide +kernel) (by decide) (by decide) (by decide) (by decide +kernel) ?_
  exact Does.ret _

/-- Part 12 of the kernel. -/
theorem part12 : Does c (St m c K 13 13 0 7 true)
    (k0_part12 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 14 14 0 7 true)) := by
  rw [k0_part12_eq_skeleton]
  unfold k0_part12_skel
  refine Does.recv 5 rfl ⟨13, rfl⟩ (by decide) (by decide +kernel) (by decide) (by decide) (by decide) (by decide +kernel) ?_
  refine Does.send 13 rfl rfl (Fin.ext (dev_val (after c 15))) rfl rfl (by decide) (by decide +kernel) (by decide +kernel) (by decide) (by decide) (by decide) (by decide +kernel) ?_
  exact Does.ret _

/-- Part 13 of the kernel. -/
theorem part13 : Does c (St m c K 14 14 0 7 true)
    (k0_part13 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 16 15 0 7 true)) := by
  rw [k0_part13_eq_skeleton]
  unfold k0_part13_skel
  refine Does.recv 6 rfl ⟨14, rfl⟩ (by decide) (by decide +kernel) (by decide) (by decide) (by decide) (by decide +kernel) ?_
  refine Does.send 14 rfl rfl (Fin.ext (dev_val (after c 1))) rfl rfl (by decide) (by decide +kernel) (by decide +kernel) (by decide) (by decide) (by decide) (by decide +kernel) ?_
  refine Does.recv 7 rfl ⟨15, rfl⟩ (by decide) (by decide +kernel) (by decide) (by decide) (by decide) (by decide +kernel) ?_
  exact Does.ret _

/-- Part 14 of the kernel. -/
theorem part14 : Does c (St m c K 16 15 0 7 true)
    (k0_part14 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 15)) (chk2 (after c 15)) (k0_pay13 (sx1 m c) (sw1 m c)))
    (At ⟨(word (after c 15)), (chk4 (after c 15)), (word (after c 1)), (chk5 (after c 1)), k0_pay19 (k0_pay13 (sx1 m c) (sw1 m c)) (slC m c 8) (wqC m c)⟩ (St m c K 16 16 0 7 true)) := by
  rw [k0_part14_eq_skeleton]
  unfold k0_part14_skel
  refine Does.send 15 rfl rfl (Fin.ext (dev_val (after c 15))) rfl rfl (by decide) (by decide +kernel) (by decide +kernel) (by decide) (by decide) (by decide) (by decide +kernel) ?_
  refine Does.ham (spot c 15) (off5 c) St_inputs ?_
  refine Does.assume (chk4 _) ?_
  refine Does.ham (spot c 1) (off6 c) St_inputs ?_
  refine Does.assume (chk5 _) ?_
  refine Does.slot 8 rfl rfl (by decide +kernel) (by decide) (by decide) ?_
  refine Does.wq ?_
  refine Does.out_any fun v341 => ?_
  exact Does.ret _

/-- Part 15 of the kernel. -/
theorem part15 : Does c (St m c K 16 16 0 7 true)
    (k0_part15 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 15)) (chk4 (after c 15)) (word (after c 1)) (chk5 (after c 1)) (k0_pay19 (k0_pay13 (sx1 m c) (sw1 m c)) (slC m c 8) (wqC m c)))
    (At ⟨k0_pay22 (k0_pay13 (sx1 m c) (sw1 m c)) (slC m c 11) (wqC m c), (Scalar.addi (Scalar.muli (word (after c 1)) 256#32) 64#32)⟩ (St m c K 16 16 0 11 true)) := by
  rw [k0_part15_eq_skeleton]
  unfold k0_part15_skel
  refine Does.put_out 8 (off7 _) (by decide +kernel) rfl ?_
  refine Does.slot 9 rfl rfl (by decide +kernel) (by decide) (by decide) ?_
  refine Does.wq ?_
  refine Does.out_any fun v351 => ?_
  refine Does.put_out 9 (off8 _ 0) (by decide +kernel) rfl ?_
  refine Does.slot 10 rfl rfl (by decide +kernel) (by decide) (by decide) ?_
  refine Does.wq ?_
  refine Does.out_any fun v361 => ?_
  refine Does.put_out 10 (off9 _ 1) (by decide +kernel) rfl ?_
  refine Does.slot 11 rfl rfl (by decide +kernel) (by decide) (by decide) ?_
  refine Does.wq ?_
  exact Does.ret _

/-- Part 16 of the kernel. -/
theorem part16 : Does c (St m c K 16 16 0 11 true)
    (k0_part16 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 15)) (chk4 (after c 15)) (word (after c 1)) (chk5 (after c 1)) (k0_pay22 (k0_pay13 (sx1 m c) (sw1 m c)) (slC m c 11) (wqC m c)) (Scalar.addi (Scalar.muli (word (after c 1)) 256#32) 64#32))
    (At ⟨k0_pay25 (k0_pay13 (sx1 m c) (sw1 m c)) (slC m c 14) (wqC m c), 256#32⟩ (St m c K 16 16 0 14 true)) := by
  rw [k0_part16_eq_skeleton]
  unfold k0_part16_skel
  refine Does.out_any fun v371 => ?_
  refine Does.put_out 11 (off8 _ 1) (by decide +kernel) rfl ?_
  refine Does.slot 12 rfl rfl (by decide +kernel) (by decide) (by decide) ?_
  refine Does.wq ?_
  refine Does.out_any fun v381 => ?_
  refine Does.put_out 12 (off9 _ 2) (by decide +kernel) rfl ?_
  refine Does.slot 13 rfl rfl (by decide +kernel) (by decide) (by decide) ?_
  refine Does.wq ?_
  refine Does.out_any fun v391 => ?_
  refine Does.put_out 13 (off8 _ 2) (by decide +kernel) rfl ?_
  refine Does.slot 14 rfl rfl (by decide +kernel) (by decide) (by decide) ?_
  refine Does.wq ?_
  exact Does.ret _

/-- Part 17 of the kernel. -/
theorem part17 : Does c (St m c K 16 16 0 14 true)
    (k0_part17 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 1)) (k0_pay13 (sx1 m c) (sw1 m c)) (word (after c 15)) (chk4 (after c 15)) (word (after c 1)) (chk5 (after c 1)) (k0_pay25 (k0_pay13 (sx1 m c) (sw1 m c)) (slC m c 14) (wqC m c)) 256#32)
    (At 1#32 (St m c K 17 16 0 16 true)) := by
  rw [k0_part17_eq_skeleton]
  unfold k0_part17_skel
  refine Does.out_any fun v401 => ?_
  refine Does.put_out 14 (off9 _ 3) (by decide +kernel) rfl ?_
  refine Does.slot 15 rfl rfl (by decide +kernel) (by decide) (by decide) ?_
  refine Does.wq ?_
  refine Does.out_any fun v411 => ?_
  refine Does.put_out 15 (off8 _ 3) (by decide +kernel) rfl ?_
  refine Does.recv 8 rfl ⟨16, rfl⟩ (by decide) (by decide +kernel) (by decide) (by decide) (by decide) (by decide +kernel) ?_
  exact Does.ret _

/-- Part 18 of the kernel. -/
theorem part18 : Does c (St m c K 17 16 0 16 true)
    (k0_part18 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)) 1#32)
    (At ⟨⟩ (St m c K 18 17 0 16 true)) := by
  rw [k0_part18_eq_skeleton]
  unfold k0_part18_skel
  refine Does.send 16 rfl rfl (Fin.ext (dev_val (after c 1))) rfl rfl (by decide) (by decide +kernel) (by decide +kernel) (by decide) (by decide) (by decide) (by decide +kernel) ?_
  refine Does.recv 9 rfl ⟨17, rfl⟩ (by decide) (by decide +kernel) (by decide) (by decide) (by decide) (by decide +kernel) ?_
  exact Does.ret _

/-- Part 19 of the kernel. -/
theorem part19 : Does c (St m c K 18 17 0 16 true)
    (k0_part19 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 19 19 0 16 true)) := by
  rw [k0_part19_eq_skeleton]
  unfold k0_part19_skel
  refine Does.send 17 rfl rfl (Fin.ext (dev_val (after c 15))) rfl rfl (by decide) (by decide +kernel) (by decide +kernel) (by decide) (by decide) (by decide) (by decide +kernel) ?_
  refine Does.recv 10 rfl ⟨18, rfl⟩ (by decide) (by decide +kernel) (by decide) (by decide) (by decide) (by decide +kernel) ?_
  refine Does.send 18 rfl rfl (Fin.ext (dev_val (after c 1))) rfl rfl (by decide) (by decide +kernel) (by decide +kernel) (by decide) (by decide) (by decide) (by decide +kernel) ?_
  exact Does.ret _

/-- Part 20 of the kernel. -/
theorem part20 : Does c (St m c K 19 19 0 16 true)
    (k0_part20 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 20 20 0 16 true)) := by
  rw [k0_part20_eq_skeleton]
  unfold k0_part20_skel
  refine Does.recv 11 rfl ⟨19, rfl⟩ (by decide) (by decide +kernel) (by decide) (by decide) (by decide) (by decide +kernel) ?_
  refine Does.send 19 rfl rfl (Fin.ext (dev_val (after c 15))) rfl rfl (by decide) (by decide +kernel) (by decide +kernel) (by decide) (by decide) (by decide) (by decide +kernel) ?_
  exact Does.ret _

/-- Part 21 of the kernel. -/
theorem part21 : Does c (St m c K 20 20 0 16 true)
    (k0_part21 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At 1#32 (St m c K 22 21 0 16 true)) := by
  rw [k0_part21_eq_skeleton]
  unfold k0_part21_skel
  refine Does.recv 12 rfl ⟨20, rfl⟩ (by decide) (by decide +kernel) (by decide) (by decide) (by decide) (by decide +kernel) ?_
  refine Does.send 20 rfl rfl (Fin.ext (dev_val (after c 1))) rfl rfl (by decide) (by decide +kernel) (by decide +kernel) (by decide) (by decide) (by decide) (by decide +kernel) ?_
  refine Does.recv 13 rfl ⟨21, rfl⟩ (by decide) (by decide +kernel) (by decide) (by decide) (by decide) (by decide +kernel) ?_
  exact Does.ret _

/-- Part 22 of the kernel. -/
theorem part22 : Does c (St m c K 22 21 0 16 true)
    (k0_part22 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) 1#32)
    (At ⟨⟩ (St m c K 23 22 0 16 true)) := by
  rw [k0_part22_eq_skeleton]
  unfold k0_part22_skel
  refine Does.send 21 rfl rfl (Fin.ext (dev_val (after c 15))) rfl rfl (by decide) (by decide +kernel) (by decide +kernel) (by decide) (by decide) (by decide) (by decide +kernel) ?_
  refine Does.recv 14 rfl ⟨22, rfl⟩ (by decide) (by decide +kernel) (by decide) (by decide) (by decide) (by decide +kernel) ?_
  exact Does.ret _

end Does
end Cert.KernelIdeal.RingProof
-- ==== Proof.Body3.lean ====
/-
Parts of the kernel, one theorem each
-/
module

public import proofs.«01_k».proof.Proof.Words

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable {c : Dev nD} {m : (ℓ : Loc nD τ sig) → Buf (Elt F) ℓ} {K : GSem nD τ sig → ℕ}

namespace Does

/-- Part 23 of the kernel. -/
theorem part23 : Does c (St m c K 23 22 0 16 true)
    (k0_part23 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 15)) (chk2 (after c 15)) (word (after c 1)) (chk3 (after c 1)))
    (At (word (after c 14)) (St m c K 24 24 0 16 true)) := by
  rw [k0_part23_eq_skeleton]
  unfold k0_part23_skel
  refine Does.send 22 rfl rfl (Fin.ext (dev_val (after c 1))) rfl rfl (by decide) (by decide +kernel) (by decide +kernel) (by decide) (by decide) (by decide) (by decide +kernel) ?_
  refine Does.recv 15 rfl ⟨23, rfl⟩ (by decide) (by decide +kernel) (by decide) (by decide) (by decide) (by decide +kernel) ?_
  refine Does.send 23 rfl rfl (Fin.ext (dev_val (after c 15))) rfl rfl (by decide) (by decide +kernel) (by decide +kernel) (by decide) (by decide) (by decide) (by decide +kernel) ?_
  refine Does.tail ?_
  refine Does.ham (spot c 14) (off10 c) St_inputs ?_
  exact Does.ret _

/-- Part 24 of the kernel. -/
theorem part24 : Does c (St m c K 24 24 0 16 true)
    (k0_part24 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (k0_pay13 (sx1 m c) (sw1 m c)) (word (after c 14)))
    (At ⟨(chk6 (after c 14)), (word (after c 2)), (chk7 (after c 2)), k0_pay29 (slC m c 18), (wqC m c), (constant S64x512 .f32 0x00000000#32)⟩ (St m c K 24 24 0 18 true)) := by
  rw [k0_part24_eq_skeleton]
  unfold k0_part24_skel
  refine Does.assume (chk6 _) ?_
  refine Does.ham (spot c 2) (off11 c) St_inputs ?_
  refine Does.assume (chk7 _) ?_
  refine Does.slot 16 rfl rfl (by decide +kernel) (by decide) (by decide) ?_
  refine Does.wq ?_
  refine Does.out_any fun v574 => ?_
  refine Does.put_out 16 (off12 _) (by decide +kernel) rfl ?_
  refine Does.slot 17 rfl rfl (by decide +kernel) (by decide) (by decide) ?_
  refine Does.wq ?_
  refine Does.out_any fun v584 => ?_
  refine Does.put_out 17 (off13 _ 0) (by decide +kernel) rfl ?_
  refine Does.slot 18 rfl rfl (by decide +kernel) (by decide) (by decide) ?_
  refine Does.wq ?_
  exact Does.ret _

/-- Part 25 of the kernel. -/
theorem part25 : Does c (St m c K 24 24 0 18 true)
    (k0_part25 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 14)) (chk6 (after c 14)) (word (after c 2)) (chk7 (after c 2)) (k0_pay29 (slC m c 18)) (wqC m c) (constant S64x512 .f32 0x00000000#32))
    (At (k0_pay33 (slC m c 21)) (St m c K 24 24 0 21 true)) := by
  rw [k0_part25_eq_skeleton]
  unfold k0_part25_skel
  refine Does.out_any fun v594 => ?_
  refine Does.put_out 18 (off14 _ 1) (by decide +kernel) rfl ?_
  refine Does.slot 19 rfl rfl (by decide +kernel) (by decide) (by decide) ?_
  refine Does.wq ?_
  refine Does.out_any fun v604 => ?_
  refine Does.put_out 19 (off13 _ 1) (by decide +kernel) rfl ?_
  refine Does.slot 20 rfl rfl (by decide +kernel) (by decide) (by decide) ?_
  refine Does.wq ?_
  refine Does.out_any fun v614 => ?_
  refine Does.put_out 20 (off14 _ 2) (by decide +kernel) rfl ?_
  refine Does.slot 21 rfl rfl (by decide +kernel) (by decide) (by decide) ?_
  exact Does.ret _

/-- Part 26 of the kernel. -/
theorem part26 : Does c (St m c K 24 24 0 21 true)
    (k0_part26 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 14)) (chk6 (after c 14)) (word (after c 2)) (chk7 (after c 2)) (k0_pay33 (slC m c 21)))
    (At ⟨⟩ (St m c K 24 24 0 24 true)) := by
  rw [k0_part26_eq_skeleton]
  unfold k0_part26_skel
  refine Does.wq ?_
  refine Does.out_any fun v624 => ?_
  refine Does.put_out 21 (off13 _ 2) (by decide +kernel) rfl ?_
  refine Does.slot 22 rfl rfl (by decide +kernel) (by decide) (by decide) ?_
  refine Does.wq ?_
  refine Does.out_any fun v634 => ?_
  refine Does.put_out 22 (off14 _ 3) (by decide +kernel) rfl ?_
  refine Does.slot 23 rfl rfl (by decide +kernel) (by decide) (by decide) ?_
  refine Does.wq ?_
  refine Does.out_any fun v644 => ?_
  refine Does.put_out 23 (off13 _ 3) (by decide +kernel) rfl ?_
  exact Does.ret _

/-- Part 27 of the kernel. -/
theorem part27 : Does c (St m c K 24 24 0 24 true)
    (k0_part27 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 25 25 0 24 true)) := by
  rw [k0_part27_eq_skeleton]
  unfold k0_part27_skel
  refine Does.recv 16 rfl ⟨24, rfl⟩ (by decide) (by decide +kernel) (by decide) (by decide) (by decide) (by decide +kernel) ?_
  refine Does.send 24 rfl rfl (Fin.ext (dev_val (after c 1))) rfl rfl (by decide) (by decide +kernel) (by decide +kernel) (by decide) (by decide) (by decide) (by decide +kernel) ?_
  exact Does.ret _

/-- Part 28 of the kernel. -/
theorem part28 : Does c (St m c K 25 25 0 24 true)
    (k0_part28 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 27 26 0 24 true)) := by
  rw [k0_part28_eq_skeleton]
  unfold k0_part28_skel
  refine Does.recv 17 rfl ⟨25, rfl⟩ (by decide) (by decide +kernel) (by decide) (by decide) (by decide) (by decide +kernel) ?_
  refine Does.send 25 rfl rfl (Fin.ext (dev_val (after c 15))) rfl rfl (by decide) (by decide +kernel) (by decide +kernel) (by decide) (by decide) (by decide) (by decide +kernel) ?_
  refine Does.recv 18 rfl ⟨26, rfl⟩ (by decide) (by decide +kernel) (by decide) (by decide) (by decide) (by decide +kernel) ?_
  exact Does.ret _

/-- Part 29 of the kernel. -/
theorem part29 : Does c (St m c K 27 26 0 24 true)
    (k0_part29 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 28 27 0 24 true)) := by
  rw [k0_part29_eq_skeleton]
  unfold k0_part29_skel
  refine Does.send 26 rfl rfl (Fin.ext (dev_val (after c 1))) rfl rfl (by decide) (by decide +kernel) (by decide +kernel) (by decide) (by decide) (by decide) (by decide +kernel) ?_
  refine Does.recv 19 rfl ⟨27, rfl⟩ (by decide) (by decide +kernel) (by decide) (by decide) (by decide) (by decide +kernel) ?_
  exact Does.ret _

/-- Part 30 of the kernel. -/
theorem part30 : Does c (St m c K 28 27 0 24 true)
    (k0_part30 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 29 29 0 24 true)) := by
  rw [k0_part30_eq_skeleton]
  unfold k0_part30_skel
  refine Does.send 27 rfl rfl (Fin.ext (dev_val (after c 15))) rfl rfl (by decide) (by decide +kernel) (by decide +kernel) (by decide) (by decide) (by decide) (by decide +kernel) ?_
  refine Does.recv 20 rfl ⟨28, rfl⟩ (by decide) (by decide +kernel) (by decide) (by decide) (by decide) (by decide +kernel) ?_
  refine Does.send 28 rfl rfl (Fin.ext (dev_val (after c 1))) rfl rfl (by decide) (by decide +kernel) (by decide +kernel) (by decide) (by decide) (by decide) (by decide +kernel) ?_
  exact Does.ret _

/-- Part 31 of the kernel. -/
theorem part31 : Does c (St m c K 29 29 0 24 true)
    (k0_part31 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 30 30 0 24 true)) := by
  rw [k0_part31_eq_skeleton]
  unfold k0_part31_skel
  refine Does.recv 21 rfl ⟨29, rfl⟩ (by decide) (by decide +kernel) (by decide) (by decide) (by decide) (by decide +kernel) ?_
  refine Does.send 29 rfl rfl (Fin.ext (dev_val (after c 15))) rfl rfl (by decide) (by decide +kernel) (by decide +kernel) (by decide) (by decide) (by decide) (by decide +kernel) ?_
  exact Does.ret _

/-- Part 32 of the kernel. -/
theorem part32 : Does c (St m c K 30 30 0 24 true)
    (k0_part32 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 32 31 0 24 true)) := by
  rw [k0_part32_eq_skeleton]
  unfold k0_part32_skel
  refine Does.recv 22 rfl ⟨30, rfl⟩ (by decide) (by decide +kernel) (by decide) (by decide) (by decide) (by decide +kernel) ?_
  refine Does.send 30 rfl rfl (Fin.ext (dev_val (after c 1))) rfl rfl (by decide) (by decide +kernel) (by decide +kernel) (by decide) (by decide) (by decide) (by decide +kernel) ?_
  refine Does.recv 23 rfl ⟨31, rfl⟩ (by decide) (by decide +kernel) (by decide) (by decide) (by decide) (by decide +kernel) ?_
  exact Does.ret _

/-- Part 33 of the kernel. -/
theorem part33 : Does c (St m c K 32 31 0 24 true)
    (k0_part33 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 15)) (chk2 (after c 15)) (k0_pay13 (sx1 m c) (sw1 m c)))
    (At ⟨(word (after c 13)), (chk8 (after c 13)), (word (after c 3)), (chk9 (after c 3))⟩ (St m c K 32 32 0 25 true)) := by
  rw [k0_part33_eq_skeleton]
  unfold k0_part33_skel
  refine Does.send 31 rfl rfl (Fin.ext (dev_val (after c 15))) rfl rfl (by decide) (by decide +kernel) (by decide +kernel) (by decide) (by decide) (by decide) (by decide +kernel) ?_
  refine Does.ham (spot c 13) (off15 c) St_inputs ?_
  refine Does.assume (chk8 _) ?_
  refine Does.ham (spot c 3) (off16 c) St_inputs ?_
  refine Does.assume (chk9 _) ?_
  refine Does.slot 24 rfl rfl (by decide +kernel) (by decide) (by decide) ?_
  refine Does.wq ?_
  refine Does.out_any fun v807 => ?_
  refine Does.put_out 24 (off17 _) (by decide +kernel) rfl ?_
  exact Does.ret _

/-- Part 34 of the kernel. -/
theorem part34 : Does c (St m c K 32 32 0 25 true)
    (k0_part34 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 13)) (chk8 (after c 13)) (word (after c 3)) (chk9 (after c 3)))
    (At ⟨⟩ (St m c K 32 32 0 28 true)) := by
  rw [k0_part34_eq_skeleton]
  unfold k0_part34_skel
  refine Does.slot 25 rfl rfl (by decide +kernel) (by decide) (by decide) ?_
  refine Does.wq ?_
  refine Does.out_any fun v817 => ?_
  refine Does.put_out 25 (off18 _ 0) (by decide +kernel) rfl ?_
  refine Does.slot 26 rfl rfl (by decide +kernel) (by decide) (by decide) ?_
  refine Does.wq ?_
  refine Does.out_any fun v827 => ?_
  refine Does.put_out 26 (off19 _ 1) (by decide +kernel) rfl ?_
  refine Does.slot 27 rfl rfl (by decide +kernel) (by decide) (by decide) ?_
  refine Does.wq ?_
  refine Does.out_any fun v837 => ?_
  refine Does.put_out 27 (off18 _ 1) (by decide +kernel) rfl ?_
  exact Does.ret _

/-- Part 35 of the kernel. -/
theorem part35 : Does c (St m c K 32 32 0 28 true)
    (k0_part35 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 13)) (chk8 (after c 13)) (word (after c 3)) (chk9 (after c 3)))
    (At (k0_pay43 (k0_pay13 (sx1 m c) (sw1 m c)) (slC m c 30) (wqC m c)) (St m c K 32 32 0 30 true)) := by
  rw [k0_part35_eq_skeleton]
  unfold k0_part35_skel
  refine Does.slot 28 rfl rfl (by decide +kernel) (by decide) (by decide) ?_
  refine Does.wq ?_
  refine Does.out_any fun v847 => ?_
  refine Does.put_out 28 (off19 _ 2) (by decide +kernel) rfl ?_
  refine Does.slot 29 rfl rfl (by decide +kernel) (by decide) (by decide) ?_
  refine Does.wq ?_
  refine Does.out_any fun v857 => ?_
  refine Does.put_out 29 (off18 _ 2) (by decide +kernel) rfl ?_
  refine Does.slot 30 rfl rfl (by decide +kernel) (by decide) (by decide) ?_
  refine Does.wq ?_
  exact Does.ret _

/-- Part 36 of the kernel. -/
theorem part36 : Does c (St m c K 32 32 0 30 true)
    (k0_part36 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 1)) (k0_pay13 (sx1 m c) (sw1 m c)) (word (after c 13)) (chk8 (after c 13)) (word (after c 3)) (chk9 (after c 3)) (k0_pay43 (k0_pay13 (sx1 m c) (sw1 m c)) (slC m c 30) (wqC m c)))
    (At ⟨⟩ (St m c K 33 32 0 32 true)) := by
  rw [k0_part36_eq_skeleton]
  unfold k0_part36_skel
  refine Does.out_any fun v867 => ?_
  refine Does.put_out 30 (off19 _ 3) (by decide +kernel) rfl ?_
  refine Does.slot 31 rfl rfl (by decide +kernel) (by decide) (by decide) ?_
  refine Does.wq ?_
  refine Does.out_any fun v877 => ?_
  refine Does.put_out 31 (off18 _ 3) (by decide +kernel) rfl ?_
  refine Does.recv 24 rfl ⟨32, rfl⟩ (by decide) (by decide +kernel) (by decide) (by decide) (by decide) (by decide +kernel) ?_
  exact Does.ret _

/-- Part 37 of the kernel. -/
theorem part37 : Does c (St m c K 33 32 0 32 true)
    (k0_part37 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 34 34 0 32 true)) := by
  rw [k0_part37_eq_skeleton]
  unfold k0_part37_skel
  refine Does.send 32 rfl rfl (Fin.ext (dev_val (after c 1))) rfl rfl (by decide) (by decide +kernel) (by decide +kernel) (by decide) (by decide) (by decide) (by decide +kernel) ?_
  refine Does.recv 25 rfl ⟨33, rfl⟩ (by decide) (by decide +kernel) (by decide) (by decide) (by decide) (by decide +kernel) ?_
  refine Does.send 33 rfl rfl (Fin.ext (dev_val (after c 15))) rfl rfl (by decide) (by decide +kernel) (by decide +kernel) (by decide) (by decide) (by decide) (by decide +kernel) ?_
  exact Does.ret _

end Does
end Cert.KernelIdeal.RingProof
-- ==== Proof.Body4.lean ====
/-
Parts of the kernel, one theorem each
-/
module

public import proofs.«01_k».proof.Proof.Words

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable {c : Dev nD} {m : (ℓ : Loc nD τ sig) → Buf (Elt F) ℓ} {K : GSem nD τ sig → ℕ}

namespace Does

/-- Part 38 of the kernel. -/
theorem part38 : Does c (St m c K 34 34 0 32 true)
    (k0_part38 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 35 35 0 32 true)) := by
  rw [k0_part38_eq_skeleton]
  unfold k0_part38_skel
  refine Does.recv 26 rfl ⟨34, rfl⟩ (by decide) (by decide +kernel) (by decide) (by decide) (by decide) (by decide +kernel) ?_
  refine Does.send 34 rfl rfl (Fin.ext (dev_val (after c 1))) rfl rfl (by decide) (by decide +kernel) (by decide +kernel) (by decide) (by decide) (by decide) (by decide +kernel) ?_
  exact Does.ret _

/-- Part 39 of the kernel. -/
theorem part39 : Does c (St m c K 35 35 0 32 true)
    (k0_part39 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 37 36 0 32 true)) := by
  rw [k0_part39_eq_skeleton]
  unfold k0_part39_skel
  refine Does.recv 27 rfl ⟨35, rfl⟩ (by decide) (by decide +kernel) (by decide) (by decide) (by decide) (by decide +kernel) ?_
  refine Does.send 35 rfl rfl (Fin.ext (dev_val (after c 15))) rfl rfl (by decide) (by decide +kernel) (by decide +kernel) (by decide) (by decide) (by decide) (by decide +kernel) ?_
  refine Does.recv 28 rfl ⟨36, rfl⟩ (by decide) (by decide +kernel) (by decide) (by decide) (by decide) (by decide +kernel) ?_
  exact Does.ret _

/-- Part 40 of the kernel. -/
theorem part40 : Does c (St m c K 37 36 0 32 true)
    (k0_part40 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 38 37 0 32 true)) := by
  rw [k0_part40_eq_skeleton]
  unfold k0_part40_skel
  refine Does.send 36 rfl rfl (Fin.ext (dev_val (after c 1))) rfl rfl (by decide) (by decide +kernel) (by decide +kernel) (by decide) (by decide) (by decide) (by decide +kernel) ?_
  refine Does.recv 29 rfl ⟨37, rfl⟩ (by decide) (by decide +kernel) (by decide) (by decide) (by decide) (by decide +kernel) ?_
  exact Does.ret _

/-- Part 41 of the kernel. -/
theorem part41 : Does c (St m c K 38 37 0 32 true)
    (k0_part41 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 39 39 0 32 true)) := by
  rw [k0_part41_eq_skeleton]
  unfold k0_part41_skel
  refine Does.send 37 rfl rfl (Fin.ext (dev_val (after c 15))) rfl rfl (by decide) (by decide +kernel) (by decide +kernel) (by decide) (by decide) (by decide) (by decide +kernel) ?_
  refine Does.recv 30 rfl ⟨38, rfl⟩ (by decide) (by decide +kernel) (by decide) (by decide) (by decide) (by decide +kernel) ?_
  refine Does.send 38 rfl rfl (Fin.ext (dev_val (after c 1))) rfl rfl (by decide) (by decide +kernel) (by decide +kernel) (by decide) (by decide) (by decide) (by decide +kernel) ?_
  exact Does.ret _

/-- Part 42 of the kernel. -/
theorem part42 : Does c (St m c K 39 39 0 32 true)
    (k0_part42 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 15)) (chk2 (after c 15)))
    (At ⟨(word (after c 12)), (chk10 (after c 12)), (Scalar.addi (word (posT c)) 4#32), 16#32⟩ (St m c K 40 40 0 32 true)) := by
  rw [k0_part42_eq_skeleton]
  unfold k0_part42_skel
  refine Does.recv 31 rfl ⟨39, rfl⟩ (by decide) (by decide +kernel) (by decide) (by decide) (by decide) (by decide +kernel) ?_
  refine Does.send 39 rfl rfl (Fin.ext (dev_val (after c 15))) rfl rfl (by decide) (by decide +kernel) (by decide +kernel) (by decide) (by decide) (by decide) (by decide +kernel) ?_
  refine Does.ham (spot c 12) (off20 c) St_inputs ?_
  refine Does.assume (chk10 _) ?_
  exact Does.ret _

/-- Part 43 of the kernel. -/
theorem part43 : Does c (St m c K 40 40 0 32 true)
    (k0_part43 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (k0_pay13 (sx1 m c) (sw1 m c)) (word (after c 12)) (chk10 (after c 12)) (Scalar.addi (word (posT c)) 4#32) 16#32)
    (At ⟨(word (after c 4)), (chk11 (after c 4)), k0_pay47 (k0_pay13 (sx1 m c) (sw1 m c)) (slC m c 34) (wqC m c), 256#32⟩ (St m c K 40 40 0 34 true)) := by
  rw [k0_part43_eq_skeleton]
  unfold k0_part43_skel
  refine Does.ham (spot c 4) (off21 c) St_inputs ?_
  refine Does.assume (chk11 _) ?_
  refine Does.slot 32 rfl rfl (by decide +kernel) (by decide) (by decide) ?_
  refine Does.wq ?_
  refine Does.out_any fun v1040 => ?_
  refine Does.put_out 32 (off22 _) (by decide +kernel) rfl ?_
  refine Does.slot 33 rfl rfl (by decide +kernel) (by decide) (by decide) ?_
  refine Does.wq ?_
  refine Does.out_any fun v1050 => ?_
  refine Does.put_out 33 (off23 _ 0) (by decide +kernel) rfl ?_
  refine Does.slot 34 rfl rfl (by decide +kernel) (by decide) (by decide) ?_
  refine Does.wq ?_
  exact Does.ret _

/-- Part 44 of the kernel. -/
theorem part44 : Does c (St m c K 40 40 0 34 true)
    (k0_part44 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 12)) (chk10 (after c 12)) (word (after c 4)) (chk11 (after c 4)) (k0_pay47 (k0_pay13 (sx1 m c) (sw1 m c)) (slC m c 34) (wqC m c)) 256#32)
    (At (k0_pay50 (slC m c 37) (wqC m c)) (St m c K 40 40 0 37 true)) := by
  rw [k0_part44_eq_skeleton]
  unfold k0_part44_skel
  refine Does.out_any fun v1060 => ?_
  refine Does.put_out 34 (off24 _ 1) (by decide +kernel) rfl ?_
  refine Does.slot 35 rfl rfl (by decide +kernel) (by decide) (by decide) ?_
  refine Does.wq ?_
  refine Does.out_any fun v1070 => ?_
  refine Does.put_out 35 (off23 _ 1) (by decide +kernel) rfl ?_
  refine Does.slot 36 rfl rfl (by decide +kernel) (by decide) (by decide) ?_
  refine Does.wq ?_
  refine Does.out_any fun v1080 => ?_
  refine Does.put_out 36 (off24 _ 2) (by decide +kernel) rfl ?_
  refine Does.slot 37 rfl rfl (by decide +kernel) (by decide) (by decide) ?_
  refine Does.wq ?_
  exact Does.ret _

/-- Part 45 of the kernel. -/
theorem part45 : Does c (St m c K 40 40 0 37 true)
    (k0_part45 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 12)) (chk10 (after c 12)) (word (after c 4)) (chk11 (after c 4)) (k0_pay50 (slC m c 37) (wqC m c)))
    (At ⟨⟩ (St m c K 40 40 0 40 true)) := by
  rw [k0_part45_eq_skeleton]
  unfold k0_part45_skel
  refine Does.out_any fun v1090 => ?_
  refine Does.put_out 37 (off23 _ 2) (by decide +kernel) rfl ?_
  refine Does.slot 38 rfl rfl (by decide +kernel) (by decide) (by decide) ?_
  refine Does.wq ?_
  refine Does.out_any fun v1100 => ?_
  refine Does.put_out 38 (off24 _ 3) (by decide +kernel) rfl ?_
  refine Does.slot 39 rfl rfl (by decide +kernel) (by decide) (by decide) ?_
  refine Does.wq ?_
  refine Does.out_any fun v1110 => ?_
  refine Does.put_out 39 (off23 _ 3) (by decide +kernel) rfl ?_
  exact Does.ret _

/-- Part 46 of the kernel. -/
theorem part46 : Does c (St m c K 40 40 0 40 true)
    (k0_part46 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 41 41 0 40 true)) := by
  rw [k0_part46_eq_skeleton]
  unfold k0_part46_skel
  refine Does.recv 32 rfl ⟨40, rfl⟩ (by decide) (by decide +kernel) (by decide) (by decide) (by decide) (by decide +kernel) ?_
  refine Does.send 40 rfl rfl (Fin.ext (dev_val (after c 1))) rfl rfl (by decide) (by decide +kernel) (by decide +kernel) (by decide) (by decide) (by decide) (by decide +kernel) ?_
  exact Does.ret _

/-- Part 47 of the kernel. -/
theorem part47 : Does c (St m c K 41 41 0 40 true)
    (k0_part47 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At 1#32 (St m c K 43 42 0 40 true)) := by
  rw [k0_part47_eq_skeleton]
  unfold k0_part47_skel
  refine Does.recv 33 rfl ⟨41, rfl⟩ (by decide) (by decide +kernel) (by decide) (by decide) (by decide) (by decide +kernel) ?_
  refine Does.send 41 rfl rfl (Fin.ext (dev_val (after c 15))) rfl rfl (by decide) (by decide +kernel) (by decide +kernel) (by decide) (by decide) (by decide) (by decide +kernel) ?_
  refine Does.recv 34 rfl ⟨42, rfl⟩ (by decide) (by decide +kernel) (by decide) (by decide) (by decide) (by decide +kernel) ?_
  exact Does.ret _

/-- Part 48 of the kernel. -/
theorem part48 : Does c (St m c K 43 42 0 40 true)
    (k0_part48 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)) 1#32)
    (At ⟨⟩ (St m c K 44 43 0 40 true)) := by
  rw [k0_part48_eq_skeleton]
  unfold k0_part48_skel
  refine Does.send 42 rfl rfl (Fin.ext (dev_val (after c 1))) rfl rfl (by decide) (by decide +kernel) (by decide +kernel) (by decide) (by decide) (by decide) (by decide +kernel) ?_
  refine Does.recv 35 rfl ⟨43, rfl⟩ (by decide) (by decide +kernel) (by decide) (by decide) (by decide) (by decide +kernel) ?_
  exact Does.ret _

/-- Part 49 of the kernel. -/
theorem part49 : Does c (St m c K 44 43 0 40 true)
    (k0_part49 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 45 45 0 40 true)) := by
  rw [k0_part49_eq_skeleton]
  unfold k0_part49_skel
  refine Does.send 43 rfl rfl (Fin.ext (dev_val (after c 15))) rfl rfl (by decide) (by decide +kernel) (by decide +kernel) (by decide) (by decide) (by decide) (by decide +kernel) ?_
  refine Does.recv 36 rfl ⟨44, rfl⟩ (by decide) (by decide +kernel) (by decide) (by decide) (by decide) (by decide +kernel) ?_
  refine Does.send 44 rfl rfl (Fin.ext (dev_val (after c 1))) rfl rfl (by decide) (by decide +kernel) (by decide +kernel) (by decide) (by decide) (by decide) (by decide +kernel) ?_
  exact Does.ret _

/-- Part 50 of the kernel. -/
theorem part50 : Does c (St m c K 45 45 0 40 true)
    (k0_part50 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 46 46 0 40 true)) := by
  rw [k0_part50_eq_skeleton]
  unfold k0_part50_skel
  refine Does.recv 37 rfl ⟨45, rfl⟩ (by decide) (by decide +kernel) (by decide) (by decide) (by decide) (by decide +kernel) ?_
  refine Does.send 45 rfl rfl (Fin.ext (dev_val (after c 15))) rfl rfl (by decide) (by decide +kernel) (by decide +kernel) (by decide) (by decide) (by decide) (by decide +kernel) ?_
  exact Does.ret _

/-- Part 51 of the kernel. -/
theorem part51 : Does c (St m c K 46 46 0 40 true)
    (k0_part51 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At 1#32 (St m c K 48 47 0 40 true)) := by
  rw [k0_part51_eq_skeleton]
  unfold k0_part51_skel
  refine Does.recv 38 rfl ⟨46, rfl⟩ (by decide) (by decide +kernel) (by decide) (by decide) (by decide) (by decide +kernel) ?_
  refine Does.send 46 rfl rfl (Fin.ext (dev_val (after c 1))) rfl rfl (by decide) (by decide +kernel) (by decide +kernel) (by decide) (by decide) (by decide) (by decide +kernel) ?_
  refine Does.recv 39 rfl ⟨47, rfl⟩ (by decide) (by decide +kernel) (by decide) (by decide) (by decide) (by decide +kernel) ?_
  exact Does.ret _

/-- Part 52 of the kernel. -/
theorem part52 : Does c (St m c K 48 47 0 40 true)
    (k0_part52 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 15)) (chk2 (after c 15)) (k0_pay13 (sx1 m c) (sw1 m c)) 1#32)
    (At ⟨(word (after c 11)), (chk12 (after c 11)), (word (after c 5)), (chk13 (after c 5)), k0_pay55 (slC m c 41)⟩ (St m c K 48 48 0 41 true)) := by
  rw [k0_part52_eq_skeleton]
  unfold k0_part52_skel
  refine Does.send 47 rfl rfl (Fin.ext (dev_val (after c 15))) rfl rfl (by decide) (by decide +kernel) (by decide +kernel) (by decide) (by decide) (by decide) (by decide +kernel) ?_
  refine Does.ham (spot c 11) (off25 c) St_inputs ?_
  refine Does.assume (chk12 _) ?_
  refine Does.ham (spot c 5) (off26 c) St_inputs ?_
  refine Does.assume (chk13 _) ?_
  refine Does.slot 40 rfl rfl (by decide +kernel) (by decide) (by decide) ?_
  refine Does.wq ?_
  refine Does.out_any fun v1273 => ?_
  refine Does.put_out 40 (off27 _) (by decide +kernel) rfl ?_
  refine Does.slot 41 rfl rfl (by decide +kernel) (by decide) (by decide) ?_
  exact Does.ret _

end Does
end Cert.KernelIdeal.RingProof
-- ==== Proof.Body5.lean ====
/-
Parts of the kernel, one theorem each
-/
module

public import proofs.«01_k».proof.Proof.Words

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable {c : Dev nD} {m : (ℓ : Loc nD τ sig) → Buf (Elt F) ℓ} {K : GSem nD τ sig → ℕ}

namespace Does

/-- Part 53 of the kernel. -/
theorem part53 : Does c (St m c K 48 48 0 41 true)
    (k0_part53 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 11)) (chk12 (after c 11)) (word (after c 5)) (chk13 (after c 5)) (k0_pay55 (slC m c 41)))
    (At ⟨⟩ (St m c K 48 48 0 44 true)) := by
  rw [k0_part53_eq_skeleton]
  unfold k0_part53_skel
  refine Does.wq ?_
  refine Does.out_any fun v1283 => ?_
  refine Does.put_out 41 (off28 _ 0) (by decide +kernel) rfl ?_
  refine Does.slot 42 rfl rfl (by decide +kernel) (by decide) (by decide) ?_
  refine Does.wq ?_
  refine Does.out_any fun v1293 => ?_
  refine Does.put_out 42 (off29 _ 1) (by decide +kernel) rfl ?_
  refine Does.slot 43 rfl rfl (by decide +kernel) (by decide) (by decide) ?_
  refine Does.wq ?_
  refine Does.out_any fun v1303 => ?_
  refine Does.put_out 43 (off28 _ 1) (by decide +kernel) rfl ?_
  exact Does.ret _

/-- Part 54 of the kernel. -/
theorem part54 : Does c (St m c K 48 48 0 44 true)
    (k0_part54 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 11)) (chk12 (after c 11)) (word (after c 5)) (chk13 (after c 5)))
    (At ⟨⟩ (St m c K 48 48 0 47 true)) := by
  rw [k0_part54_eq_skeleton]
  unfold k0_part54_skel
  refine Does.slot 44 rfl rfl (by decide +kernel) (by decide) (by decide) ?_
  refine Does.wq ?_
  refine Does.out_any fun v1313 => ?_
  refine Does.put_out 44 (off29 _ 2) (by decide +kernel) rfl ?_
  refine Does.slot 45 rfl rfl (by decide +kernel) (by decide) (by decide) ?_
  refine Does.wq ?_
  refine Does.out_any fun v1323 => ?_
  refine Does.put_out 45 (off28 _ 2) (by decide +kernel) rfl ?_
  refine Does.slot 46 rfl rfl (by decide +kernel) (by decide) (by decide) ?_
  refine Does.wq ?_
  refine Does.out_any fun v1333 => ?_
  refine Does.put_out 46 (off29 _ 3) (by decide +kernel) rfl ?_
  exact Does.ret _

/-- Part 55 of the kernel. -/
theorem part55 : Does c (St m c K 48 48 0 47 true)
    (k0_part55 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 1)) (k0_pay13 (sx1 m c) (sw1 m c)) (word (after c 5)) (chk13 (after c 5)))
    (At ⟨⟩ (St m c K 49 48 0 48 true)) := by
  rw [k0_part55_eq_skeleton]
  unfold k0_part55_skel
  refine Does.slot 47 rfl rfl (by decide +kernel) (by decide) (by decide) ?_
  refine Does.wq ?_
  refine Does.out_any fun v1343 => ?_
  refine Does.put_out 47 (off28 _ 3) (by decide +kernel) rfl ?_
  refine Does.recv 40 rfl ⟨48, rfl⟩ (by decide) (by decide +kernel) (by decide) (by decide) (by decide) (by decide +kernel) ?_
  exact Does.ret _

/-- Part 56 of the kernel. -/
theorem part56 : Does c (St m c K 49 48 0 48 true)
    (k0_part56 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 50 50 0 48 true)) := by
  rw [k0_part56_eq_skeleton]
  unfold k0_part56_skel
  refine Does.send 48 rfl rfl (Fin.ext (dev_val (after c 1))) rfl rfl (by decide) (by decide +kernel) (by decide +kernel) (by decide) (by decide) (by decide) (by decide +kernel) ?_
  refine Does.recv 41 rfl ⟨49, rfl⟩ (by decide) (by decide +kernel) (by decide) (by decide) (by decide) (by decide +kernel) ?_
  refine Does.send 49 rfl rfl (Fin.ext (dev_val (after c 15))) rfl rfl (by decide) (by decide +kernel) (by decide +kernel) (by decide) (by decide) (by decide) (by decide +kernel) ?_
  exact Does.ret _

/-- Part 57 of the kernel. -/
theorem part57 : Does c (St m c K 50 50 0 48 true)
    (k0_part57 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 51 51 0 48 true)) := by
  rw [k0_part57_eq_skeleton]
  unfold k0_part57_skel
  refine Does.recv 42 rfl ⟨50, rfl⟩ (by decide) (by decide +kernel) (by decide) (by decide) (by decide) (by decide +kernel) ?_
  refine Does.send 50 rfl rfl (Fin.ext (dev_val (after c 1))) rfl rfl (by decide) (by decide +kernel) (by decide +kernel) (by decide) (by decide) (by decide) (by decide +kernel) ?_
  exact Does.ret _

/-- Part 58 of the kernel. -/
theorem part58 : Does c (St m c K 51 51 0 48 true)
    (k0_part58 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 53 52 0 48 true)) := by
  rw [k0_part58_eq_skeleton]
  unfold k0_part58_skel
  refine Does.recv 43 rfl ⟨51, rfl⟩ (by decide) (by decide +kernel) (by decide) (by decide) (by decide) (by decide +kernel) ?_
  refine Does.send 51 rfl rfl (Fin.ext (dev_val (after c 15))) rfl rfl (by decide) (by decide +kernel) (by decide +kernel) (by decide) (by decide) (by decide) (by decide +kernel) ?_
  refine Does.recv 44 rfl ⟨52, rfl⟩ (by decide) (by decide +kernel) (by decide) (by decide) (by decide) (by decide +kernel) ?_
  exact Does.ret _

/-- Part 59 of the kernel. -/
theorem part59 : Does c (St m c K 53 52 0 48 true)
    (k0_part59 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 54 53 0 48 true)) := by
  rw [k0_part59_eq_skeleton]
  unfold k0_part59_skel
  refine Does.send 52 rfl rfl (Fin.ext (dev_val (after c 1))) rfl rfl (by decide) (by decide +kernel) (by decide +kernel) (by decide) (by decide) (by decide) (by decide +kernel) ?_
  refine Does.recv 45 rfl ⟨53, rfl⟩ (by decide) (by decide +kernel) (by decide) (by decide) (by decide) (by decide +kernel) ?_
  exact Does.ret _

/-- Part 60 of the kernel. -/
theorem part60 : Does c (St m c K 54 53 0 48 true)
    (k0_part60 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)) (chk3 (after c 1)))
    (At ⟨⟩ (St m c K 55 55 0 48 true)) := by
  rw [k0_part60_eq_skeleton]
  unfold k0_part60_skel
  refine Does.send 53 rfl rfl (Fin.ext (dev_val (after c 15))) rfl rfl (by decide) (by decide +kernel) (by decide +kernel) (by decide) (by decide) (by decide) (by decide +kernel) ?_
  refine Does.recv 46 rfl ⟨54, rfl⟩ (by decide) (by decide +kernel) (by decide) (by decide) (by decide) (by decide +kernel) ?_
  refine Does.send 54 rfl rfl (Fin.ext (dev_val (after c 1))) rfl rfl (by decide) (by decide +kernel) (by decide +kernel) (by decide) (by decide) (by decide) (by decide +kernel) ?_
  exact Does.ret _

/-- Part 61 of the kernel. -/
theorem part61 : Does c (St m c K 55 55 0 48 true)
    (k0_part61 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 15)) (chk2 (after c 15)))
    (At ⟨(word (after c 10)), (chk14 (after c 10)), (word (after c 6)), (chk15 (after c 6))⟩ (St m c K 56 56 0 48 true)) := by
  rw [k0_part61_eq_skeleton]
  unfold k0_part61_skel
  refine Does.recv 47 rfl ⟨55, rfl⟩ (by decide) (by decide +kernel) (by decide) (by decide) (by decide) (by decide +kernel) ?_
  refine Does.send 55 rfl rfl (Fin.ext (dev_val (after c 15))) rfl rfl (by decide) (by decide +kernel) (by decide +kernel) (by decide) (by decide) (by decide) (by decide +kernel) ?_
  refine Does.ham (spot c 10) (off30 c) St_inputs ?_
  refine Does.assume (chk14 _) ?_
  refine Does.ham (spot c 6) (off31 c) St_inputs ?_
  refine Does.assume (chk15 _) ?_
  exact Does.ret _

/-- Part 62 of the kernel. -/
theorem part62 : Does c (St m c K 56 56 0 48 true)
    (k0_part62 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 10)) (chk14 (after c 10)) (word (after c 6)) (chk15 (after c 6)))
    (At (k0_pay65 (k0_pay13 (sx1 m c) (sw1 m c)) (slC m c 50) (wqC m c)) (St m c K 56 56 0 50 true)) := by
  rw [k0_part62_eq_skeleton]
  unfold k0_part62_skel
  refine Does.slot 48 rfl rfl (by decide +kernel) (by decide) (by decide) ?_
  refine Does.wq ?_
  refine Does.out_any fun v1506 => ?_
  refine Does.put_out 48 (off32 _) (by decide +kernel) rfl ?_
  refine Does.slot 49 rfl rfl (by decide +kernel) (by decide) (by decide) ?_
  refine Does.wq ?_
  refine Does.out_any fun v1516 => ?_
  refine Does.put_out 49 (off33 _ 0) (by decide +kernel) rfl ?_
  refine Does.slot 50 rfl rfl (by decide +kernel) (by decide) (by decide) ?_
  refine Does.wq ?_
  exact Does.ret _

/-- Part 63 of the kernel. -/
theorem part63 : Does c (St m c K 56 56 0 50 true)
    (k0_part63 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 10)) (chk14 (after c 10)) (word (after c 6)) (chk15 (after c 6)) (k0_pay65 (k0_pay13 (sx1 m c) (sw1 m c)) (slC m c 50) (wqC m c)))
    (At ⟨k0_pay68 (k0_pay13 (sx1 m c) (sw1 m c)) (slC m c 53) (wqC m c), (Scalar.muli (word (after c 6)) 256#32)⟩ (St m c K 56 56 0 53 true)) := by
  rw [k0_part63_eq_skeleton]
  unfold k0_part63_skel
  refine Does.out_any fun v1526 => ?_
  refine Does.put_out 50 (off34 _ 1) (by decide +kernel) rfl ?_
  refine Does.slot 51 rfl rfl (by decide +kernel) (by decide) (by decide) ?_
  refine Does.wq ?_
  refine Does.out_any fun v1536 => ?_
  refine Does.put_out 51 (off33 _ 1) (by decide +kernel) rfl ?_
  refine Does.slot 52 rfl rfl (by decide +kernel) (by decide) (by decide) ?_
  refine Does.wq ?_
  refine Does.out_any fun v1546 => ?_
  refine Does.put_out 52 (off34 _ 2) (by decide +kernel) rfl ?_
  refine Does.slot 53 rfl rfl (by decide +kernel) (by decide) (by decide) ?_
  refine Does.wq ?_
  exact Does.ret _

/-- Part 64 of the kernel. -/
theorem part64 : Does c (St m c K 56 56 0 53 true)
    (k0_part64 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 1)) (k0_pay13 (sx1 m c) (sw1 m c)) (word (after c 10)) (chk14 (after c 10)) (word (after c 6)) (chk15 (after c 6)) (k0_pay68 (k0_pay13 (sx1 m c) (sw1 m c)) (slC m c 53) (wqC m c)) (Scalar.muli (word (after c 6)) 256#32))
    (At ⟨⟩ (St m c K 56 56 0 56 true)) := by
  rw [k0_part64_eq_skeleton]
  unfold k0_part64_skel
  refine Does.out_any fun v1556 => ?_
  refine Does.put_out 53 (off33 _ 2) (by decide +kernel) rfl ?_
  refine Does.slot 54 rfl rfl (by decide +kernel) (by decide) (by decide) ?_
  refine Does.wq ?_
  refine Does.out_any fun v1566 => ?_
  refine Does.put_out 54 (off34 _ 3) (by decide +kernel) rfl ?_
  refine Does.slot 55 rfl rfl (by decide +kernel) (by decide) (by decide) ?_
  refine Does.wq ?_
  refine Does.out_any fun v1576 => ?_
  refine Does.put_out 55 (off33 _ 3) (by decide +kernel) rfl ?_
  exact Does.ret _

/-- Part 65 of the kernel. -/
theorem part65 : Does c (St m c K 56 56 0 56 true)
    (k0_part65 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 58 57 0 56 true)) := by
  rw [k0_part65_eq_skeleton]
  unfold k0_part65_skel
  refine Does.recv 48 rfl ⟨56, rfl⟩ (by decide) (by decide +kernel) (by decide) (by decide) (by decide) (by decide +kernel) ?_
  refine Does.send 56 rfl rfl (Fin.ext (dev_val (after c 1))) rfl rfl (by decide) (by decide +kernel) (by decide +kernel) (by decide) (by decide) (by decide) (by decide +kernel) ?_
  refine Does.recv 49 rfl ⟨57, rfl⟩ (by decide) (by decide +kernel) (by decide) (by decide) (by decide) (by decide +kernel) ?_
  exact Does.ret _

/-- Part 66 of the kernel. -/
theorem part66 : Does c (St m c K 58 57 0 56 true)
    (k0_part66 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)) (chk3 (after c 1)))
    (At ⟨⟩ (St m c K 59 59 0 56 true)) := by
  rw [k0_part66_eq_skeleton]
  unfold k0_part66_skel
  refine Does.recv 50 rfl ⟨58, rfl⟩ (by decide) (by decide +kernel) (by decide) (by decide) (by decide) (by decide +kernel) ?_
  refine Does.send 58 rfl rfl (Fin.ext (dev_val (after c 1))) rfl rfl (by decide) (by decide +kernel) (by decide +kernel) (by decide) (by decide) (by decide) (by decide +kernel) ?_
  exact Does.ret _

/-- Part 67 of the kernel. -/
theorem part67 : Does c (St m c K 59 59 0 56 true)
    (k0_part67 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (word (after c 1)))
    (At ⟨⟩ (St m c K 62 59 0 56 true)) := by
  rw [k0_part67_eq_skeleton]
  unfold k0_part67_skel
  refine Does.recv 51 rfl ⟨59, rfl⟩ (by decide) (by decide +kernel) (by decide) (by decide) (by decide) (by decide +kernel) ?_
  refine Does.recv 52 rfl ⟨60, rfl⟩ (by decide) (by decide +kernel) (by decide) (by decide) (by decide) (by decide +kernel) ?_
  refine Does.recv 53 rfl ⟨61, rfl⟩ (by decide) (by decide +kernel) (by decide) (by decide) (by decide) (by decide +kernel) ?_
  exact Does.ret _

end Does
end Cert.KernelIdeal.RingProof
-- ==== Proof.Body6.lean ====
/-
Parts of the kernel, one theorem each
-/
module

public import proofs.«01_k».proof.Proof.Words

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable {c : Dev nD} {m : (ℓ : Loc nD τ sig) → Buf (Elt F) ℓ} {K : GSem nD τ sig → ℕ}

namespace Does

/-- Part 68 of the kernel. -/
theorem part68 : Does c (St m c K 62 59 0 56 true)
    (k0_part68 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (chk2 (after c 15)) (word (after c 1)))
    (At ⟨⟩ (St m c K 63 62 0 56 true)) := by
  rw [k0_part68_eq_skeleton]
  unfold k0_part68_skel
  refine Does.send 61 rfl rfl (Fin.ext (dev_val (after c 15))) rfl rfl (by decide) (by decide +kernel) (by decide +kernel) (by decide) (by decide) (by decide) (by decide +kernel) ?_
  refine Does.recv 54 rfl ⟨62, rfl⟩ (by decide) (by decide +kernel) (by decide) (by decide) (by decide) (by decide +kernel) ?_
  exact Does.ret _

/-- Part 69 of the kernel. -/
theorem part69 : Does c (St m c K 63 62 0 56 true)
    (k0_part69 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 15)) (chk2 (after c 15)) (k0_pay13 (sx1 m c) (sw1 m c)))
    (At ⟨(word (after c 9)), (chk16 (after c 9)), (word (after c 7)), (chk17 (after c 7)), k0_pay71 (slC m c 56) (wqC m c), k0_pay72 (k0_pay13 (sx1 m c) (sw1 m c))⟩ (St m c K 64 64 0 56 true)) := by
  rw [k0_part69_eq_skeleton]
  unfold k0_part69_skel
  refine Does.recv 55 rfl ⟨63, rfl⟩ (by decide) (by decide +kernel) (by decide) (by decide) (by decide) (by decide +kernel) ?_
  refine Does.send 63 rfl rfl (Fin.ext (dev_val (after c 15))) rfl rfl (by decide) (by decide +kernel) (by decide +kernel) (by decide) (by decide) (by decide) (by decide +kernel) ?_
  refine Does.ham (spot c 9) (off35 c) St_inputs ?_
  refine Does.assume (chk16 _) ?_
  refine Does.ham (spot c 7) (off36 c) St_inputs ?_
  refine Does.assume (chk17 _) ?_
  refine Does.slot 56 rfl rfl (by decide +kernel) (by decide) (by decide) ?_
  refine Does.wq ?_
  exact Does.ret _

/-- Part 70 of the kernel. -/
theorem part70 : Does c (St m c K 64 64 0 56 true)
    (k0_part70 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 9)) (chk16 (after c 9)) (word (after c 7)) (chk17 (after c 7)) (k0_pay71 (slC m c 56) (wqC m c)) (k0_pay72 (k0_pay13 (sx1 m c) (sw1 m c))))
    (At ⟨k0_pay76 (slC m c 59), (wqC m c)⟩ (St m c K 64 64 0 59 true)) := by
  rw [k0_part70_eq_skeleton]
  unfold k0_part70_skel
  refine Does.out_any fun v1699 => ?_
  refine Does.put_out 56 (off37 _) (by decide +kernel) rfl ?_
  refine Does.slot 57 rfl rfl (by decide +kernel) (by decide) (by decide) ?_
  refine Does.wq ?_
  refine Does.out_any fun v1709 => ?_
  refine Does.put_out 57 (off38 _ 0) (by decide +kernel) rfl ?_
  refine Does.slot 58 rfl rfl (by decide +kernel) (by decide) (by decide) ?_
  refine Does.wq ?_
  refine Does.out_any fun v1719 => ?_
  refine Does.put_out 58 (off39 _ 1) (by decide +kernel) rfl ?_
  refine Does.slot 59 rfl rfl (by decide +kernel) (by decide) (by decide) ?_
  refine Does.wq ?_
  exact Does.ret _

/-- Part 71 of the kernel. -/
theorem part71 : Does c (St m c K 64 64 0 59 true)
    (k0_part71 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (k0_pay13 (sx1 m c) (sw1 m c)) (word (after c 9)) (chk16 (after c 9)) (word (after c 7)) (chk17 (after c 7)) (k0_pay76 (slC m c 59)) (wqC m c))
    (At (k0_pay80 (slC m c 62)) (St m c K 64 64 0 62 true)) := by
  rw [k0_part71_eq_skeleton]
  unfold k0_part71_skel
  refine Does.out_any fun v1729 => ?_
  refine Does.put_out 59 (off38 _ 1) (by decide +kernel) rfl ?_
  refine Does.slot 60 rfl rfl (by decide +kernel) (by decide) (by decide) ?_
  refine Does.wq ?_
  refine Does.out_any fun v1739 => ?_
  refine Does.put_out 60 (off39 _ 2) (by decide +kernel) rfl ?_
  refine Does.slot 61 rfl rfl (by decide +kernel) (by decide) (by decide) ?_
  refine Does.wq ?_
  refine Does.out_any fun v1749 => ?_
  refine Does.put_out 61 (off38 _ 2) (by decide +kernel) rfl ?_
  refine Does.slot 62 rfl rfl (by decide +kernel) (by decide) (by decide) ?_
  exact Does.ret _

/-- Part 72 of the kernel. -/
theorem part72 : Does c (St m c K 64 64 0 62 true)
    (k0_part72 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 1)) (k0_pay13 (sx1 m c) (sw1 m c)) (word (after c 9)) (chk16 (after c 9)) (word (after c 7)) (chk17 (after c 7)) (k0_pay80 (slC m c 62)))
    (At ⟨(word (after c 8)), (chk18 (after c 8))⟩ (St m c K 64 64 0 64 true)) := by
  rw [k0_part72_eq_skeleton]
  unfold k0_part72_skel
  refine Does.wq ?_
  refine Does.out_any fun v1759 => ?_
  refine Does.put_out 62 (off39 _ 3) (by decide +kernel) rfl ?_
  refine Does.slot 63 rfl rfl (by decide +kernel) (by decide) (by decide) ?_
  refine Does.wq ?_
  refine Does.out_any fun v1769 => ?_
  refine Does.put_out 63 (off38 _ 3) (by decide +kernel) rfl ?_
  refine Does.ham (spot c 8) (off40 c) St_inputs ?_
  refine Does.assume (chk18 _) ?_
  exact Does.ret _

/-- Part 73 of the kernel. -/
theorem part73 : Does c (St m c K 64 64 0 64 true)
    (k0_part73 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 1)) (k0_pay13 (sx1 m c) (sw1 m c)) (word (after c 8)) (chk18 (after c 8)))
    (At ⟨k0_pay84 (slC m c 66), (wqC m c), (constant S64x512 .f32 0x00000000#32)⟩ (St m c K 67 64 0 65 true)) := by
  rw [k0_part73_eq_skeleton]
  unfold k0_part73_skel
  refine Does.recv 56 rfl ⟨64, rfl⟩ (by decide) (by decide +kernel) (by decide) (by decide) (by decide) (by decide +kernel) ?_
  refine Does.slot 64 rfl rfl (by decide +kernel) (by decide) (by decide) ?_
  refine Does.wq ?_
  refine Does.out_any fun v1791 => ?_
  refine Does.put_out 64 (off41 _ 0) (by decide +kernel) rfl ?_
  refine Does.recv 58 rfl ⟨66, rfl⟩ (by decide) (by decide +kernel) (by decide) (by decide) (by decide) (by decide +kernel) ?_
  refine Does.slot 66 rfl rfl (by decide +kernel) (by decide) (by decide) ?_
  refine Does.wq ?_
  exact Does.ret _

/-- Part 74 of the kernel. -/
theorem part74 : Does c (St m c K 67 64 0 65 true)
    (k0_part74 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (k0_pay13 (sx1 m c) (sw1 m c)) (word (after c 8)) (chk18 (after c 8)) (k0_pay84 (slC m c 66)) (wqC m c) (constant S64x512 .f32 0x00000000#32))
    (At ⟨⟩ (St m c K 70 64 0 70 true)) := by
  rw [k0_part74_eq_skeleton]
  unfold k0_part74_skel
  refine Does.out_any fun v1809 => ?_
  refine Does.put_out 66 (off41 _ 1) (by decide +kernel) rfl ?_
  refine Does.recv 61 rfl ⟨69, rfl⟩ (by decide) (by decide +kernel) (by decide) (by decide) (by decide) (by decide +kernel) ?_
  refine Does.slot 69 rfl rfl (by decide +kernel) (by decide) (by decide) ?_
  refine Does.wq ?_
  refine Does.out_any fun v1827 => ?_
  refine Does.put_out 69 (off41 _ 2) (by decide +kernel) rfl ?_
  exact Does.ret _

/-- Part 75 of the kernel. -/
theorem part75 : Does c (St m c K 70 64 0 70 true)
    (k0_part75 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (after c 15)) (k0_pay13 (sx1 m c) (sw1 m c)) (word (after c 8)) (chk18 (after c 8)))
    (At ⟨⟩ (St m c K 72 64 1 72 true)) := by
  rw [k0_part75_eq_skeleton]
  unfold k0_part75_skel
  refine Does.recv 63 rfl ⟨71, rfl⟩ (by decide) (by decide +kernel) (by decide) (by decide) (by decide) (by decide +kernel) ?_
  refine Does.slot 71 rfl rfl (by decide +kernel) (by decide) (by decide) ?_
  refine Does.wq ?_
  refine Does.out_any fun v1845 => ?_
  refine Does.put_out 71 (off41 _ 3) (by decide +kernel) rfl ?_
  refine Does.sent 0 rfl ⟨0, rfl⟩ (by decide) (by decide +kernel) (by decide +kernel) (by decide) (by decide) (by decide) (by decide +kernel) ?_
  exact Does.ret _

/-- Part 76 of the kernel. -/
theorem part76 : Does c (St m c K 72 64 1 72 true)
    (k0_part76 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 4 72 true)) := by
  rw [k0_part76_eq_skeleton]
  unfold k0_part76_skel
  refine Does.sent 1 rfl ⟨1, rfl⟩ (by decide) (by decide +kernel) (by decide +kernel) (by decide) (by decide) (by decide) (by decide +kernel) ?_
  refine Does.sent 2 rfl ⟨2, rfl⟩ (by decide) (by decide +kernel) (by decide +kernel) (by decide) (by decide) (by decide) (by decide +kernel) ?_
  refine Does.sent 3 rfl ⟨3, rfl⟩ (by decide) (by decide +kernel) (by decide +kernel) (by decide) (by decide) (by decide) (by decide +kernel) ?_
  exact Does.ret _

/-- Part 77 of the kernel. -/
theorem part77 : Does c (St m c K 72 64 4 72 true)
    (k0_part77 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 7 72 true)) := by
  rw [k0_part77_eq_skeleton]
  unfold k0_part77_skel
  refine Does.sent 4 rfl ⟨4, rfl⟩ (by decide) (by decide +kernel) (by decide +kernel) (by decide) (by decide) (by decide) (by decide +kernel) ?_
  refine Does.sent 5 rfl ⟨5, rfl⟩ (by decide) (by decide +kernel) (by decide +kernel) (by decide) (by decide) (by decide) (by decide +kernel) ?_
  refine Does.sent 6 rfl ⟨6, rfl⟩ (by decide) (by decide +kernel) (by decide +kernel) (by decide) (by decide) (by decide) (by decide +kernel) ?_
  exact Does.ret _

/-- Part 78 of the kernel. -/
theorem part78 : Does c (St m c K 72 64 7 72 true)
    (k0_part78 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 10 72 true)) := by
  rw [k0_part78_eq_skeleton]
  unfold k0_part78_skel
  refine Does.sent 7 rfl ⟨7, rfl⟩ (by decide) (by decide +kernel) (by decide +kernel) (by decide) (by decide) (by decide) (by decide +kernel) ?_
  refine Does.sent 8 rfl ⟨8, rfl⟩ (by decide) (by decide +kernel) (by decide +kernel) (by decide) (by decide) (by decide) (by decide +kernel) ?_
  refine Does.sent 9 rfl ⟨9, rfl⟩ (by decide) (by decide +kernel) (by decide +kernel) (by decide) (by decide) (by decide) (by decide +kernel) ?_
  exact Does.ret _

/-- Part 79 of the kernel. -/
theorem part79 : Does c (St m c K 72 64 10 72 true)
    (k0_part79 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 13 72 true)) := by
  rw [k0_part79_eq_skeleton]
  unfold k0_part79_skel
  refine Does.sent 10 rfl ⟨10, rfl⟩ (by decide) (by decide +kernel) (by decide +kernel) (by decide) (by decide) (by decide) (by decide +kernel) ?_
  refine Does.sent 11 rfl ⟨11, rfl⟩ (by decide) (by decide +kernel) (by decide +kernel) (by decide) (by decide) (by decide) (by decide +kernel) ?_
  refine Does.sent 12 rfl ⟨12, rfl⟩ (by decide) (by decide +kernel) (by decide +kernel) (by decide) (by decide) (by decide) (by decide +kernel) ?_
  exact Does.ret _

/-- Part 80 of the kernel. -/
theorem part80 : Does c (St m c K 72 64 13 72 true)
    (k0_part80 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 16 72 true)) := by
  rw [k0_part80_eq_skeleton]
  unfold k0_part80_skel
  refine Does.sent 13 rfl ⟨13, rfl⟩ (by decide) (by decide +kernel) (by decide +kernel) (by decide) (by decide) (by decide) (by decide +kernel) ?_
  refine Does.sent 14 rfl ⟨14, rfl⟩ (by decide) (by decide +kernel) (by decide +kernel) (by decide) (by decide) (by decide) (by decide +kernel) ?_
  refine Does.sent 15 rfl ⟨15, rfl⟩ (by decide) (by decide +kernel) (by decide +kernel) (by decide) (by decide) (by decide) (by decide +kernel) ?_
  exact Does.ret _

/-- Part 81 of the kernel. -/
theorem part81 : Does c (St m c K 72 64 16 72 true)
    (k0_part81 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 19 72 true)) := by
  rw [k0_part81_eq_skeleton]
  unfold k0_part81_skel
  refine Does.sent 16 rfl ⟨16, rfl⟩ (by decide) (by decide +kernel) (by decide +kernel) (by decide) (by decide) (by decide) (by decide +kernel) ?_
  refine Does.sent 17 rfl ⟨17, rfl⟩ (by decide) (by decide +kernel) (by decide +kernel) (by decide) (by decide) (by decide) (by decide +kernel) ?_
  refine Does.sent 18 rfl ⟨18, rfl⟩ (by decide) (by decide +kernel) (by decide +kernel) (by decide) (by decide) (by decide) (by decide +kernel) ?_
  exact Does.ret _

/-- Part 82 of the kernel. -/
theorem part82 : Does c (St m c K 72 64 19 72 true)
    (k0_part82 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 22 72 true)) := by
  rw [k0_part82_eq_skeleton]
  unfold k0_part82_skel
  refine Does.sent 19 rfl ⟨19, rfl⟩ (by decide) (by decide +kernel) (by decide +kernel) (by decide) (by decide) (by decide) (by decide +kernel) ?_
  refine Does.sent 20 rfl ⟨20, rfl⟩ (by decide) (by decide +kernel) (by decide +kernel) (by decide) (by decide) (by decide) (by decide +kernel) ?_
  refine Does.sent 21 rfl ⟨21, rfl⟩ (by decide) (by decide +kernel) (by decide +kernel) (by decide) (by decide) (by decide) (by decide +kernel) ?_
  exact Does.ret _

end Does
end Cert.KernelIdeal.RingProof
-- ==== Proof.Body7.lean ====
/-
Parts of the kernel, one theorem each
-/
module

public import proofs.«01_k».proof.Proof.Words

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable {c : Dev nD} {m : (ℓ : Loc nD τ sig) → Buf (Elt F) ℓ} {K : GSem nD τ sig → ℕ}

namespace Does

/-- Part 83 of the kernel. -/
theorem part83 : Does c (St m c K 72 64 22 72 true)
    (k0_part83 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 25 72 true)) := by
  rw [k0_part83_eq_skeleton]
  unfold k0_part83_skel
  refine Does.sent 22 rfl ⟨22, rfl⟩ (by decide) (by decide +kernel) (by decide +kernel) (by decide) (by decide) (by decide) (by decide +kernel) ?_
  refine Does.sent 23 rfl ⟨23, rfl⟩ (by decide) (by decide +kernel) (by decide +kernel) (by decide) (by decide) (by decide) (by decide +kernel) ?_
  refine Does.sent 24 rfl ⟨24, rfl⟩ (by decide) (by decide +kernel) (by decide +kernel) (by decide) (by decide) (by decide) (by decide +kernel) ?_
  exact Does.ret _

/-- Part 84 of the kernel. -/
theorem part84 : Does c (St m c K 72 64 25 72 true)
    (k0_part84 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 28 72 true)) := by
  rw [k0_part84_eq_skeleton]
  unfold k0_part84_skel
  refine Does.sent 25 rfl ⟨25, rfl⟩ (by decide) (by decide +kernel) (by decide +kernel) (by decide) (by decide) (by decide) (by decide +kernel) ?_
  refine Does.sent 26 rfl ⟨26, rfl⟩ (by decide) (by decide +kernel) (by decide +kernel) (by decide) (by decide) (by decide) (by decide +kernel) ?_
  refine Does.sent 27 rfl ⟨27, rfl⟩ (by decide) (by decide +kernel) (by decide +kernel) (by decide) (by decide) (by decide) (by decide +kernel) ?_
  exact Does.ret _

/-- Part 85 of the kernel. -/
theorem part85 : Does c (St m c K 72 64 28 72 true)
    (k0_part85 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 31 72 true)) := by
  rw [k0_part85_eq_skeleton]
  unfold k0_part85_skel
  refine Does.sent 28 rfl ⟨28, rfl⟩ (by decide) (by decide +kernel) (by decide +kernel) (by decide) (by decide) (by decide) (by decide +kernel) ?_
  refine Does.sent 29 rfl ⟨29, rfl⟩ (by decide) (by decide +kernel) (by decide +kernel) (by decide) (by decide) (by decide) (by decide +kernel) ?_
  refine Does.sent 30 rfl ⟨30, rfl⟩ (by decide) (by decide +kernel) (by decide +kernel) (by decide) (by decide) (by decide) (by decide +kernel) ?_
  exact Does.ret _

/-- Part 86 of the kernel. -/
theorem part86 : Does c (St m c K 72 64 31 72 true)
    (k0_part86 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 34 72 true)) := by
  rw [k0_part86_eq_skeleton]
  unfold k0_part86_skel
  refine Does.sent 31 rfl ⟨31, rfl⟩ (by decide) (by decide +kernel) (by decide +kernel) (by decide) (by decide) (by decide) (by decide +kernel) ?_
  refine Does.sent 32 rfl ⟨32, rfl⟩ (by decide) (by decide +kernel) (by decide +kernel) (by decide) (by decide) (by decide) (by decide +kernel) ?_
  refine Does.sent 33 rfl ⟨33, rfl⟩ (by decide) (by decide +kernel) (by decide +kernel) (by decide) (by decide) (by decide) (by decide +kernel) ?_
  exact Does.ret _

/-- Part 87 of the kernel. -/
theorem part87 : Does c (St m c K 72 64 34 72 true)
    (k0_part87 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 37 72 true)) := by
  rw [k0_part87_eq_skeleton]
  unfold k0_part87_skel
  refine Does.sent 34 rfl ⟨34, rfl⟩ (by decide) (by decide +kernel) (by decide +kernel) (by decide) (by decide) (by decide) (by decide +kernel) ?_
  refine Does.sent 35 rfl ⟨35, rfl⟩ (by decide) (by decide +kernel) (by decide +kernel) (by decide) (by decide) (by decide) (by decide +kernel) ?_
  refine Does.sent 36 rfl ⟨36, rfl⟩ (by decide) (by decide +kernel) (by decide +kernel) (by decide) (by decide) (by decide) (by decide +kernel) ?_
  exact Does.ret _

/-- Part 88 of the kernel. -/
theorem part88 : Does c (St m c K 72 64 37 72 true)
    (k0_part88 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 40 72 true)) := by
  rw [k0_part88_eq_skeleton]
  unfold k0_part88_skel
  refine Does.sent 37 rfl ⟨37, rfl⟩ (by decide) (by decide +kernel) (by decide +kernel) (by decide) (by decide) (by decide) (by decide +kernel) ?_
  refine Does.sent 38 rfl ⟨38, rfl⟩ (by decide) (by decide +kernel) (by decide +kernel) (by decide) (by decide) (by decide) (by decide +kernel) ?_
  refine Does.sent 39 rfl ⟨39, rfl⟩ (by decide) (by decide +kernel) (by decide +kernel) (by decide) (by decide) (by decide) (by decide +kernel) ?_
  exact Does.ret _

/-- Part 89 of the kernel. -/
theorem part89 : Does c (St m c K 72 64 40 72 true)
    (k0_part89 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 43 72 true)) := by
  rw [k0_part89_eq_skeleton]
  unfold k0_part89_skel
  refine Does.sent 40 rfl ⟨40, rfl⟩ (by decide) (by decide +kernel) (by decide +kernel) (by decide) (by decide) (by decide) (by decide +kernel) ?_
  refine Does.sent 41 rfl ⟨41, rfl⟩ (by decide) (by decide +kernel) (by decide +kernel) (by decide) (by decide) (by decide) (by decide +kernel) ?_
  refine Does.sent 42 rfl ⟨42, rfl⟩ (by decide) (by decide +kernel) (by decide +kernel) (by decide) (by decide) (by decide) (by decide +kernel) ?_
  exact Does.ret _

/-- Part 90 of the kernel. -/
theorem part90 : Does c (St m c K 72 64 43 72 true)
    (k0_part90 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 46 72 true)) := by
  rw [k0_part90_eq_skeleton]
  unfold k0_part90_skel
  refine Does.sent 43 rfl ⟨43, rfl⟩ (by decide) (by decide +kernel) (by decide +kernel) (by decide) (by decide) (by decide) (by decide +kernel) ?_
  refine Does.sent 44 rfl ⟨44, rfl⟩ (by decide) (by decide +kernel) (by decide +kernel) (by decide) (by decide) (by decide) (by decide +kernel) ?_
  refine Does.sent 45 rfl ⟨45, rfl⟩ (by decide) (by decide +kernel) (by decide +kernel) (by decide) (by decide) (by decide) (by decide +kernel) ?_
  exact Does.ret _

/-- Part 91 of the kernel. -/
theorem part91 : Does c (St m c K 72 64 46 72 true)
    (k0_part91 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 49 72 true)) := by
  rw [k0_part91_eq_skeleton]
  unfold k0_part91_skel
  refine Does.sent 46 rfl ⟨46, rfl⟩ (by decide) (by decide +kernel) (by decide +kernel) (by decide) (by decide) (by decide) (by decide +kernel) ?_
  refine Does.sent 47 rfl ⟨47, rfl⟩ (by decide) (by decide +kernel) (by decide +kernel) (by decide) (by decide) (by decide) (by decide +kernel) ?_
  refine Does.sent 48 rfl ⟨48, rfl⟩ (by decide) (by decide +kernel) (by decide +kernel) (by decide) (by decide) (by decide) (by decide +kernel) ?_
  exact Does.ret _

/-- Part 92 of the kernel. -/
theorem part92 : Does c (St m c K 72 64 49 72 true)
    (k0_part92 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 52 72 true)) := by
  rw [k0_part92_eq_skeleton]
  unfold k0_part92_skel
  refine Does.sent 49 rfl ⟨49, rfl⟩ (by decide) (by decide +kernel) (by decide +kernel) (by decide) (by decide) (by decide) (by decide +kernel) ?_
  refine Does.sent 50 rfl ⟨50, rfl⟩ (by decide) (by decide +kernel) (by decide +kernel) (by decide) (by decide) (by decide) (by decide +kernel) ?_
  refine Does.sent 51 rfl ⟨51, rfl⟩ (by decide) (by decide +kernel) (by decide +kernel) (by decide) (by decide) (by decide) (by decide +kernel) ?_
  exact Does.ret _

/-- Part 93 of the kernel. -/
theorem part93 : Does c (St m c K 72 64 52 72 true)
    (k0_part93 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 55 72 true)) := by
  rw [k0_part93_eq_skeleton]
  unfold k0_part93_skel
  refine Does.sent 52 rfl ⟨52, rfl⟩ (by decide) (by decide +kernel) (by decide +kernel) (by decide) (by decide) (by decide) (by decide +kernel) ?_
  refine Does.sent 53 rfl ⟨53, rfl⟩ (by decide) (by decide +kernel) (by decide +kernel) (by decide) (by decide) (by decide) (by decide +kernel) ?_
  refine Does.sent 54 rfl ⟨54, rfl⟩ (by decide) (by decide +kernel) (by decide +kernel) (by decide) (by decide) (by decide) (by decide +kernel) ?_
  exact Does.ret _

/-- Part 94 of the kernel. -/
theorem part94 : Does c (St m c K 72 64 55 72 true)
    (k0_part94 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 59 72 true)) := by
  rw [k0_part94_eq_skeleton]
  unfold k0_part94_skel
  refine Does.sent 55 rfl ⟨55, rfl⟩ (by decide) (by decide +kernel) (by decide +kernel) (by decide) (by decide) (by decide) (by decide +kernel) ?_
  refine Does.sent 56 rfl ⟨56, rfl⟩ (by decide) (by decide +kernel) (by decide +kernel) (by decide) (by decide) (by decide) (by decide +kernel) ?_
  refine Does.sent 58 rfl ⟨58, rfl⟩ (by decide) (by decide +kernel) (by decide +kernel) (by decide) (by decide) (by decide) (by decide +kernel) ?_
  exact Does.ret _

end Does
end Cert.KernelIdeal.RingProof
-- ==== Proof.Body.lean ====
/-
The kernel body from end to end
-/
module

public import proofs.«01_k».proof.Proof.Body1
public import proofs.«01_k».proof.Proof.Body2
public import proofs.«01_k».proof.Proof.Body3
public import proofs.«01_k».proof.Proof.Body4
public import proofs.«01_k».proof.Proof.Body5
public import proofs.«01_k».proof.Proof.Body6
public import proofs.«01_k».proof.Proof.Body7

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable {c : Dev nD} {m : (ℓ : Loc nD τ sig) → Buf (Elt F) ℓ} {K : GSem nD τ sig → ℕ}

namespace Does

/-- A program run after one that leaves one of several values. -/
theorem bind_some {α β : Type} {γ : Type} {v : α → β} {P P' : sProp 𝕄} {p : Prog (TpuEff nD τ sig (Elt F) Λ₀ .tc) β}
    {k : β → Prog (TpuEff nD τ sig (Elt F) Λ₀ .tc) γ} {Q : γ → sProp 𝕄}
    (hp : Does c P p (fun a => iprop(∃ w, At (v w) P' a))) (hk : ∀ w, Does c P' (k (v w)) Q) : Does c P (p >>= k) Q := by
  refine bind_of hp fun a => ?_
  unfold Does At at *
  iintro ⟨%w, %ha, H⟩
  subst ha
  iapply (hk w)
  iexact H

/-- The kernel up to the middle of its run: the neighbours have been met, and 55 of the hops have been sent. -/
theorem part95 : Does c (M0 m c K)
    (k0_part95 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨(word (posT c)), (chk1 c), (word (after c 15)), (chk2 (after c 15)), (word (after c 1)), (chk3 (after c 1)), (k0_pay13 (sx1 m c) (sw1 m c))⟩ (St m c K 55 55 0 48 true)) := by
  rw [k0_part95_eq_skeleton]
  unfold k0_part95_skel
  refine Does.bind Does.part1 ?_
  refine Does.bind_some (v := fun w => PSigma.mk (k0_pay4 (xB m c 1)) w) Does.part2 fun w => ?_
  refine Does.bind (Does.part3 w) ?_
  refine Does.bind Does.part4 ?_
  refine Does.bind Does.part5 ?_
  refine Does.bind Does.part6 ?_
  refine Does.bind Does.part7 ?_
  refine Does.bind Does.part8 ?_
  refine Does.bind Does.part9 ?_
  refine Does.bind Does.part10 ?_
  refine Does.bind Does.part11 ?_
  refine Does.bind Does.part12 ?_
  refine Does.bind Does.part13 ?_
  refine Does.bind Does.part14 ?_
  refine Does.bind Does.part15 ?_
  refine Does.bind Does.part16 ?_
  refine Does.bind Does.part17 ?_
  refine Does.bind Does.part18 ?_
  refine Does.bind Does.part19 ?_
  refine Does.bind Does.part20 ?_
  refine Does.bind Does.part21 ?_
  refine Does.bind Does.part22 ?_
  refine Does.bind Does.part23 ?_
  refine Does.bind Does.part24 ?_
  refine Does.bind Does.part25 ?_
  refine Does.bind Does.part26 ?_
  refine Does.bind Does.part27 ?_
  refine Does.bind Does.part28 ?_
  refine Does.bind Does.part29 ?_
  refine Does.bind Does.part30 ?_
  refine Does.bind Does.part31 ?_
  refine Does.bind Does.part32 ?_
  refine Does.bind Does.part33 ?_
  refine Does.bind Does.part34 ?_
  refine Does.bind Does.part35 ?_
  refine Does.bind Does.part36 ?_
  refine Does.bind Does.part37 ?_
  refine Does.bind Does.part38 ?_
  refine Does.bind Does.part39 ?_
  refine Does.bind Does.part40 ?_
  refine Does.bind Does.part41 ?_
  refine Does.bind Does.part42 ?_
  refine Does.bind Does.part43 ?_
  refine Does.bind Does.part44 ?_
  refine Does.bind Does.part45 ?_
  refine Does.bind Does.part46 ?_
  refine Does.bind Does.part47 ?_
  refine Does.bind Does.part48 ?_
  refine Does.bind Does.part49 ?_
  refine Does.bind Does.part50 ?_
  refine Does.bind Does.part51 ?_
  refine Does.bind Does.part52 ?_
  refine Does.bind Does.part53 ?_
  refine Does.bind Does.part54 ?_
  refine Does.bind Does.part55 ?_
  refine Does.bind Does.part56 ?_
  refine Does.bind Does.part57 ?_
  refine Does.bind Does.part58 ?_
  refine Does.bind Does.part59 ?_
  refine Does.bind Does.part60 ?_
  exact Does.ret _

/-- The rest of the kernel but its last wait. -/
theorem part96 : Does c (St m c K 55 55 0 48 true)
    (k0_part96 (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6 (word (posT c)) (chk1 c) (word (after c 15)) (chk2 (after c 15)) (word (after c 1)) (chk3 (after c 1)) (k0_pay13 (sx1 m c) (sw1 m c)))
    (At ⟨⟩ (St m c K 72 64 62 72 true)) := by
  rw [k0_part96_eq_skeleton]
  unfold k0_part96_skel
  refine Does.bind Does.part61 ?_
  refine Does.bind Does.part62 ?_
  refine Does.bind Does.part63 ?_
  refine Does.bind Does.part64 ?_
  refine Does.bind Does.part65 ?_
  refine Does.bind Does.part66 ?_
  refine Does.bind Does.part67 ?_
  refine Does.bind Does.part68 ?_
  refine Does.bind Does.part69 ?_
  refine Does.bind Does.part70 ?_
  refine Does.bind Does.part71 ?_
  refine Does.bind Does.part72 ?_
  refine Does.bind Does.part73 ?_
  refine Does.bind Does.part74 ?_
  refine Does.bind Does.part75 ?_
  refine Does.bind Does.part76 ?_
  refine Does.bind Does.part77 ?_
  refine Does.bind Does.part78 ?_
  refine Does.bind Does.part79 ?_
  refine Does.bind Does.part80 ?_
  refine Does.bind Does.part81 ?_
  refine Does.bind Does.part82 ?_
  refine Does.bind Does.part83 ?_
  refine Does.bind Does.part84 ?_
  refine Does.bind Does.part85 ?_
  refine Does.bind Does.part86 ?_
  refine Does.bind Does.part87 ?_
  refine Does.bind Does.part88 ?_
  refine Does.bind Does.part89 ?_
  refine Does.bind Does.part90 ?_
  refine Does.bind Does.part91 ?_
  refine Does.bind Does.part92 ?_
  refine Does.bind Does.part93 ?_
  refine Does.bind Does.part94 ?_
  refine Does.sent 61 rfl ⟨61, rfl⟩ (by decide) (by decide +kernel) (by decide +kernel) (by decide) (by decide) (by decide) (by decide +kernel) ?_
  exact Does.ret _

/-- The whole kernel body, on one device: from what a device holds at the start to what it holds when every hop is in. -/
theorem body : Does c (M0 m c K)
    (cc0_body (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (At ⟨⟩ (St m c K 72 64 64 72 true)) := by
  rw [cc0_body_eq_skeleton]
  unfold cc0_body_skel
  refine Does.bind Does.part95 ?_
  refine Does.bind Does.part96 ?_
  refine Does.sent 63 rfl ⟨63, rfl⟩ (by decide) (by decide +kernel) (by decide +kernel) (by decide) (by decide) (by decide) (by decide +kernel) ?_
  exact Does.ret _

end Does
end Cert.KernelIdeal.RingProof
-- ==== Proof.Slots.lean ====
/-
The two scratch buffers cut into the slots that blocks are kept in, what the body is handed of them, and what it leaves.
-/
module

public import proofs.«01_k».proof.Proof.Body

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The scratch buffers, cut into slots -/

/-- The slots of one buffer lie apart. -/
theorem slots_apart (e : ℕ) (he : e < 2) (i i' : Fin 36) (h : i ≠ i') : Disjoint (slotR (2 * i.val + e)).set (slotR (2 * i'.val + e)).set := by
  refine Finset.disjoint_left.mpr fun x hx hx' => h (Fin.ext ?_)
  have h0 : (2 * i.val + e) / 8 % 9 ≤ (x 0).val ∧ (x 0).val < (2 * i.val + e) / 8 % 9 + 1 := Rect.mem_set_unit.mp hx 0
  have h1 : (2 * i.val + e) / 2 % 4 ≤ (x 1).val ∧ (x 1).val < (2 * i.val + e) / 2 % 4 + 1 := Rect.mem_set_unit.mp hx 1
  have h0' : (2 * i'.val + e) / 8 % 9 ≤ (x 0).val ∧ (x 0).val < (2 * i'.val + e) / 8 % 9 + 1 := Rect.mem_set_unit.mp hx' 0
  have h1' : (2 * i'.val + e) / 2 % 4 ≤ (x 1).val ∧ (x 1).val < (2 * i'.val + e) / 2 % 4 + 1 := Rect.mem_set_unit.mp hx' 1
  have := i.isLt
  have := i'.isLt
  omega
/-- The slots of one buffer fill it. -/
theorem slots_fill (e : ℕ) (he : e < 2) : (Finset.univ : Finset (Fin 36)).biUnion (fun i => (slotR (2 * i.val + e)).set) = Finset.univ := by
  refine Finset.eq_univ_of_forall fun x => Finset.mem_biUnion.mpr ?_
  have h0 : (x 0).val < 9 := (x 0).isLt
  have h1 : (x 1).val < 4 := (x 1).isLt
  have h2 : (x 2).val < 64 := (x 2).isLt
  have h3 : (x 3).val < 4096 := (x 3).isLt
  refine ⟨⟨4 * (x 0).val + (x 1).val, by omega⟩, Finset.mem_univ _, Rect.mem_set_unit.mpr fun a => ?_⟩
  match a with
  | ⟨0, _⟩ => exact (show (2 * (4 * (x 0).val + (x 1).val) + e) / 8 % 9 ≤ (x 0).val ∧ (x 0).val < (2 * (4 * (x 0).val + (x 1).val) + e) / 8 % 9 + 1 from by omega)
  | ⟨1, _⟩ => exact (show (2 * (4 * (x 0).val + (x 1).val) + e) / 2 % 4 ≤ (x 1).val ∧ (x 1).val < (2 * (4 * (x 0).val + (x 1).val) + e) / 2 % 4 + 1 from by omega)
  | ⟨2, _⟩ => exact ⟨Nat.zero_le _, (show (x 2).val < 0 + 64 from by omega)⟩
  | ⟨3, _⟩ => exact ⟨Nat.zero_le _, (show (x 3).val < 0 + 4096 from by omega)⟩

/-- Even slots lie in the right-going buffer. -/
theorem buf_right (i : ℕ) : bufM (2 * i + 0) = rM := by
  unfold bufM
  rw [show ((2 * i + 0) % 2 == 0) = true from by rw [show (2 * i + 0) % 2 = 0 from by omega]; rfl]
  try rfl
/-- A free slot of the right buffer is that part of the buffer, at any contents. -/
theorem free_right (c : Dev nD) (i : ℕ) : (freeSlot c (2 * i + 0) : sProp 𝕄)
    ⊢ iprop(∃ f : Buf (Elt F) ((c : Thread nD τ).loc cc0_scratch0), (c : Thread nD τ).loc cc0_scratch0 ↦[(slotR (2 * i + 0)).set]{fullShare} f) := by
  have hv : (rM.slice (slotR (2 * i + 0)) (fun _ => rfl)).view.set = (slotR (2 * i + 0)).set := View.set_slice_whole cc0_scratch0 _
  unfold freeSlot sl
  rw [buf_right i]
  unfold owns
  rw [hv]
  iintro ⟨%X, %f, -, H⟩
  iexists f
  iexact H
/-- A part of the right-going buffer is a free slot. -/
theorem part_right (c : Dev nD) (i : ℕ) (f : Buf (Elt F) ((c : Thread nD τ).loc cc0_scratch0)) :
    ((c : Thread nD τ).loc cc0_scratch0 ↦[(slotR (2 * i + 0)).set]{fullShare} f : sProp 𝕄) ⊢ freeSlot c (2 * i + 0) := by
  have hv : (rM.slice (slotR (2 * i + 0)) (fun _ => rfl)).view.set = (slotR (2 * i + 0)).set := View.set_slice_whole cc0_scratch0 _
  unfold freeSlot sl
  rw [buf_right i]
  unfold owns
  rw [hv]
  iintro H
  iexists _, f
  isplitr; · ipureintro; rfl
  iexact H
/-- The right buffer is its free slots. -/
theorem cut_right (c : Dev nD) : iprop(∃ f : Buf (Elt F) ((c : Thread nD τ).loc cc0_scratch0), (c : Thread nD τ).loc cc0_scratch0 ↦{fullShare} f)
    ⊢ (bigSep (Finset.univ : Finset (Fin 36)) fun i => freeSlot c (2 * i.val + 0) : sProp 𝕄) := by
  have h (f : Buf (Elt F) ((c : Thread nD τ).loc cc0_scratch0)) : ((c : Thread nD τ).loc cc0_scratch0 ↦{fullShare} f : sProp 𝕄)
      ⊢ bigSep (Finset.univ : Finset (Fin 36)) fun i => freeSlot c (2 * i.val + 0) :=
    (Entails.of_eq (Ring.pointsTo_blocks (ℓ := (c : Thread nD τ).loc cc0_scratch0) (fun i : Fin 36 => (slotR (2 * i.val + 0)).set) (slots_apart 0 (by decide)) (slots_fill 0 (by decide)) f)).trans
      (bigSep_mono fun i _ => part_right c i.val f)
  iintro ⟨%f, H⟩
  iapply (h f)
  iexact H
/-- The even slots together are the right-going buffer. -/
theorem join_right (c : Dev nD) (f₀ : Buf (Elt F) ((c : Thread nD τ).loc cc0_scratch0)) : (bigSep (Finset.univ : Finset (Fin 36)) fun i => freeSlot c (2 * i.val + 0) : sProp 𝕄)
    ⊢ iprop(∃ f : Buf (Elt F) ((c : Thread nD τ).loc cc0_scratch0), (c : Thread nD τ).loc cc0_scratch0 ↦{fullShare} f) :=
  (bigSep_mono fun i _ => free_right c i.val).trans
    (Ring.pointsTo_blocks_join_exists (ℓ := (c : Thread nD τ).loc cc0_scratch0) (fun i : Fin 36 => (slotR (2 * i.val + 0)).set) (slots_apart 0 (by decide)) (slots_fill 0 (by decide)) f₀)

/-- Odd slots lie in the left-going buffer. -/
theorem buf_left (i : ℕ) : bufM (2 * i + 1) = lM := by
  unfold bufM
  rw [show ((2 * i + 1) % 2 == 0) = false from by rw [show (2 * i + 1) % 2 = 1 from by omega]; rfl]
  try rfl
/-- A free slot of the left buffer is that part of the buffer, at any contents. -/
theorem free_left (c : Dev nD) (i : ℕ) : (freeSlot c (2 * i + 1) : sProp 𝕄)
    ⊢ iprop(∃ f : Buf (Elt F) ((c : Thread nD τ).loc cc0_scratch1), (c : Thread nD τ).loc cc0_scratch1 ↦[(slotR (2 * i + 1)).set]{fullShare} f) := by
  have hv : (lM.slice (slotR (2 * i + 1)) (fun _ => rfl)).view.set = (slotR (2 * i + 1)).set := View.set_slice_whole cc0_scratch1 _
  unfold freeSlot sl
  rw [buf_left i]
  unfold owns
  rw [hv]
  iintro ⟨%X, %f, -, H⟩
  iexists f
  iexact H
/-- A part of the left-going buffer is a free slot. -/
theorem part_left (c : Dev nD) (i : ℕ) (f : Buf (Elt F) ((c : Thread nD τ).loc cc0_scratch1)) :
    ((c : Thread nD τ).loc cc0_scratch1 ↦[(slotR (2 * i + 1)).set]{fullShare} f : sProp 𝕄) ⊢ freeSlot c (2 * i + 1) := by
  have hv : (lM.slice (slotR (2 * i + 1)) (fun _ => rfl)).view.set = (slotR (2 * i + 1)).set := View.set_slice_whole cc0_scratch1 _
  unfold freeSlot sl
  rw [buf_left i]
  unfold owns
  rw [hv]
  iintro H
  iexists _, f
  isplitr; · ipureintro; rfl
  iexact H
/-- The left buffer is its free slots. -/
theorem cut_left (c : Dev nD) : iprop(∃ f : Buf (Elt F) ((c : Thread nD τ).loc cc0_scratch1), (c : Thread nD τ).loc cc0_scratch1 ↦{fullShare} f)
    ⊢ (bigSep (Finset.univ : Finset (Fin 36)) fun i => freeSlot c (2 * i.val + 1) : sProp 𝕄) := by
  have h (f : Buf (Elt F) ((c : Thread nD τ).loc cc0_scratch1)) : ((c : Thread nD τ).loc cc0_scratch1 ↦{fullShare} f : sProp 𝕄)
      ⊢ bigSep (Finset.univ : Finset (Fin 36)) fun i => freeSlot c (2 * i.val + 1) :=
    (Entails.of_eq (Ring.pointsTo_blocks (ℓ := (c : Thread nD τ).loc cc0_scratch1) (fun i : Fin 36 => (slotR (2 * i.val + 1)).set) (slots_apart 1 (by decide)) (slots_fill 1 (by decide)) f)).trans
      (bigSep_mono fun i _ => part_left c i.val f)
  iintro ⟨%f, H⟩
  iapply (h f)
  iexact H
/-- The odd slots together are the left-going buffer. -/
theorem join_left (c : Dev nD) (f₀ : Buf (Elt F) ((c : Thread nD τ).loc cc0_scratch1)) : (bigSep (Finset.univ : Finset (Fin 36)) fun i => freeSlot c (2 * i.val + 1) : sProp 𝕄)
    ⊢ iprop(∃ f : Buf (Elt F) ((c : Thread nD τ).loc cc0_scratch1), (c : Thread nD τ).loc cc0_scratch1 ↦{fullShare} f) :=
  (bigSep_mono fun i _ => free_left c i.val).trans
    (Ring.pointsTo_blocks_join_exists (ℓ := (c : Thread nD τ).loc cc0_scratch1) (fun i : Fin 36 => (slotR (2 * i.val + 1)).set) (slots_apart 1 (by decide)) (slots_fill 1 (by decide)) f₀)

/-! ## Families cut in two -/

/-- The even slots, -/
def evens : Fin 36 ↪ ℕ := ⟨fun i => 2 * i.val + 0, fun i j h => Fin.ext (by have : 2 * i.val + 0 = 2 * j.val + 0 := h; omega)⟩
/-- the odd ones, -/
def odds : Fin 36 ↪ ℕ := ⟨fun i => 2 * i.val + 1, fun i j h => Fin.ext (by have : 2 * i.val + 1 = 2 * j.val + 1 := h; omega)⟩
/-- and the slots that hops write. -/
def past : ℕ ↪ ℕ := ⟨fun k => k + 8, fun i j h => by have : i + 8 = j + 8 := h; omega⟩

/-- A family over the slots is one over the slots of either buffer. -/
theorem fam_parity (Φ : ℕ → sProp 𝕄) : bigSep (Finset.range 72) Φ
    = iprop((bigSep (Finset.univ : Finset (Fin 36)) fun i => Φ (2 * i.val + 0)) ∗ bigSep (Finset.univ : Finset (Fin 36)) fun i => Φ (2 * i.val + 1)) := by
  rw [show Finset.range 72 = Finset.univ.map evens ∪ Finset.univ.map odds from by decide, bigSep_union (by decide), bigSep_map, bigSep_map]
  rfl
/-- A family over the slots is one over the device's own slots and one over the hops that fill the others. -/
theorem fam_past (Φ : ℕ → sProp 𝕄) : bigSep (Finset.range 72) Φ
    = iprop(bigSep (Finset.range 8) Φ ∗ bigSep (Finset.range 64) fun k => Φ (k + 8)) := by
  rw [show Finset.range 72 = Finset.range 8 ∪ (Finset.range 64).map past from by decide, bigSep_union (by decide), bigSep_map]
  rfl

/-- The two buffers are the free slots, -/
theorem slots_cut (c : Dev nD) : iprop((∃ f : Buf (Elt F) ((c : Thread nD τ).loc cc0_scratch0), (c : Thread nD τ).loc cc0_scratch0 ↦{fullShare} f)
    ∗ ∃ f : Buf (Elt F) ((c : Thread nD τ).loc cc0_scratch1), (c : Thread nD τ).loc cc0_scratch1 ↦{fullShare} f)
    ⊢ (bigSep (Finset.range 72) (freeSlot c) : sProp 𝕄) := by
  rw [fam_parity]
  exact BI.sep_mono (cut_right c) (cut_left c)
/-- and the other way round. -/
theorem slots_join (c : Dev nD) (f₀ : Buf (Elt F) ((c : Thread nD τ).loc cc0_scratch0)) (f₁ : Buf (Elt F) ((c : Thread nD τ).loc cc0_scratch1)) :
    (bigSep (Finset.range 72) (freeSlot c) : sProp 𝕄)
    ⊢ iprop((∃ f : Buf (Elt F) ((c : Thread nD τ).loc cc0_scratch0), (c : Thread nD τ).loc cc0_scratch0 ↦{fullShare} f)
      ∗ ∃ f : Buf (Elt F) ((c : Thread nD τ).loc cc0_scratch1), (c : Thread nD τ).loc cc0_scratch1 ↦{fullShare} f) := by
  rw [fam_parity]
  exact BI.sep_mono (join_right c f₀) (join_left c f₁)

/-! ## What goes into the body, and what comes out of it -/

variable (m : (ℓ : Loc nD τ sig) → Buf (Elt F) ℓ) (c : Dev nD)

/-- The record that device `c`'s receive cell of hop `k` is open. -/
def met (k : ℕ) : sProp 𝕄 := if used k = true then reached ER (rC c k) 0 else iprop(emp)

/-- A slot that a hop writes goes to the neighbour the hop comes from, or stays if the hop is not run. -/
theorem deal_one (k : ℕ) : iprop(freeSlot c (k + 8) ∗ met c k) ⊢ (iprop(give c true k ∗ give c false k ∗ slotRes m c 0 0 0 (k + 8)) : sProp 𝕄) := by
  have hg : good (k + 8) = used k := by
    unfold good
    rw [decide_eq_false (show ¬ k + 8 < 8 by omega), Bool.false_or, Nat.add_sub_cancel]
  unfold met give
  by_cases hu : used k = true
  · rw [slotRes_away m (hg.trans hu) (Nat.zero_le _) (by omega), if_pos hu]
    by_cases h0 : k % 2 = 0
    · rw [if_pos ⟨hu, fun _ => rfl, fun _ => h0⟩, if_neg (fun h => Bool.noConfusion (h.2.1 h0))]
      iintro ⟨H1, H2⟩
      isplitl
      · isplitl [H1] <;> iassumption
      · isplit <;> iempintro
    · rw [if_neg (fun h => h0 (h.2.2 rfl)), if_pos ⟨hu, fun h => absurd h h0, fun h => Bool.noConfusion h⟩]
      iintro ⟨H1, H2⟩
      isplitr
      · iempintro
      · isplitl
        · isplitl [H1] <;> iassumption
        · iempintro
  · rw [if_neg hu, if_neg (fun h => hu h.1), if_neg (fun h => hu h.1)]
    unfold slotRes
    rw [if_neg (show ¬ good (k + 8) = true from by rw [hg]; exact hu)]
    iintro ⟨H1, -⟩
    isplitr; · iempintro
    isplitr; · iempintro
    iexact H1

/-- The free slots are the device's own and those it gives either neighbour. -/
theorem deal : iprop(bigSep (Finset.range 72) (freeSlot c) ∗ bigSep (Finset.range 64) (met c))
    ⊢ (iprop(barPay (after c 15) true ∗ barPay (after c 1) false ∗ bigSep (Finset.range 72) (slotRes m c 0 0 0)) : sProp 𝕄) := by
  rw [barPay_left, barPay_right, fam_past, fam_past]
  have h : iprop((bigSep (Finset.range 64) fun k => freeSlot c (k + 8)) ∗ bigSep (Finset.range 64) (met c))
      ⊢ (iprop(bigSep (Finset.range 64) (give c true) ∗ bigSep (Finset.range 64) (give c false) ∗ bigSep (Finset.range 64) fun k => slotRes m c 0 0 0 (k + 8)) : sProp 𝕄) := by
    rw [← bigSep_sep', ← bigSep_sep', ← bigSep_sep']
    exact bigSep_mono fun k _ => deal_one m c k
  have h8 : (bigSep (Finset.range 8) (freeSlot c) : sProp 𝕄) ⊢ bigSep (Finset.range 8) (slotRes m c 0 0 0) :=
    bigSep_mono fun j hj => Entails.of_eq (slotRes_free m (Nat.zero_le _) (Finset.mem_range.mp hj)).symm
  iintro ⟨⟨H8, H⟩, Hm⟩
  ihave H := h $$ [H Hm]
  · isplitl [H] <;> iassumption
  icases H with ⟨H1, H2, H3⟩
  isplitl [H1]; · iexact H1
  isplitl [H2]; · iexact H2
  isplitl [H8]
  · iapply h8; iexact H8
  iexact H3

/-- At the end every slot is whole. -/
theorem slots_end : bigSep (Finset.range 72) (slotRes m c 72 64 64) ⊢ (bigSep (Finset.range 72) (freeSlot c) : sProp 𝕄) := by
  refine bigSep_mono fun j hj => ?_
  have hj := Finset.mem_range.mp hj
  by_cases hg : good j = true
  · rw [slotRes_full m hg hj (by omega)]
    refine (owns_unhalve c j _ _).trans ?_
    unfold freeSlot
    iintro H
    iexists _
    iexact H
  · unfold slotRes
    rw [if_neg hg]
    exact Entails.refl _
/-- At the end every counter of its own is at zero. -/
theorem hops_end : bigSep (Finset.range 64) (hopRes c 64 64) ⊢ (bigSep (Finset.range 64) fun k => semVal (sC c k) 0 : sProp 𝕄) :=
  bigSep_mono fun k hk => Entails.of_eq (hopRes_left fun _ => Finset.mem_range.mp hk)
/-- When every hop has landed, all receive counters are at zero. -/
theorem recvs_end : bigSep (Finset.range 64) (recvRes c 72) ⊢ (bigSep (Finset.range 64) fun k => semVal (rC c k) 0 : sProp 𝕄) :=
  bigSep_mono fun k hk => Entails.of_eq (recvRes_come fun _ => by have := Finset.mem_range.mp hk; omega)
/-- At the end nothing is owed. -/
theorem Ow_end : Ow c 64 = 0 := by
  unfold Ow
  rw [show (Finset.range 64).filter (fun k => used k = true ∧ 64 ≤ k) = ∅ from by decide]
  rfl

/-- The result on device `c`. -/
def outG : (cc0_stg6_0 : Ref sig .tc).ty.Contents (Elt F) := fun p =>
  outB m c (Fin.ofNat 16 ((p 0).val / 256)) ((p 0).val / 64 % 4) (ix2 (Fin.ofNat 64 ((p 0).val % 64)) (p 1))
/-- At the end the result holds it. -/
theorem Done_end {f : (cc0_stg6_0 : Ref sig .tc).ty.Contents (Elt F)} (h : Done m c 72 f) : f = outG m c := by
  funext p
  have hp : (p 0).val < 4096 := (p 0).isLt
  obtain ⟨j, hj, hc, ho, hs⟩ := reach c (Fin.ofNat 16 ((p 0).val / 256)) (show (p 0).val / 64 % 4 < 4 from Nat.mod_lt _ (by decide))
  have hov : (org c j).val = (p 0).val / 256 := by rw [ho]; exact Nat.mod_eq_of_lt (by omega)
  have hr : ((Fin.ofNat 64 ((p 0).val % 64) : Fin 64)).val = (p 0).val % 64 := Nat.mod_eq_of_lt (by omega)
  have hb : 256 * (org c j).val + 64 * sub j + (Fin.ofNat 64 ((p 0).val % 64) : Fin 64).val < 4096 := by rw [hov, hs, hr]; omega
  have e := h j hj hc (Fin.ofNat 64 ((p 0).val % 64)) (p 1) hb
  have hpp : p = ix2 ⟨256 * (org c j).val + 64 * sub j + (Fin.ofNat 64 ((p 0).val % 64) : Fin 64).val, hb⟩ (p 1) := by
    funext a
    match a with
    | ⟨0, _⟩ => exact Fin.ext (show (p 0).val = 256 * (org c j).val + 64 * sub j + (Fin.ofNat 64 ((p 0).val % 64) : Fin 64).val by rw [hov, hs, hr]; omega)
    | ⟨1, _⟩ => rfl
  refine (congrArg f hpp).trans (e.trans ?_)
  unfold outG
  rw [ho, hs]

end Cert.KernelIdeal.RingProof
-- ==== Proof.Deal.lean ====
/-
What the launch deals out: the tokens, each to the device that pays its duty, the credits, and the opening of the kernel's own cells.
-/
module

public import proofs.«01_k».proof.Proof.Slots

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the kernel's own semaphores -/

/-- The hops' send semaphores are all different. -/
theorem sI_on : Set.InjOn sI (Finset.range 64 : Finset ℕ) := fun i hi j hj h => by
  have := hopOf_sI (Finset.mem_range.mp hi)
  rw [h, hopOf_sI (Finset.mem_range.mp hj)] at this
  exact this.symm
/-- The hops' receive semaphores are all different. -/
theorem rI_on : Set.InjOn rI (Finset.range 64 : Finset ℕ) := fun i hi j hj h => by
  have := hopOf_rI (Finset.mem_range.mp hi)
  rw [h, hopOf_rI (Finset.mem_range.mp hj)] at this
  exact this.symm
/-- The kernel's own semaphores are the hops' send and receive semaphores. -/
theorem own_all : (Finset.univ : Finset (Fin 128)) = (Finset.range 64).image sI ∪ (Finset.range 64).image rI := by
  refine (Finset.eq_univ_of_forall fun i => ?_).symm
  rw [Finset.mem_union]
  cases h : isRecv i
  · exact Or.inl (Finset.mem_image.mpr ⟨hopOf i, Finset.mem_range.mpr (hopOf_lt i), eq_sI h⟩)
  · exact Or.inr (Finset.mem_image.mpr ⟨hopOf i, Finset.mem_range.mpr (hopOf_lt i), eq_rI h⟩)
/-- No semaphore is both. -/
theorem own_apart : Disjoint ((Finset.range 64).image sI) ((Finset.range 64).image rI) := by
  refine Finset.disjoint_left.mpr fun i h h' => ?_
  obtain ⟨k, hk, rfl⟩ := Finset.mem_image.mp h
  obtain ⟨k', hk', e⟩ := Finset.mem_image.mp h'
  have := isRecv_sI (Finset.mem_range.mp hk)
  rw [← e, isRecv_rI (Finset.mem_range.mp hk')] at this
  exact Bool.noConfusion this
/-- A family over the kernel's semaphores is one over the hops, of each its send and its receive semaphore. -/
theorem fam_own (Φ : SemLoc sig → sProp 𝕄) : (bigSep (Finset.univ : Finset (Fin 128)) fun i => Φ (osem i))
    = bigSep (Finset.range 64) fun k => iprop(Φ (.dma (sS k)) ∗ Φ (.dma (rS k))) := by
  rw [own_all, bigSep_union own_apart, bigSep_image_of_injOn sI_on, bigSep_image_of_injOn rI_on, bigSep_sep']
  rfl

/-- Devices and hops, in either order. -/
theorem fam_swap (n : ℕ) (Φ : Dev nD → ℕ → sProp 𝕄) : (bigSep Finset.univ fun c => bigSep (Finset.range n) (Φ c))
    = bigSep (Finset.range n) fun k => bigSep Finset.univ fun c => Φ c k := by
  induction n with
  | zero => exact bigSep_emp_const _
  | succ n ih =>
    rw [bigSep_congr (s := (Finset.univ : Finset (Dev nD))) fun c _ => show bigSep (Finset.range (n + 1)) (Φ c) = iprop(Φ c n ∗ bigSep (Finset.range n) (Φ c)) from by
      rw [Finset.range_add_one, bigSep_insert Finset.notMem_range_self]; rfl]
    rw [bigSep_sep', ih, Finset.range_add_one, bigSep_insert Finset.notMem_range_self]
    rfl

/-! ## The cells and the tokens of the launch -/

/-- The barrier cells are none of the kernel's own cells. -/
theorem cells_apart : Disjoint (barCells : Finset (GSem nD τ sig)) ownCells := by
  rw [Finset.disjoint_left]
  rintro g h₁ h₂
  obtain ⟨c, -, rfl⟩ := Finset.mem_map.mp h₁
  obtain ⟨ci, -, h⟩ := Finset.mem_map.mp h₂
  have h : SemLoc.dma (own ci.2) = SemLoc.reg barS := congrArg Prod.snd h
  cases h

/-- Both duties of a barrier cell, and the one duty of each of the kernel's own. -/
def tokOf (x : Dev nD × (Bool ⊕ Fin 128)) : GSem nD τ sig × ℕ × Bool :=
  match x.2 with
  | .inl d => (barC x.1, 0, d)
  | .inr i => (((x.1 : Thread nD τ), osem i), 0, false)
/-- No unit has two payers. -/
theorem tokOf_inj : Function.Injective tokOf := by
  rintro ⟨c, d | i⟩ ⟨c', d' | i'⟩ h
  · have h : (barC c, 0, d) = (barC c', 0, d') := h
    rw [show c = c' from congrArg (fun t : GSem nD τ sig × ℕ × Bool => t.1.1.1) h, show d = d' from congrArg (fun t : GSem nD τ sig × ℕ × Bool => t.2.2) h]
  · have h : SemLoc.reg barS = osem i' := congrArg (fun t : GSem nD τ sig × ℕ × Bool => t.1.2) h
    cases h
  · have h : osem i = SemLoc.reg barS := congrArg (fun t : GSem nD τ sig × ℕ × Bool => t.1.2) h
    cases h
  · have h : (((c : Thread nD τ), osem i), 0, false) = (((c' : Thread nD τ), osem i'), 0, false) := h
    rw [show c = c' from congrArg (fun t : GSem nD τ sig × ℕ × Bool => t.1.1.1) h, show i = i' from osem_inj (congrArg (fun t : GSem nD τ sig × ℕ × Bool => t.1.2) h)]
/-- The rights to pay, of all the units of the schedule. -/
def toks : Finset (GSem nD τ sig × ℕ × Bool) := Finset.univ.map ⟨tokOf, tokOf_inj⟩

/-- The tokens of device `c`'s own cells. -/
def tokAt (c : Dev nD) : sProp 𝕄 :=
  iprop((dutyTok ER (barC c) 0 false ∗ dutyTok ER (barC c) 0 true)
    ∗ (bigSep (Finset.range 64) fun k => dutyTok ER (sC c k) 0 false) ∗ bigSep (Finset.range 64) fun k => dutyTok ER (rC c k) 0 false)
/-- The tokens of the duties device `c` pays. -/
def tokBy (c : Dev nD) : sProp 𝕄 :=
  iprop((dutyTok ER (barC (after c 1)) 0 false ∗ dutyTok ER (barC (after c 15)) 0 true)
    ∗ (bigSep (Finset.range 64) fun k => dutyTok ER (sC c k) 0 false) ∗ bigSep (Finset.range 64) fun k => dutyTok ER (rC (peer c k) k) 0 false)

/-- The rights to pay, sorted by the device whose cell is paid. -/
theorem toks_at : bigSep toks (fun x => (dutyTok ER x.1 x.2.1 x.2.2 : sProp 𝕄)) = bigSep Finset.univ fun c : Dev nD => tokAt c := by
  unfold toks
  rw [bigSep_map, bigSep_univ_prod]
  refine bigSep_congr fun c _ => ?_
  unfold tokAt
  rw [bigSep_univ_sum, bigSep_univ_eq_bigSepL [false, true] (by decide) (by decide), bigSepL_cons_cons, bigSepL_singleton, ← bigSep_sep']
  exact congrArg (fun X : sProp 𝕄 => iprop((dutyTok ER (barC c) 0 false ∗ dutyTok ER (barC c) 0 true) ∗ X))
    (fam_own fun s => (dutyTok ER ((c : Thread nD τ), s) 0 false : sProp 𝕄))

/-- Every token is handed to the device that pays its duty. -/
theorem toks_by : (bigSep Finset.univ fun c : Dev nD => (tokAt c : sProp 𝕄)) ⊢ bigSep Finset.univ fun c : Dev nD => tokBy c := by
  have hr : (bigSep Finset.univ fun c : Dev nD => bigSep (Finset.range 64) fun k => (dutyTok ER (rC c k) 0 false : sProp 𝕄))
      = bigSep Finset.univ fun c : Dev nD => bigSep (Finset.range 64) fun k => (dutyTok ER (rC (peer c k) k) 0 false : sProp 𝕄) := by
    rw [fam_swap, fam_swap 64 fun c k => (dutyTok ER (rC (peer c k) k) 0 false : sProp 𝕄)]
    refine bigSep_congr fun k _ => ?_
    rw [bigSep_univ_equiv (peerE k) (fun c : Dev nD => (dutyTok ER (rC c k) 0 false : sProp 𝕄))]
    exact bigSep_congr fun c _ => by rw [peerE_apply]
  unfold tokAt tokBy
  rw [bigSep_sep', bigSep_sep', bigSep_sep', bigSep_sep', bigSep_sep', bigSep_sep', hr,
    bigSep_univ_equiv turn (fun c : Dev nD => (dutyTok ER (barC c) 0 false : sProp 𝕄)),
    bigSep_univ_equiv turn.symm (fun c : Dev nD => (dutyTok ER (barC c) 0 true : sProp 𝕄))]
  exact BI.Entails.refl _

/-! ## The credits of the launch -/

/-- The right to wait for hop `k` to device `c`. -/
def due (c : Dev nD) (k : ℕ) : sProp 𝕄 := if used k = true then cred (tallyAt (rC c k) () N) else iprop(emp)

/-- No hop owes anything at a barrier cell. -/
theorem Ow_bar (d : Dev nD) (g : Dev nD) : Ow d 0 (barC g) () = 0 := by
  by_contra h
  obtain ⟨k, -, -, -, e⟩ := Ow_pos (Nat.pos_of_ne_zero h)
  have e : SemLoc.reg barS = SemLoc.dma (rS k) := congrArg Prod.snd e
  cases e

/-- A barrier cell is owed a unit by each of the two neighbours, and nothing by others. -/
theorem owed_bar (d c : Dev nD) : O₀ d (barC c) () = (if d = after c 15 then 1 else 0) + if d = after c 1 then 1 else 0 := by
  have e1 (n : Dev nD) : (barC c = barC n ∧ () = ()) ↔ c = n :=
    ⟨fun h => congrArg (fun g : GSem nD τ sig => g.1.1) h.1, fun h => ⟨by rw [h], rfl⟩⟩
  have e2 : c = after d 1 ↔ d = after c 15 := ⟨fun h => by rw [h, after_left_right], fun h => by rw [h, after_right_left]⟩
  have e3 : c = after d 15 ↔ d = after c 1 := ⟨fun h => by rw [h, after_right_left], fun h => by rw [h, after_left_right]⟩
  unfold O₀ O₁
  rw [Pi.add_apply, Finsupp.add_apply, Pi.add_apply, Finsupp.add_apply, tallyAt_apply, tallyAt_apply, Ow_bar, Nat.zero_add]
  exact congrArg₂ (· + ·) (if_congr ((e1 _).trans e2) rfl rfl) (if_congr ((e1 _).trans e3) rfl rfl)

/-- A receive cell of hop `k` is owed a sub-block's credit by the device whose hop `k` comes to it, and nothing by others. -/
theorem owed_recv (d c : Dev nD) {k : ℕ} (hk : k < 64) (hu : used k = true) : O₀ d (rC c k) () = if d = (peerE k).symm c then N else 0 := by
  have hb (n : Dev nD) : ¬ (rC c k = barC n ∧ () = ()) := fun h => by
    have e : SemLoc.dma (rS k) = SemLoc.reg barS := congrArg Prod.snd h.1
    cases e
  unfold O₀ O₁ Ow
  rw [Pi.add_apply, Finsupp.add_apply, Pi.add_apply, Finsupp.add_apply, tallyAt_apply, tallyAt_apply, if_neg (hb _), if_neg (hb _), Nat.add_zero,
    sum_tally, Finset.sum_eq_single k]
  · rw [tallyAt_apply]
    have e : (rC c k = rC (peer d k) k ∧ () = ()) ↔ d = (peerE k).symm c :=
      ⟨fun h => by
          rw [show c = peer d k from congrArg (fun g : GSem nD τ sig => g.1.1) h.1, ← peerE_apply, Equiv.symm_apply_apply],
        fun h => ⟨by rw [h, ← peerE_apply, Equiv.apply_symm_apply], rfl⟩⟩
    exact if_congr e rfl rfl
  · intro j hj hne
    rw [tallyAt_apply, if_neg]
    rintro ⟨h, -⟩
    have e : rI k = rI j := own_inj (SemLoc.dma.inj (congrArg Prod.snd h))
    exact hne (rI_on (Finset.mem_coe.mpr (Finset.mem_range.mpr (Finset.mem_range.mp (Finset.mem_filter.mp hj).1))) (Finset.mem_coe.mpr (Finset.mem_range.mpr hk)) e.symm)
  · intro h
    exact absurd (Finset.mem_filter.mpr ⟨Finset.mem_range.mpr hk, hu, Nat.zero_le k⟩) h

/-- At launch a device is credited two units at its barrier cell. -/
theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (after c 15) fun _ => 1, Finset.sum_ite_eq' Finset.univ (after c 1) fun _ => 1, if_pos (Finset.mem_univ _), if_pos (Finset.mem_univ _)]
/-- At launch a device is credited a sub-block's credit at the receive cell of each hop that is run. -/
theorem launch_recv (c : Dev nD) {k : ℕ} (hk : k < 64) (hu : used k = true) :
    tallyOn (rC c k) (launchCredit (Pipeline.owing O₀) 0 (rC c k)) = (tallyAt (rC c k) () N : CellTallies nD τ sig Unit) := by
  unfold tallyAt; refine congrArg _ (Finsupp.ext fun u => ?_); cases u
  rw [Pipeline.launchCredit_owing, Finsupp.single_eq_same, Finset.sum_congr rfl fun d _ => owed_recv d c hk hu,
    Finset.sum_ite_eq' Finset.univ ((peerE k).symm c) fun _ => N, if_pos (Finset.mem_univ _)]

/-- What a device is credited at launch holds two units at its barrier cell, and a sub-block's at the receive cell of every hop. -/
theorem credits (c : Dev nD) :
    (Pipeline.launchCred O₀ c : sProp 𝕄) ⊢ iprop(cred (tallyAt (barC c) () 2) ∗ bigSep (Finset.range 64) (due c)) := by
  unfold Pipeline.launchCred
  rw [bigSep_univ_at _ (SemLoc.reg barS), launch_bar]
  refine sep_mono_right ?_
  have hin : Set.InjOn (fun k => SemLoc.dma (rS k) : ℕ → SemLoc sig) (((Finset.range 64).filter fun k => used k = true : Finset ℕ) : Set ℕ) := fun i hi j hj h =>
    rI_on (Finset.mem_coe.mpr (Finset.mem_filter.mp hi).1) (Finset.mem_coe.mpr (Finset.mem_filter.mp hj).1) (own_inj (SemLoc.dma.inj h))
  have hsub : ((Finset.range 64).filter fun k => used k = true).image (fun k => (SemLoc.dma (rS k) : SemLoc sig)) ⊆ Finset.univ.erase (SemLoc.reg barS) := fun s hs => by
    obtain ⟨k, -, rfl⟩ := Finset.mem_image.mp hs
    exact Finset.mem_erase.mpr ⟨(fun e => by cases e), Finset.mem_univ _⟩
  refine (bigSep_subset hsub).trans ?_
  rw [bigSep_image_of_injOn hin]
  have e : (bigSep (Finset.range 64) (due c) : sProp 𝕄) = bigSep ((Finset.range 64).filter fun k => used k = true) fun k => cred (tallyAt (rC c k) () N) :=
    (bigSep_filter _ _ _).symm
  rw [e]
  refine bigSep_mono fun k hk => ?_
  rw [launch_recv c (Finset.mem_range.mp (Finset.mem_filter.mp hk).1) (Finset.mem_filter.mp hk).2]
  exact BI.Entails.refl _

/-! ## Opening the kernel's own cells -/

/-- What stays with device `c` of the launch. -/
def keepsake (c : Dev nD) : sProp 𝕄 :=
  iprop(atPos ER (barC c) 0 ∅ 0 ∗ (bigSep (Finset.range 64) fun k => iprop(openTok ER (sC c k) ∗ openTok ER (rC c k))) ∗ tokBy c)
/-- What device `c` brings to the kernel. -/
def Tk (c : Dev nD) : sProp 𝕄 :=
  iprop(∃ K, records m K ∗ keepsake c ∗ cred (tallyAt (barC c) () 2) ∗ bigSep (Finset.range 64) (due c))
/-- What it has of it once its cells are open. -/
def Xk (c : Dev nD) : sProp 𝕄 :=
  iprop(∃ K, records m K ∗ levAts L lv ∗ atPos ER (barC c) 0 ∅ 0 ∗ cred (tallyAt (barC c) () 2)
    ∗ (dutyTok ER (barC (after c 1)) 0 false ∗ dutyTok ER (barC (after c 15)) 0 true)
    ∗ bigSep (Finset.range 64) (hop0 c) ∗ bigSep (Finset.range 64) (recvRes c 0) ∗ bigSep (Finset.range 64) (met c))

/-- The two cells of one hop, opened. -/
theorem open_one (K : GSem nD τ sig → ℕ) (c : Dev nD) (k : ℕ) :
    iprop(records m K ∗ ((openTok ER (sC c k) ∗ openTok ER (rC c k)) ∗ dutyTok ER (sC c k) 0 false ∗ dutyTok ER (rC (peer c k) k) 0 false
      ∗ due c k ∗ semVal (sC c k) 0 ∗ semVal (rC c k) 0))
      ⊢ (|={Set.univ}=> iprop(hop0 c k ∗ recvRes c 0 k ∗ met c k) : sProp 𝕄) := by
  by_cases hu : used k = true
  · rw [recvRes_due hu (Nat.zero_le _)]
    unfold hop0 met due
    rw [if_pos hu, if_pos hu, if_pos hu]
    iintro ⟨#HR, ⟨Ho, Ho'⟩, Ht, Ht', Hc, Hs, Hr⟩
    imod (Rounds.cell_open ER (ringRd m) (g := sC c k) (Set.mem_univ (K (sC c k)))) $$ [Ho Hs] with ⟨Hat, #Hr1⟩
    · isplitr; · iapply (records_own m K c (sI k)); iexact HR
      isplitl [Ho] <;> iassumption
    imod (Rounds.cell_open ER (ringRd m) (g := rC c k) (Set.mem_univ (K (rC c k)))) $$ [Ho' Hr] with ⟨Hat', #Hr2⟩
    · isplitr; · iapply (records_own m K c (rI k)); iexact HR
      isplitl [Ho'] <;> iassumption
    imodintro
    isplitl [Ht Ht' Hat]
    · isplitl [Ht]; · iexact Ht
      isplitr; · iexact Hr1
      isplitl [Ht'] <;> iassumption
    isplitl [Hc Hat']
    · isplitl [Hc] <;> iassumption
    iexact Hr2
  · rw [recvRes_come (fun h => absurd h hu)]
    unfold hop0 met
    rw [if_neg hu, if_neg hu]
    iintro ⟨-, -, -, -, -, Hs, Hr⟩
    imodintro
    isplitl [Hs]; · iexact Hs
    isplitl [Hr]; · iexact Hr
    iempintro

/-- All of a device's own cells, opened. -/
theorem open_all (c : Dev nD) : iprop(Tk m c ∗ Pipeline.ownSems0 osem c ∗ levAts L lv) ⊢ (|={Set.univ}=> Xk m c : sProp 𝕄) := by
  have hs : (Pipeline.ownSems0 osem c : sProp 𝕄) = bigSep (Finset.range 64) fun k => iprop(semVal (sC c k) 0 ∗ semVal (rC c k) 0) := by
    unfold Pipeline.ownSems0
    exact fam_own fun s => (semVal ((c : Thread nD τ), s) 0 : sProp 𝕄)
  have hall (K : GSem nD τ sig → ℕ) : iprop(records m K ∗ ((bigSep (Finset.range 64) fun k => iprop(openTok ER (sC c k) ∗ openTok ER (rC c k)))
      ∗ (bigSep (Finset.range 64) fun k => dutyTok ER (sC c k) 0 false) ∗ (bigSep (Finset.range 64) fun k => dutyTok ER (rC (peer c k) k) 0 false)
      ∗ bigSep (Finset.range 64) (due c) ∗ bigSep (Finset.range 64) fun k => iprop(semVal (sC c k) 0 ∗ semVal (rC c k) 0)))
      ⊢ (|={Set.univ}=> iprop(bigSep (Finset.range 64) (hop0 c) ∗ bigSep (Finset.range 64) (recvRes c 0) ∗ bigSep (Finset.range 64) (met c)) : sProp 𝕄) := by
    rw [← bigSep_sep' (Finset.range 64) (due c), ← bigSep_sep', ← bigSep_sep', ← bigSep_sep', ← bigSep_sep', ← bigSep_sep']
    exact (bigSep_with_persistent (R := records m K) fun k _ => open_one m K c k).trans (bigSep_fupd _ _)
  rw [hs]
  unfold Tk Xk keepsake tokBy
  iintro ⟨⟨%K, #HR, ⟨Hat, Hop, Hb, Ht, Ht'⟩, Hc, Hd⟩, Hs, #Hlev⟩
  imod (hall K) $$ [Hop Ht Ht' Hd Hs] with ⟨H1, H2, H3⟩
  · isplitr; · iexact HR
    isplitl [Hop]; · iexact Hop
    isplitl [Ht]; · iexact Ht
    isplitl [Ht']; · iexact Ht'
    isplitl [Hd] <;> iassumption
  imodintro
  iexists K
  isplitr; · iexact HR
  isplitr; · iexact Hlev
  isplitl [Hat]; · iexact Hat
  isplitl [Hc]; · iexact Hc
  isplitl [Hb]; · iexact Hb
  isplitl [H1]; · iexact H1
  isplitl [H2] <;> iassumption

end Cert.KernelIdeal.RingProof
-- ==== Proof.Point.lean ====
/-
The one point of the region: what the kernel finds, and what it leaves.
-/
module

public import proofs.«01_k».proof.Proof.Deal

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the region is entered and left with -/

/-- The three scratch buffers, at any contents. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ ∃ f : Buf (Elt F) ((c : Thread nD τ).loc cc0_scratch2), (c : Thread nD τ).loc cc0_scratch2 ↦{fullShare} f)
/-- What the call's one point starts from, beside the staged blocks. -/
def Φin (c : Dev nD) : sProp 𝕄 := iprop(Xk m c ∗ scratch c ∗ ∃ r, prngReg c r)
/-- What it leaves. -/
def Φout (c : Dev nD) : sProp 𝕄 :=
  iprop(semVal (barC c) 0 ∗ (bigSep (Finset.range 64) fun k => iprop(semVal (sC c k) 0 ∗ semVal (rC c k) 0)) ∗ scratch c ∗ ∃ r, prngReg c r)

/-- The proof data of the region: what each staged array holds before and after, and what is owed. -/
def dats (_ : Fin 1) (c : Dev nD) : Dat τ (Elt F) Unit ℕ UU ℕ cfg0 c where
  A w := V m c (Pipeline.arrRef spec0 w)
  after w _ := match w with
    | ⟨0, _⟩ => xC m c
    | ⟨1, _⟩ => wC m c
    | ⟨2, _⟩ => sxC m c
    | ⟨3, _⟩ => swC m c
    | ⟨4, _⟩ => hamC m c
    | ⟨5, _⟩ => posC m c
    | ⟨6, _⟩ => outG m c
  Φ t := match t with
    | ⟨0, _⟩ => Φin m c
    | ⟨_ + 1, _⟩ => Φout c
  q _ := fullShare
  owed t := match t with
    | ⟨0, _⟩ => O₀ c
    | ⟨_ + 1, _⟩ => 0

/-- The point holds its staged blocks whole. -/
theorem share_eq (c : Dev nD) (w : Fin cfg0.W) : (dats m 0 c).share w = fullShare := by unfold Dat.share; split <;> rfl

/-- The seven windows, one by one. -/
theorem bigSep_win (Φ : Fin cfg0.W → sProp 𝕄) : bigSep Finset.univ Φ
    = iprop(Φ (0 : Fin 7) ∗ Φ (1 : Fin 7) ∗ Φ (2 : Fin 7) ∗ Φ (3 : Fin 7) ∗ Φ (4 : Fin 7) ∗ Φ (5 : Fin 7) ∗ Φ (6 : Fin 7)) := bigSep_W0 Φ

/-- The first window is staged with the device's rows of `x`; -/
theorem before_x (c : Dev nD) (d) : (dats m 0 c).before (0 : Fin 7) t0_0 d = xC m c :=
  ((dats m 0 c).before_fetched (0 : Fin 7) t0_0 (fetch0_0 t0_0) d).trans rfl
/-- the second with its columns of the weights, -/
theorem before_w (c : Dev nD) (d) : (dats m 0 c).before (1 : Fin 7) t0_0 d = wC m c :=
  ((dats m 0 c).before_fetched (1 : Fin 7) t0_0 (fetch0_1 t0_0) d).trans rfl
/-- the third with the scale of `x`, -/
theorem before_sx (c : Dev nD) (d) : (dats m 0 c).before (2 : Fin 7) t0_0 d = sxC m c :=
  ((dats m 0 c).before_fetched (2 : Fin 7) t0_0 (fetch0_2 t0_0) d).trans rfl
/-- the fourth with the scale of the weights, -/
theorem before_sw (c : Dev nD) (d) : (dats m 0 c).before (3 : Fin 7) t0_0 d = swC m c :=
  ((dats m 0 c).before_fetched (3 : Fin 7) t0_0 (fetch0_3 t0_0) d).trans rfl
/-- the fifth with the cycle's table, -/
theorem before_ham (c : Dev nD) (d) : (dats m 0 c).before (4 : Fin 7) t0_0 d = hamC m c :=
  ((dats m 0 c).before_fetched (4 : Fin 7) t0_0 (fetch0_4 t0_0) d).trans rfl
/-- and the sixth with the table of places. -/
theorem before_pos (c : Dev nD) (d) : (dats m 0 c).before (5 : Fin 7) t0_0 d = posC m c :=
  ((dats m 0 c).before_fetched (5 : Fin 7) t0_0 (fetch0_5 t0_0) d).trans rfl

/-- What the point is entered with, and left with. -/
def bodyPre (c : Dev nD) : sProp 𝕄 := iprop(Φin m c ∗ (dats m 0 c).owesAt () t0_0.castSucc
    ∗ (∃ d, owns (c : Thread nD τ) xM fullShare ((dats m 0 c).before (0 : Fin 7) t0_0 d))
    ∗ (∃ d, owns (c : Thread nD τ) wM fullShare ((dats m 0 c).before (1 : Fin 7) t0_0 d))
    ∗ (∃ d, owns (c : Thread nD τ) sxM fullShare ((dats m 0 c).before (2 : Fin 7) t0_0 d))
    ∗ (∃ d, owns (c : Thread nD τ) swM fullShare ((dats m 0 c).before (3 : Fin 7) t0_0 d))
    ∗ (∃ d, owns (c : Thread nD τ) hamM fullShare ((dats m 0 c).before (4 : Fin 7) t0_0 d))
    ∗ (∃ d, owns (c : Thread nD τ) posM fullShare ((dats m 0 c).before (5 : Fin 7) t0_0 d))
    ∗ (∃ d, owns (c : Thread nD τ) oM fullShare ((dats m 0 c).before (6 : Fin 7) t0_0 d)))
/-- What the body leaves at the point. -/
def bodyPost (c : Dev nD) : sProp 𝕄 := iprop(Φout c ∗ (dats m 0 c).owesAt () t0_0.succ
    ∗ owns (c : Thread nD τ) xM fullShare (xC m c) ∗ owns (c : Thread nD τ) wM fullShare (wC m c)
    ∗ owns (c : Thread nD τ) sxM fullShare (sxC m c) ∗ owns (c : Thread nD τ) swM fullShare (swC m c)
    ∗ owns (c : Thread nD τ) hamM fullShare (hamC m c) ∗ owns (c : Thread nD τ) posM fullShare (posC m c)
    ∗ owns (c : Thread nD τ) oM fullShare (outG m c))

/-- The copy of the weights, before it is written. -/
theorem wq_in (c : Dev nD) : iprop(∃ f : Buf (Elt F) ((c : Thread nD τ).loc cc0_scratch2), (c : Thread nD τ).loc cc0_scratch2 ↦{fullShare} f)
    ⊢ (wqRes m c false : sProp 𝕄) := by
  unfold wqRes owns
  rw [show (wqM : Memref sig .tc .vmem S4096x512 .fp8e5m2).view.set = Finset.univ from View.set_whole _]
  iintro ⟨%f, H⟩
  iexists (wqM.view.read (Elt F) f)
  isplitr; · ipureintro; exact fun h => Bool.noConfusion h
  iexists f
  isplitr; · ipureintro; rfl
  iexact H
/-- The copy of the weights is given back. -/
theorem wq_out (c : Dev nD) (b : Bool) : (wqRes m c b : sProp 𝕄)
    ⊢ iprop(∃ f : Buf (Elt F) ((c : Thread nD τ).loc cc0_scratch2), (c : Thread nD τ).loc cc0_scratch2 ↦{fullShare} f) := by
  unfold wqRes owns
  rw [show (wqM : Memref sig .tc .vmem S4096x512 .fp8e5m2).view.set = Finset.univ from View.set_whole _]
  iintro ⟨%X, -, %f, -, H⟩
  iexists f
  iexact H

/-- What the body is given is what stands before the first signal. -/
theorem enter (c : Dev nD) : bodyPre m c ⊢ (iprop((∃ K, M0 m c K) ∗ ∃ r, prngReg c r) : sProp 𝕄) := by
  unfold bodyPre Φin Xk scratch Dat.owesAt Pipeline.owesWithin
  rw [show (dats m 0 c).owed t0_0.castSucc = O₀ c from rfl]
  iintro ⟨⟨⟨%K, #HR, #Hlev, Hat, Hcr, ⟨Hb1, Hb2⟩, Hh, Hr, Hm⟩, ⟨Hs0, Hs1, Hs2⟩, Hp⟩, ⟨%W, -, HO⟩, ⟨%d0, H0⟩, ⟨%d1, H1⟩, ⟨%d2, H2⟩, ⟨%d3, H3⟩, ⟨%d4, H4⟩, ⟨%d5, H5⟩, ⟨%d6, H6⟩⟩
  rw [before_x, before_w, before_sx, before_sw, before_ham, before_pos]
  ihave Hs := (slots_cut c) $$ [Hs0 Hs1]
  · isplitl [Hs0] <;> iassumption
  ihave Hs := (deal m c) $$ [Hs Hm]
  · isplitl [Hs] <;> iassumption
  icases Hs with ⟨Hp1, Hp2, Hs⟩
  isplitr [Hp]
  · iexists K
    unfold M0 Rest
    isplitr [HO Hb1 Hb2 Hp1 Hp2]
    · isplitr; · iexact HR
      isplitr; · iexact Hlev
      isplitl [H0 H1 H2 H3 H4 H5]
      · unfold inputs
        isplitl [H0]; · iexact H0
        isplitl [H1]; · iexact H1
        isplitl [H2]; · iexact H2
        isplitl [H3]; · iexact H3
        isplitl [H4] <;> iassumption
      isplitl [Hs2]; · iapply (wq_in m c); iexact Hs2
      isplitl [H6]
      · unfold outRes
        iexists ((dats m 0 c).before (6 : Fin 7) t0_0 d6)
        isplitr
        · ipureintro; exact fun j hj => absurd hj (Nat.not_lt_zero j)
        iexact H6
      isplitl [Hat]; · iexact Hat
      isplitl [Hcr]; · iexact Hcr
      isplitl [Hh]; · iexact Hh
      isplitl [Hr] <;> iassumption
    isplitl [HO]; · iexists W; iexact HO
    isplitl [Hb2 Hp1]
    · isplitl [Hb2] <;> iassumption
    isplitl [Hb1] <;> iassumption
  iexact Hp

/-- What stands after the last hop has left is what the body is to leave. -/
theorem leave (c : Dev nD) (K : GSem nD τ sig → ℕ) : iprop(St m c K 72 64 64 72 true ∗ ∃ r, prngReg c r) ⊢ (bodyPost m c : sProp 𝕄) := by
  unfold St inputs outRes bodyPost Φout scratch Dat.owesAt Pipeline.owesWithin
  rw [show (dats m 0 c).owed t0_0.succ = 0 from rfl, Ow_end c]
  iintro ⟨⟨-, -, ⟨%W, HO⟩, ⟨H0, H1, H2, H3, H4, H5⟩, Hwq, ⟨%f, %hf, H6⟩, Hh, Hr, Hs, Hb⟩, Hp⟩
  rw [Done_end m c hf]
  ihave Hs := (slots_end m c) $$ Hs
  ihave Hs := (slots_join c (m ((c : Thread nD τ).loc cc0_scratch0)) (m ((c : Thread nD τ).loc cc0_scratch1))) $$ Hs
  icases Hs with ⟨Hs0, Hs1⟩
  ihave Hw := (wq_out m c true) $$ Hwq
  ihave Hh := (hops_end c) $$ Hh
  ihave Hr := (recvs_end c) $$ Hr
  isplitl [Hb Hh Hr Hs0 Hs1 Hw Hp]
  · isplitl [Hb]; · iexact Hb
    isplitl [Hh Hr]
    · rw [bigSep_sep']
      isplitl [Hh] <;> iassumption
    isplitr [Hp]
    · isplitl [Hs0]; · iexact Hs0
      isplitl [Hs1] <;> iassumption
    iexact Hp
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5] <;> iassumption

/-- What a run does not use it leaves. -/
theorem Does.framed {c : Dev nD} {α : Type} {P : sProp 𝕄} {p : Prog (TpuEff nD τ sig (Elt F) Λ₀ .tc) α} {Q : α → sProp 𝕄} (h : Does c P p Q) (R : sProp 𝕄) :
    Does c iprop(P ∗ R) p fun a => iprop(Q a ∗ R) := by
  unfold Does
  exact (sep_mono_left h).trans (wp_frame_r _ _ _)

/-- The kernel, from what the point is entered with to what it is left with. -/
theorem body_runs (c : Dev nD) : Does c (bodyPre m c)
    (cc0_body (F := F) xM (Memref.isWhole_whole _) wM (Memref.isWhole_whole _) sxM (Memref.isWhole_whole _) swM (Memref.isWhole_whole _) hamM (Memref.isWhole_whole _) posM (Memref.isWhole_whole _) oM (Memref.isWhole_whole _) rM (Memref.isWhole_whole _) lM (Memref.isWhole_whole _) wqM (Memref.isWhole_whole _) cc0_scratch3 cc0_scratch4 cc0_scratch5 cc0_scratch6)
    (fun _ => bodyPost m c) := by
  have h (K : GSem nD τ sig → ℕ) := Does.weaken (Does.framed (Does.body (m := m) (c := c) (K := K)) iprop(∃ r, prngReg c r)) (Q := fun _ => bodyPost m c) fun a => by
    unfold At
    iintro ⟨⟨-, H⟩, Hp⟩
    iapply (leave m c K)
    isplitl [H] <;> iassumption
  unfold Does
  iintro H
  ihave H := (enter m c) $$ H
  icases H with ⟨⟨%K, H⟩, Hp⟩
  iapply (Does.run (h K))
  isplitl [H] <;> iassumption

set_option maxRecDepth 4000 in
/-- The pipeline's obligation on the body. -/
theorem body_obligation (c : Dev nD) : BodyObligation (dats (F := F) m 0 c) (defs₀ (F := F)) 𝒱₀ () Set.univ := fun t => by
  rw [fin_N0 t]
  rw [bigSep_win, bigSep_win]
  exact Does.run (body_runs m c)

end Cert.KernelIdeal.RingProof
-- ==== Proof.Launch.lean ====
/-
  The kernel call as one step of the program, and the run of the whole program on the sixteen devices.
-/
module

public import Idealize.ShloMosaic.Lib.Pipeline.Regions
public import Idealize.ShloMosaic.Lib.Pipeline.RegionTalk
public import Idealize.ShloMosaic.Lib.Pipeline.Quiescent
public import proofs.«01_k».proof.Proof.Point

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region, as one step of the program -/

/-- The one call has no scalar tables to be given. -/
def adm : (p : Fin 1) → (pcfgs (F := F) p).Adm := fun p => (cfgs p).toPCfg_adm

/-- The call's proof data. -/
def pdats : (p : Fin 1) → (c : Dev nD) → Dat τ (Elt F) Unit ℕ UU ℕ (Pipeline.pin (pcfgs (F := F)) adm p) c := dats m

/-- What the launch needs of the call's windows, semaphores and buffers. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What a device's buffers hold at the start. -/
abbrev V₀ (c : Dev nD) : Valuation τ sig (Elt F) := fun b => m (c, b)
/-- What they hold when the call starts, the two tables written. -/
abbrev V₁ (c : Dev nD) : Valuation τ sig (Elt F) := StableHlo.after hostOps0 (V₀ m c)
/-- What they hold when the call has ended: the result array changed, nothing else. -/
def V₂ (c : Dev nD) : Valuation τ sig (Elt F) :=
  Function.update (V₁ m c) (Proc.devRef (τ := τ) .tc main_v1) ((pdats m 0 c).arrAt (6 : Fin 7) cfg0.N)

/-- The call stages every buffer that outlives it. -/
theorem refs_eq : Pipeline.arrRefs (τ := τ) spec0 = Pipeline.ucRefs τ sig := by decide

/-- Each window's array holds after the call what the last contents say. -/
theorem V₂_arr (c : Dev nD) (w : Fin cfg0.W) :
    (pdats m 0 c).arrAt w cfg0.N = V₂ m c (Proc.devRef (τ := τ) .tc (Pipeline.arrRef spec0 w)) := by
  have hin : ∀ w : Fin 7, w ≠ 6 → (pdats m 0 c).arrAt w cfg0.N = V₁ m c (Proc.devRef (τ := τ) .tc (Pipeline.arrRef spec0 w)) := by
    intro w hw
    fin_cases w
    · exact (dats m 0 c).arrAt_in (0 : Fin 7) rfl _
    · exact (dats m 0 c).arrAt_in (1 : Fin 7) rfl _
    · exact (dats m 0 c).arrAt_in (2 : Fin 7) rfl _
    · exact (dats m 0 c).arrAt_in (3 : Fin 7) rfl _
    · exact (dats m 0 c).arrAt_in (4 : Fin 7) rfl _
    · exact (dats m 0 c).arrAt_in (5 : Fin 7) rfl _
    · exact absurd rfl hw
  by_cases h : w = (6 : Fin 7)
  · subst h; exact (Function.update_self (Proc.devRef (τ := τ) .tc main_v1) _ (V₁ m c)).symm
  · rw [hin w h]
    exact (Function.update_of_ne (by revert h; revert w; decide) _ _).symm

/-- Whatever a device owes in the call is owed at a cell that takes part, above level 0. -/
theorem cut (c : Dev nD) (t : Fin ((Pipeline.pin (pcfgs (F := F)) adm 0).N + 1)) (g : GSem nD τ sig) (i : Unit)
    (h : 0 < (pdats m 0 c).owed t g i) : i ∈ L g ∧ 0 < lv g i := by
  obtain ⟨_ | t, ht⟩ := t
  · obtain ⟨k, hk, rfl⟩ | rfl | rfl := O₀_pos h
    · exact ⟨by rw [L_tc]; exact Finset.mem_singleton_self _, by rw [lv_recv _ hk]; omega⟩
    · exact ⟨by rw [L_tc]; exact Finset.mem_singleton_self _, Nat.one_pos⟩
    · exact ⟨by rw [L_tc]; exact Finset.mem_singleton_self _, Nat.one_pos⟩
  · exact absurd h (Nat.lt_irrefl 0)

/-- No buffers, nothing held. -/
theorem held_none (c : Dev nD) (W : Valuation τ sig (Elt F)) :
    (StableHlo.held (c : Thread nD τ) ∅ W : sProp 𝕄) = BI.emp := bigSep_empty

/-- What the call is entered with is what its one point starts from. -/
theorem region_in (c : Dev nD) :
    iprop(Pipeline.scopedRest spec0 c ∗ (∃ r, prngReg c r) ∗ StableHlo.held (c : Thread nD τ) ∅ (V₁ m c) ∗ Xk m c)
      ⊢ ((pdats m 0 c).Φ 0 : sProp 𝕄) := by
  rw [show (pdats m 0 c).Φ 0 = Φin m c from rfl, scopedRest0_eq]
  unfold Φin scratch
  iintro ⟨Hs, Hp, -, HX⟩
  isplitl [HX]; · iexact HX
  isplitl [Hs] <;> iassumption

/-- The kernel's own counters at zero, sorted by hops. -/
theorem own_sems (c : Dev nD) : (Pipeline.ownSems0 osem c : sProp 𝕄)
    = bigSep (Finset.range 64) fun k => iprop(semVal (sC c k) 0 ∗ semVal (rC c k) 0) :=
  fam_own fun sm => semVal ((c : Thread nD τ), sm) 0

/-- What its one point leaves is what the call is left with. -/
theorem region_out (c : Dev nD) :
    ((pdats m 0 c).Φ (Fin.last (Pipeline.pin (pcfgs (F := F)) adm 0).N) : sProp 𝕄)
      ⊢ iprop(Pipeline.scopedRest spec0 c ∗ (∃ r, prngReg c r) ∗ StableHlo.held (c : Thread nD τ) ∅ (V₂ m c)
          ∗ Pipeline.ownSems0 osem c ∗ semVal (barC c) 0) := by
  rw [show (pdats m 0 c).Φ (Fin.last _) = Φout c from rfl, scopedRest0_eq, own_sems, held_none]
  unfold Φout scratch
  iintro ⟨Hb, Ho, Hs, Hp⟩
  isplitl [Hs]; · iexact Hs
  isplitl [Hp]; · iexact Hp
  isplitr; · iempintro
  isplitl [Ho] <;> iassumption

set_option backward.isDefEq.respectTransparency.types false in
/-- The kernel call as a step of the program: entered with `Tk` beside the arrays, left with the barrier counter at zero. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ ∅ (Finset.Subset.refl _) kitP rfl (fun c => (body_obligation m c).loose)
    (fun _ => 0) O₀ (fun c => (zero_add (O₀ c)).symm) (fun _ => rfl) (fun _ => rfl) (fun c w => share_eq m c w)
    (V₁ m) (V₂ m) (fun _ b hb => absurd hb (by rw [Finset.sdiff_self]; exact Finset.notMem_empty b))
    (Tk m) (fun c => semVal (barC c) 0) (Xk m) (fun c => semVal (barC c) 0) (open_all m) (region_in m) (region_out m)
    (fun c => by iintro H; imodintro; iexact H)
    (fun _ => 0)
    ⟨fun c w s => by rw [L_tc]; exact Finset.mem_singleton_self _,
      fun c w s => le_of_eq (by fin_cases w <;> fin_cases s <;> rfl),
      fun c t g i h => cut m c t g i h⟩
    (fun _ => iprop(emp))
    (fun c w => by fin_cases w <;> rfl) (fun c w => V₂_arr m c w)

/-! ## The program as its two steps -/

/-- The lines before the call, which write the two tables. -/
def consts : Pipeline.HostSeg (Ix := Unit) (Name := ℕ) (U := UU) (Lvl := ℕ) (pcfgs (F := F)) defs₀ 𝒱₀ L lv :=
  Pipeline.HostSeg.ofOps (Ix := Unit) (Name := ℕ) (U := UU) (Lvl := ℕ) _ _ _ _ _ (Pipeline.ucRefs τ sig) hostOps0
    (fun op h => Pipeline.sub_ucRefs op (List.forall_iff_forall_mem.mp hostOps0_sub op h))
    (List.forall_iff_forall_mem.mp hostOps0_fresh) (V₀ m) (fun c => iprop(Tk m c ∗ (∃ r, prngReg c r) ∗ ∃ Wd, owes (c : Thread nD τ) (O₀ c) Wd))

/-- The program: those lines, then the call. -/
def segs : List (Pipeline.Seg (pcfgs (F := F)) adm (pdats m) () defs₀ 𝒱₀ L lv) := [.host (consts m), .region (region m)]

/-- What stands after the lines is what the call is entered with. -/
theorem region_pre (c : Dev nD) :
    iprop(StableHlo.held (c : Thread nD τ) (Pipeline.ucRefs τ sig) (V₁ m c) ∗ Tk m c ∗ (∃ r, prngReg c r) ∗ ∃ Wd, owes (c : Thread nD τ) (O₀ c) Wd)
      ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ Tk m c ∗ ∃ Wd, owes (c : Thread nD τ) (0 + O₀ c) Wd)
  rw [refs_eq, zero_add, held_none]
  iintro ⟨Hh, HT, Hp, HO⟩
  isplitl [Hh]; · iexact Hh
  isplitl [Hp]; · iexact Hp
  isplitr
  · isplitr <;> iempintro
  isplitl [HT] <;> iassumption

/-- What each device ends with. -/
abbrev Tₙ (c : Dev nD) : sProp 𝕄 := iprop(StableHlo.held (c : Thread nD τ) (Pipeline.ucRefs τ sig) (V₂ m c) ∗ semVal (barC c) 0)

/-- What the call leaves is what each device ends with, nothing owed. -/
theorem region_post (c : Dev nD) :
    (region m).post c ⊢ iprop(Tₙ m c ∗ ∃ Wd, owes (c : Thread nD τ) (0 : CellTallies nD τ sig Unit) Wd) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ semVal (barC c) 0 ∗ ∃ Wd, owes (c : Thread nD τ) (0 : CellTallies nD τ sig Unit) Wd) ⊢ _
  rw [refs_eq]
  iintro ⟨Hh, -, -, Hb, HO⟩
  isplitr [HO]
  · isplitl [Hh] <;> iassumption
  iexact HO

/-! ## The start: every cell's invariant made, and everything dealt -/

/-- The element of the algebra the run starts from. -/
def u₀ : UU :=
  (initOf (Pipeline.cells (Pipeline.pin (pcfgs (F := F)) adm) cellOf_inj) (Pipeline.launchToks (Pipeline.pin (pcfgs (F := F)) adm) cellOf_inj),
    launchOf barCells ownCells toks)

/-- The ring's part of it, kept whole on device `0` until it is dealt. -/
def G (c : Dev nD) : sProp 𝕄 := if c = 0 then BI.own (ER (launchOf barCells ownCells toks)) else iprop(emp)
/-- Over all devices that is the ring's part. -/
theorem G_all : bigSep Finset.univ (G (F := F)) = BI.own (ER (launchOf barCells ownCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The barrier counters, sorted by devices. -/
theorem bar_vals : bigSep Finset.univ (fun c : Dev nD => (semVal (barC c) 0 : sProp 𝕄)) = bigSep barCells (fun g => (semVal g 0 : sProp 𝕄)) :=
  (bigSep_map (s := Finset.univ) barEmb (Φ := fun g : GSem nD τ sig => (semVal g 0 : sProp 𝕄))).symm
/-- The barrier cells' positions, sorted by devices. -/
theorem bar_pos : bigSep barCells (fun g => (atPos ER g 0 ∅ 0 : sProp 𝕄)) = bigSep Finset.univ (fun c : Dev nD => (atPos ER (barC c) 0 ∅ 0 : sProp 𝕄)) :=
  bigSep_map (s := Finset.univ) barEmb (Φ := fun g : GSem nD τ sig => (atPos ER g 0 ∅ 0 : sProp 𝕄))
/-- The rights to open the kernel's own cells, sorted by devices and hops. -/
theorem own_rights : bigSep ownCells (fun g => (openTok ER g : sProp 𝕄))
    = bigSep Finset.univ (fun c : Dev nD => bigSep (Finset.range 64) fun k => iprop(openTok ER (sC c k) ∗ openTok ER (rC c k))) := by
  rw [bigSep_map, bigSep_univ_prod]
  exact bigSep_congr fun c _ => fam_own fun sm => (openTok ER ((c : Thread nD τ), sm) : sProp 𝕄)

/-- What a device holds at the start beside the ring's ghost state. -/
def bundle (c : Dev nD) : sProp 𝕄 :=
  iprop(StableHlo.held (c : Thread nD τ) (Pipeline.ucRefs τ sig) (V₀ m c) ∗ (cred (tallyAt (barC c) () 2) ∗ bigSep (Finset.range 64) (due c))
    ∗ owes (c : Thread nD τ) (O₀ c) ∅ ∗ ∃ r, prngReg c r)

/-- What each device starts with. -/
abbrev T₀ (c : Dev nD) : sProp 𝕄 :=
  iprop(StableHlo.held (c : Thread nD τ) (Pipeline.ucRefs τ sig) (V₀ m c) ∗ Tk m c ∗ (∃ r, prngReg c r) ∗ ∃ Wd, owes (c : Thread nD τ) (O₀ c) Wd)

/-- With the records of all cells, what was dealt to a device is what it starts with. -/
theorem T₀_intro (K : GSem nD τ sig → ℕ) (c : Dev nD) : iprop(records m K ∗ (keepsake c ∗ bundle m c)) ⊢ T₀ m c := by
  unfold bundle T₀ Tk
  iintro ⟨#HR, Hk, Hh, ⟨Hc, Hd⟩, HO, Hp⟩
  isplitl [Hh]; · iexact Hh
  isplitl [Hk Hc Hd]
  · iexists K
    isplitr; · iexact HR
    isplitl [Hk]; · iexact Hk
    isplitl [Hc] <;> iassumption
  isplitl [Hp]; · iexact Hp
  iexists ∅; iexact HO

/-- The barrier semaphore is the only one that outlives the call. -/
theorem unscoped_eq : ∀ sm : SemLoc sig, sm.isScoped .tc = false → sm = .reg barS := by decide
/-- So a device's counters that outlive the call are its barrier's alone. -/
theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide, bigSep_singleton]

/-- From the launch every device gets what it starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) (Pipeline.ucRefs τ sig) (V₀ m c) from
      Pipeline.unscopedBufs_held c (V₀ m c), unscopedSems_eq]
    unfold bundle
    iintro ⟨Hh, Hus, HO, Hcr, Hp, HG⟩
    ihave Hc := (credits (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (Entails.of_eq (bigSep_sep' Finset.univ (bundle m) fun c : Dev nD => iprop(semVal (barC c) 0 ∗ G c))) $$ H'; icases H2 with ⟨HB, H3⟩
  ihave H4 := (Entails.of_eq (bigSep_sep' Finset.univ (fun c : Dev nD => (semVal (barC c) 0 : sProp 𝕄)) G)) $$ H3; icases H4 with ⟨Hv, HG⟩
  ihave Hu := (Entails.of_eq (G_all (F := F))) $$ HG
  imod (Rounds.fund_launch ER (ringRd m) cells_apart (fun g _ h => h) toks) $$ [Hv Hu] with ⟨%K, -, #Hinv, #Hr, Hat, Hopen, Htok⟩
  · isplitl [Hv]
    · iapply (Entails.of_eq (bar_vals (F := F))) $$ Hv
    · iexact Hu
  imodintro
  iapply (bigSep_with_persistent (R := records m K) (Φ := fun c => iprop(keepsake c ∗ bundle m c)) fun c _ => T₀_intro m K c)
  isplitr
  · unfold records
    isplitr; · iexact Hinv
    iexact Hr
  rw [bigSep_sep']
  isplitr [HB]
  · unfold keepsake
    rw [bigSep_sep', bigSep_sep']
    isplitl [Hat]; · iapply (Entails.of_eq (bar_pos (F := F))) $$ Hat
    isplitl [Hopen]; · iapply (Entails.of_eq (own_rights (F := F))) $$ Hopen
    iapply (toks_by (F := F))
    iapply (Entails.of_eq (toks_at (F := F))) $$ Htok
  · iexact HB

/-! ## The run -/

/-- What is read off a device's memory at the end: its four arguments and its result. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.mem ((c : Thread nD τ).loc main_v1) = (pdats m 0 c).arrAt (6 : Fin 7) cfg0.N

/-- At the end the first argument is as it was; -/
theorem V₂_arg0 (c : Dev nD) : V₂ m c (Proc.devRef (τ := τ) .tc main_arg0) = m ((c : Thread nD τ).loc main_arg0) :=
  (Function.update_of_ne (by decide) _ _).trans (V_main_arg0 m c)
/-- so is the second, -/
theorem V₂_arg1 (c : Dev nD) : V₂ m c (Proc.devRef (τ := τ) .tc main_arg1) = m ((c : Thread nD τ).loc main_arg1) :=
  (Function.update_of_ne (by decide) _ _).trans (V_main_arg1 m c)
/-- the third, -/
theorem V₂_arg2 (c : Dev nD) : V₂ m c (Proc.devRef (τ := τ) .tc main_arg2) = m ((c : Thread nD τ).loc main_arg2) :=
  (Function.update_of_ne (by decide) _ _).trans (V_main_arg2 m c)
/-- and the fourth. -/
theorem V₂_arg3 (c : Dev nD) : V₂ m c (Proc.devRef (τ := τ) .tc main_arg3) = m ((c : Thread nD τ).loc main_arg3) :=
  (Function.update_of_ne (by decide) _ _).trans (V_main_arg3 m c)
/-- The result array holds what the call left in it. -/
theorem V₂_v1 (c : Dev nD) : V₂ m c (Proc.devRef (τ := τ) .tc main_v1) = (pdats m 0 c).arrAt (6 : Fin 7) cfg0.N :=
  Function.update_self _ _ _

/-- One buffer, whole, with the contents that `W` gives it. -/
abbrev pt (c : Dev nD) (W : Valuation τ sig (Elt F)) (b : Ref sig .tc) : sProp 𝕄 :=
  (c : Thread nD τ).loc b ↦{fullShare} (W (Proc.devRef (τ := τ) .tc b))

/-- Of the buffers held, the arguments and the result. -/
theorem held_all (c : Dev nD) (W : Valuation τ sig (Elt F)) : (StableHlo.held (c : Thread nD τ) (Pipeline.ucRefs τ sig) W : sProp 𝕄)
    ⊢ iprop(pt c W main_arg0 ∗ pt c W main_arg1 ∗ pt c W main_arg2 ∗ pt c W main_arg3 ∗ pt c W main_v1) := by
  unfold StableHlo.held
  rw [show Pipeline.ucRefs τ sig = ([main_arg0, main_arg1, main_arg2, main_arg3, main_v1, main_c, main_c_0].map (Proc.devRef (τ := τ) .tc)).toFinset from by decide,
    bigSep_eq_bigSepL_of_eq _ rfl (by decide)]
  show iprop(pt c W main_arg0 ∗ pt c W main_arg1 ∗ pt c W main_arg2 ∗ pt c W main_arg3 ∗ pt c W main_v1 ∗ pt c W main_c ∗ pt c W main_c_0) ⊢ _
  iintro ⟨H0, H1, H2, H3, H4, -⟩
  isplitl [H0]; · iexact H0
  isplitl [H1]; · iexact H1
  isplitl [H2]; · iexact H2
  isplitl [H3] <;> iassumption

set_option backward.isDefEq.respectTransparency.types false in
/-- From any memory with every counter at zero, every fair run of the program on the sixteen devices ends, with
    every device's four arguments unchanged, its result what the kernel's region left, and every counter back at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (consts m) (region m) rfl c]; rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => region_pre m c, fun c => region_post m c⟩)
    (hinit := init m ρ)
    (QY := fun c s => Ends m c s ∧ s.sem (barC c) = 0)
    (hfin := fun c s' => by
      iintro ⟨⟨Hh, Hb⟩, HSI⟩
      ihave Hh' := (held_all c (V₂ m c)) $$ Hh
      icases Hh' with ⟨H0, H1, H2, H3, H4⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨⟨(Buf.eq_of_forall_mem_univ h0).trans (V₂_arg0 m c), (Buf.eq_of_forall_mem_univ h1).trans (V₂_arg1 m c),
          (Buf.eq_of_forall_mem_univ h2).trans (V₂_arg2 m c), (Buf.eq_of_forall_mem_univ h3).trans (V₂_arg3 m c)⟩,
          (Buf.eq_of_forall_mem_univ h4).trans (V₂_v1 m c)⟩, by simpa using hb⟩
      iexact HSI)
    (hQ := fun s h hs => ⟨fun c => (h c).1, sem_eq_zero hs fun c sm hsm => by
      obtain rfl := unscoped_eq sm hsm
      exact (h c).2⟩)

end Cert.KernelIdeal.RingProof
-- ==== Proof.RefValue.lean ====
/-
What the reference computes: the product of its first two arguments, scaled by the product of the two scalars.
-/
module

public import proofs.«01_k».proof.Defs
public import proofs.«01_k».proof.Proof.Gen.ReferenceIdeal.Value
public import Idealize.ShloMosaic.Lib.MatmulPlain
public import Idealize.ShloMosaic.Lib.ValueIdx
public import Idealize.ShloMosaic.Lib.Pipeline.ValueKit
public import Idealize.ShloMosaic.Lib.Pipeline.ReadBack

@[expose] public section

noncomputable section

namespace Cert.ReferenceIdeal.RefValue

open Cert.ReferenceIdeal Cert.ReferenceIdeal.Gen Idealize.ShloMosaic.TcCoe Idealize.SL.Sem
open Idealize.ShloMosaic hiding ix1 ix2
open Idealize.ShloMosaic.ValueIdx
open scoped BigOperators

/-- The scaled product of two matrices, entry by entry, over the extended reals. -/
def scaled (X : Vec Ideal ⟨2, ![4096, 4096]⟩ .fp8e5m2) (W : Vec Ideal ⟨2, ![4096, 8192]⟩ .fp8e5m2)
    (sx sw : Vec Ideal ⟨1, ![1]⟩ .f32) : Vec Ideal ⟨2, ![4096, 8192]⟩ .f32 := fun j =>
  (∑ k : Fin 4096, X (ix2 (j 0) k) * W (ix2 k (j 1))) * (sx (ix1 0) * sw (ix1 0))

variable (m : (ℓ : Loc nD τ sig) → Buf (Elt Ideal) ℓ)

/-- A one-element array has one index. -/
theorem one_idx (i j : (⟨1, ![1]⟩ : Shape).Idx) : i = j := by
  have : ∀ a b : Fin 1, a = b := by decide
  funext a
  match a with
  | ⟨0, _⟩ => exact this _ _

/-- The body's stored value, entry by entry. -/
theorem pay_apply (X : Vec Ideal S4096x4096 .fp8e5m2) (W : Vec Ideal S4096x8192 .fp8e5m2) (sx sw : Elt Ideal .f32) (r : Fin 4096) (q : Fin 8192) :
    k0_pay1 X W sx sw (ix2 r q) = (∑ k : Fin 4096, X (ix2 r k) * W (ix2 k q)) * (sx * sw) := by
  unfold k0_pay1
  refine congrArg (· * (sx * sw)) ?_
  refine (Ideal.matmul_plain_apply (M := 4096) (K := 4096) (N := 8192) none _ _ _ r q).trans ?_
  show Ideal.ofBits .f32 0x00000000#32 + _ = _
  rw [Ideal.ofBits_zero_f32, zero_add]
  rfl

/-- The first argument's staged block is the argument. -/
theorem blk0 (c : Dev nD) : iblk m c 0 t0_0 = m ((c : Thread nD τ).loc main_arg0) :=
  funext fun p => congrArg (m ((c : Thread nD τ).loc main_arg0)) (funext fun a => Fin.ext
    ((cfg0.win 0).rect_emb_val_of_index_zero t0_0 a (show (cfg0.win 0).index t0_0 a = 0 from congrFun (by decide +kernel : (cfg0.win 0).index t0_0 = fun _ => 0) a) p))

/-- The second argument's staged block is the argument. -/
theorem blk1 (c : Dev nD) : iblk m c 1 t0_0 = m ((c : Thread nD τ).loc main_arg1) :=
  funext fun p => congrArg (m ((c : Thread nD τ).loc main_arg1)) (funext fun a => Fin.ext
    ((cfg0.win 1).rect_emb_val_of_index_zero t0_0 a (show (cfg0.win 1).index t0_0 a = 0 from congrFun (by decide +kernel : (cfg0.win 1).index t0_0 = fun _ => 0) a) p))

/-- The first scalar's staged block is the argument. -/
theorem blk2 (c : Dev nD) : iblk m c 2 t0_0 = m ((c : Thread nD τ).loc main_arg2) :=
  funext fun p => congrArg (m ((c : Thread nD τ).loc main_arg2)) (funext fun a => Fin.ext
    ((cfg0.win 2).rect_emb_val_of_index_zero t0_0 a (show (cfg0.win 2).index t0_0 a = 0 from congrFun (by decide +kernel : (cfg0.win 2).index t0_0 = fun _ => 0) a) p))

/-- The second scalar's staged block is the argument. -/
theorem blk3 (c : Dev nD) : iblk m c 3 t0_0 = m ((c : Thread nD τ).loc main_arg3) :=
  funext fun p => congrArg (m ((c : Thread nD τ).loc main_arg3)) (funext fun a => Fin.ext
    ((cfg0.win 3).rect_emb_val_of_index_zero t0_0 a (show (cfg0.win 3).index t0_0 a = 0 from congrFun (by decide +kernel : (cfg0.win 3).index t0_0 = fun _ => 0) a) p))

/-- The result array after the run. -/
theorem out_eq (c : Dev nD) : (dats m 0 c).arrAt 4 cfg0.N
    = scaled (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  frame_out
  simp only [read_unread_whole]
  rw [blk0, blk1, blk2, blk3]
  obtain ⟨r, q, rfl⟩ : ∃ (r : Fin 4096) (q : Fin 8192), j = ix2 r q := ⟨j 0, j 1, ValueIdx.eq_ix2 j⟩
  rw [pay_apply]
  exact congrArg₂ (· * ·) rfl (congrArg₂ (· * ·) (congrArg _ (one_idx _ _)) (congrArg _ (one_idx _ _)))

end Cert.ReferenceIdeal.RefValue

end
-- ==== Proof.Value.lean ====
/-
What the kernel leaves, over the extended reals: on every device, its columns of the scaled product of the two
matrices whose rows and columns the devices hold.
-/
module

public import proofs.«01_k».proof.Defs
public import proofs.«01_k».proof.Proof.Launch
public import proofs.«01_k».proof.Proof.RefValue
public import Idealize.ShloMosaic.Lib.MatmulPlain
public import Idealize.ShloMosaic.Lib.ValueIdx
public import Idealize.ShloMosaic.Lib.Layout
public import Idealize.ShloMosaic.Lib.Pipeline.ValueKit

@[expose] public section

noncomputable section

namespace Cert.KernelIdeal.RingProof

open Cert.KernelIdeal Cert.KernelIdeal.Gen
open Idealize.ShloMosaic hiding ix1 ix2
open Idealize.ShloMosaic.TcCoe
open Idealize.SL.Sem
open Idealize.ShloMosaic.ValueIdx
open Cert.ReferenceIdeal.RefValue (scaled one_idx)
open scoped BigOperators

/-! ## The staged blocks are the arguments -/

section Staged

variable {F : FTy → Type} [FloatOps F]
variable (m : (ℓ : Loc nD τ sig) → Buf (Elt F) ℓ)

/-- The staged rows are device `c`'s first argument. -/
theorem xC_eq (c : Dev nD) : xC m c = m ((c : Thread nD τ).loc main_arg0) := by
  refine Eq.trans ?_ (V_main_arg0 m c)
  exact funext fun p => congrArg (V m c main_arg0) (funext fun a => Fin.ext
    ((cfg0.win 0).rect_emb_val_of_index_zero t0_0 a (show (cfg0.win 0).index t0_0 a = 0 from congrFun (by decide +kernel : (cfg0.win 0).index t0_0 = fun _ => 0) a) p))

/-- The staged columns are device `c`'s second argument. -/
theorem wC_eq (c : Dev nD) : wC m c = m ((c : Thread nD τ).loc main_arg1) := by
  refine Eq.trans ?_ (V_main_arg1 m c)
  exact funext fun p => congrArg (V m c main_arg1) (funext fun a => Fin.ext
    ((cfg0.win 1).rect_emb_val_of_index_zero t0_0 a (show (cfg0.win 1).index t0_0 a = 0 from congrFun (by decide +kernel : (cfg0.win 1).index t0_0 = fun _ => 0) a) p))

/-- The first staged scalar is device `c`'s third argument. -/
theorem sxC_eq (c : Dev nD) : sxC m c = m ((c : Thread nD τ).loc main_arg2) := by
  refine Eq.trans ?_ (V_main_arg2 m c)
  exact funext fun p => congrArg (V m c main_arg2) (funext fun a => Fin.ext
    ((cfg0.win 2).rect_emb_val_of_index_zero t0_0 a (show (cfg0.win 2).index t0_0 a = 0 from congrFun (by decide +kernel : (cfg0.win 2).index t0_0 = fun _ => 0) a) p))

/-- The second staged scalar is device `c`'s fourth argument. -/
theorem swC_eq (c : Dev nD) : swC m c = m ((c : Thread nD τ).loc main_arg3) := by
  refine Eq.trans ?_ (V_main_arg3 m c)
  exact funext fun p => congrArg (V m c main_arg3) (funext fun a => Fin.ext
    ((cfg0.win 3).rect_emb_val_of_index_zero t0_0 a (show (cfg0.win 3).index t0_0 a = 0 from congrFun (by decide +kernel : (cfg0.win 3).index t0_0 = fun _ => 0) a) p))

/-- The weights' copy holds the second argument. -/
theorem wqC_eq (c : Dev nD) : wqC m c = m ((c : Thread nD τ).loc main_arg1) := by
  unfold wqC k0_pay14
  dsimp only
  rw [shapeCast_self, shapeCast_self, wC_eq]
  funext p
  exact congrArg (m ((c : Thread nD τ).loc main_arg1)) (funext fun a => Fin.ext (by
    match a with
    | ⟨0, _⟩ => exact (show 0 + 1 * (p 0).val = (p 0).val by omega)
    | ⟨1, _⟩ => exact (show 0 + 1 * (p 1).val = (p 1).val by omega)))

/-- The scale is the product of the two scalars. -/
theorem scaleC_eq (c : Dev nD) : scaleC m c
    = Scalar.mulf (show F .f32 from m ((c : Thread nD τ).loc main_arg2) (ix1 0)) (show F .f32 from m ((c : Thread nD τ).loc main_arg3) (ix1 0)) := by
  unfold scaleC k0_pay13 sx1 sw1
  rw [sxC_eq, swC_eq]
  exact congrArg₂ Scalar.mulf (congrArg (m ((c : Thread nD τ).loc main_arg2)) (one_idx _ _)) (congrArg (m ((c : Thread nD τ).loc main_arg3)) (one_idx _ _))

/-- Row `r` of sub-block `s` of device `o` is row `64 s + r` of the device's first argument. -/
theorem xB_apply (o : Dev nD) {s : ℕ} (hs : s < 4) (r : Fin 64) (k : Fin 4096) :
    xB m o s (ix2 r k) = m ((o : Thread nD τ).loc main_arg0) (ix2 (⟨64 * s + r.val, by have := r.isLt; omega⟩ : Fin 256) k) := by
  unfold xB
  rw [xC_eq]
  exact congrArg (m ((o : Thread nD τ).loc main_arg0)) (funext fun a => Fin.ext (by
    match a with
    | ⟨0, _⟩ => exact (show 64 * (s % 4) + 1 * r.val = 64 * s + r.val by rw [Nat.mod_eq_of_lt hs]; omega)
    | ⟨1, _⟩ => exact (show 0 + 1 * k.val = k.val by omega)))

/-- The result array after the run. -/
theorem arr_eq (c : Dev nD) : (pdats m 0 c).arrAt (6 : Fin 7) cfg0.N = outG m c := by
  refine (dats m 0 c).arrAt_eq_of_after_last 6 t0_0 (by decide +kernel) _ fun j => ?_
  rfl

end Staged

/-! ## Over the extended reals -/

variable (m : (ℓ : Loc nD τ sig) → Buf (Elt Ideal) ℓ)

/-- One sub-block of the result, entry by entry: a row of device `o`'s rows times a column of device `c`'s columns, scaled. -/
theorem outB_apply (c o : Dev nD) {s : ℕ} (hs : s < 4) (r : Fin 64) (q : Fin 512) :
    outB m c o s (ix2 r q) = ((∑ k : Fin 4096, (show EReal from m ((o : Thread nD τ).loc main_arg0) (ix2 (⟨64 * s + r.val, by have := r.isLt; omega⟩ : Fin 256) k))
        * (show EReal from m ((c : Thread nD τ).loc main_arg1) (ix2 k q)))
      * ((show EReal from m ((c : Thread nD τ).loc main_arg2) (ix1 0)) * (show EReal from m ((c : Thread nD τ).loc main_arg3) (ix1 0))) : EReal) := by
  unfold outB k0_pay16
  refine congrArg₂ (fun a b : EReal => a * b) ?_ (scaleC_eq m c)
  refine (Ideal.matmul_plain_apply (M := 64) (K := 4096) (N := 512) none _ _ _ r q).trans ?_
  show Ideal.ofBits .f32 0x00000000#32 + _ = _
  rw [Ideal.ofBits_zero_f32, zero_add]
  refine Finset.sum_congr rfl fun k _ => congrArg₂ (fun a b : EReal => a * b) ?_ (congrFun (wqC_eq m c) (ix2 k q))
  unfold yB k0_pay2 k0_pay1
  dsimp only
  rw [shapeCast_shapeCast, shapeCast_self]
  exact xB_apply m o hs r k

/-- When the devices hold the rows of `X` and the columns of `W`, each ends holding its columns of the scaled product. -/
theorem out_block (X : Vec Ideal ⟨2, ![4096, 4096]⟩ .fp8e5m2) (W : Vec Ideal ⟨2, ![4096, 8192]⟩ .fp8e5m2) (sx sw : Vec Ideal ⟨1, ![1]⟩ .f32)
    (hX : ∀ c : Dev nD, m ((c : Thread nD τ).loc main_arg0) = Layout.block ⟨2, ![256, 4096]⟩ ⟨2, ![4096, 4096]⟩ 0 16 c X)
    (hW : ∀ c : Dev nD, m ((c : Thread nD τ).loc main_arg1) = Layout.block ⟨2, ![4096, 512]⟩ ⟨2, ![4096, 8192]⟩ 1 16 c W)
    (hsx : ∀ c : Dev nD, m ((c : Thread nD τ).loc main_arg2) = sx) (hsw : ∀ c : Dev nD, m ((c : Thread nD τ).loc main_arg3) = sw) (c : Dev nD) :
    (pdats m 0 c).arrAt (6 : Fin 7) cfg0.N = Layout.block ⟨2, ![4096, 512]⟩ ⟨2, ![4096, 8192]⟩ 1 16 c (scaled X W sx sw) := by
  rw [arr_eq]
  funext p
  have hp : (p 0).val < 4096 := (p 0).isLt
  have hs : (p 0).val / 64 % 4 < 4 := Nat.mod_lt _ (by decide)
  have ho : ((Fin.ofNat 16 ((p 0).val / 256) : Fin 16)).val = (p 0).val / 256 := Nat.mod_eq_of_lt (by omega)
  have hr : ((Fin.ofNat 64 ((p 0).val % 64) : Fin 64)).val = (p 0).val % 64 := Nat.mod_eq_of_lt (by omega)
  unfold outG
  have e : (Idealize.ShloMosaic.ix2 (Fin.ofNat 64 ((p 0).val % 64)) (p 1) : S64x512.Idx) = ix2 (Fin.ofNat 64 ((p 0).val % 64)) (p 1) := by
    funext a
    match a with
    | ⟨0, _⟩ => rfl
    | ⟨1, _⟩ => rfl
  rw [e]
  refine (outB_apply m c _ hs (Fin.ofNat 64 ((p 0).val % 64)) (p 1)).trans ?_
  rw [hX, hW, hsx, hsw]
  refine congrArg₂ (fun a b : EReal => a * b) (Finset.sum_congr rfl fun k _ => congrArg₂ (fun a b : EReal => a * b) ?_ ?_) rfl
  · exact congrArg X (funext fun a => Fin.ext (by
      match a with
      | ⟨0, _⟩ => exact (show (Fin.ofNat 16 ((p 0).val / 256) : Fin 16).val * 256 + (64 * ((p 0).val / 64 % 4) + (Fin.ofNat 64 ((p 0).val % 64) : Fin 64).val) = (p 0).val by
          rw [ho, hr]; omega)
      | ⟨1, _⟩ => rfl))
  · exact congrArg W (funext fun a => Fin.ext (by
      match a with
      | ⟨0, _⟩ => rfl
      | ⟨1, _⟩ => rfl))

end Cert.KernelIdeal.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem Cert.Kernel

/-- What is claimed of the kernel as lowered, said of the idealized kernel's text at words: the two texts are one. -/
def SameText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The claim about the kernel as lowered is that statement. -/
theorem same_text : Cert.quiescent_Kernel (hKernel := Cert.Kernel.Gen.facts) = SameText := by
  sl_kernel_rfl

/-- From any launch the kernel as lowered runs to the end without a fault, its arguments unchanged and every semaphore at zero. -/
theorem kernel_frame : Cert.quiescent_Kernel (hKernel := Cert.Kernel.Gen.facts) :=
  same_text.mpr fun m g _ =>
    (θ_run Cert.KernelIdeal.defs _ _).mono (fun r h => ⟨fun c => (h.1 c).1, h.2⟩) (Cert.KernelIdeal.RingProof.run_main (F := Bits) m g)

/-- The same of the idealized kernel. -/
theorem kernelIdeal_frame : Cert.quiescent_KernelIdeal (hKernelIdeal := Cert.KernelIdeal.Gen.facts) := fun m g _ =>
  (θ_run Cert.KernelIdeal.defs _ _).mono (fun r h => ⟨fun c => (h.1 c).1, h.2⟩) (Cert.KernelIdeal.RingProof.run_main (F := Ideal) m g)

/-- Over the extended reals each device ends with its columns of what the reference computes. -/
theorem algebraic : Cert.algebraic_KernelIdeal_ReferenceIdeal (hKernelIdeal := Cert.KernelIdeal.Gen.facts) (hReferenceIdeal := Cert.ReferenceIdeal.Gen.facts) :=
  fun m g m' g' _ hagree => ⟨_,
    (θ_run Cert.KernelIdeal.defs _ _).mono
      (fun r h c => ⟨(h.1 c).2.trans (Cert.KernelIdeal.RingProof.out_block m _ _ _ _ (fun c => (hagree c).1) (fun c => (hagree c).2.1)
        (fun c => (hagree c).2.2.1) (fun c => (hagree c).2.2.2) c), (h.1 c).1⟩)
      (Cert.KernelIdeal.RingProof.run_main (F := Ideal) m g),
    (θ_run Cert.ReferenceIdeal.defs _ _).mono
      (fun r h => ⟨(h 0).1.trans (Cert.ReferenceIdeal.RefValue.out_eq m' 0), (h 0).2⟩)
      (Cert.ReferenceIdeal.Value.run_blocks (F := Ideal) m' g')⟩

/-- Everything claimed. -/
theorem claim : Cert.Claim := ⟨Cert.Kernel.Gen.facts, Cert.KernelIdeal.Gen.facts, Cert.ReferenceIdeal.Gen.facts,
  kernel_frame, kernelIdeal_frame, fun m g _ => Cert.ReferenceIdeal.Gen.frame m g, trivial, algebraic⟩

end Cert.Proof

end
